-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_bounded [hPre_bounded : Cert.Pre_bounded.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_bounded.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))).1 = (fun _ => 1#1)
    ∧ (Cert.Pre_bounded.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))).2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_bounded [hPre_bounded : Cert.Pre_bounded.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_bounded.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))).1 = (fun _ => 1#1)
    ∧ (Cert.Pre_bounded.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Kernel3Ideal_pre_bounded [hKernel3Ideal : Cert.Kernel3Ideal.Facts] [hPre_bounded : Cert.Pre_bounded.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_bounded m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Reference3Ideal_pre_bounded [hReference3Ideal : Cert.Reference3Ideal.Facts] [hPre_bounded : Cert.Pre_bounded.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_bounded m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)) →
    ∃ (v0 : (c : Dev Cert.Kernel2Ideal.nD) → Buf (Elt Ideal) ((c.tc : Thread Cert.Kernel2Ideal.nD Cert.Kernel2Ideal.τ).loc Cert.Kernel2Ideal.main_v18)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v18) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v10) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0))

def preserves_Kernel3_Kernel3Ideal : Prop :=
  True

def algebraic_Kernel3Ideal_Reference3Ideal_pre_bounded [hKernel3Ideal : Cert.Kernel3Ideal.Facts] [hReference3Ideal : Cert.Reference3Ideal.Facts] [hPre_bounded : Cert.Pre_bounded.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_bounded m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v29)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v29) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v31) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hPre_bounded : Cert.Pre_bounded.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_bounded (hKernel3Ideal := hKernel3Ideal) (hPre_bounded := hPre_bounded)
    ∧ quiescent_Reference3Ideal (hReference3Ideal := hReference3Ideal)
    ∧ quiescent_Reference3Ideal_pre_bounded (hReference3Ideal := hReference3Ideal) (hPre_bounded := hPre_bounded)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_bounded (hKernel3Ideal := hKernel3Ideal) (hReference3Ideal := hReference3Ideal) (hPre_bounded := hPre_bounded)
-- ==== Pre_bounded.lean ====
abbrev S16x4096x3 : Shape := ⟨3, ![16, 4096, 3]⟩
abbrev S16x4096x64 : Shape := ⟨3, ![16, 4096, 64]⟩
abbrev S16x1024x3 : Shape := ⟨3, ![16, 1024, 3]⟩
abbrev S_ : Shape := ⟨0, ![]⟩

class Facts : Prop where
  bcast_S_S16x4096x3 : S_.BroadcastsInDim S16x4096x3 (![] : Fin 0 → Fin S16x4096x3.rank)
  bcast_S_S16x1024x3 : S_.BroadcastsInDim S16x1024x3 (![] : Fin 0 → Fin S16x1024x3.rank)

variable [Facts]

def fn {F : FTy → Type} [FloatOps F] (main_arg0 : FVec F S16x4096x3 .f32) (main_arg1 : FVec F S16x4096x64 .f32) (main_arg2 : FVec F S16x1024x3 .f32) : IVec S16x4096x3 1 × IVec S16x1024x3 1 :=
  let main_v0 : FVec F S16x4096x3 .f32 := Host.absf main_arg0
  let main_cst : FVec F S_ .f32 := constant S_ .f32 0x5D5E0B6B#32
  let main_v1 : FVec F S16x4096x3 .f32 := broadcastInDim S16x4096x3 ![] bcast_S_S16x4096x3 main_cst
  let main_v2 : IVec S16x4096x3 1 := cmpf .olt main_v0 main_v1
  let main_v3 : FVec F S16x1024x3 .f32 := Host.absf main_arg2
  let main_cst_0 : FVec F S_ .f32 := constant S_ .f32 0x5D5E0B6B#32
  let main_v4 : FVec F S16x1024x3 .f32 := broadcastInDim S16x1024x3 ![] bcast_S_S16x1024x3 main_cst_0
  let main_v5 : IVec S16x1024x3 1 := cmpf .olt main_v3 main_v4
  (main_v2, main_v5)
-- ==== Pre_finite.lean ====
abbrev S16x1024x32x67 : Shape := ⟨4, ![16, 1024, 32, 67]⟩
abbrev S64x67 : Shape := ⟨2, ![64, 67]⟩
abbrev S64 : Shape := ⟨1, ![64]⟩
abbrev S64x64 : Shape := ⟨2, ![64, 64]⟩
abbrev S128x64 : Shape := ⟨2, ![128, 64]⟩
abbrev S128 : Shape := ⟨1, ![128]⟩
abbrev S_ : Shape := ⟨0, ![]⟩

class Facts : Prop where
  bcast_S_S16x1024x32x67 : S_.BroadcastsInDim S16x1024x32x67 (![] : Fin 0 → Fin S16x1024x32x67.rank)
  bcast_S_S64x67 : S_.BroadcastsInDim S64x67 (![] : Fin 0 → Fin S64x67.rank)
  bcast_S_S64 : S_.BroadcastsInDim S64 (![] : Fin 0 → Fin S64.rank)
  bcast_S_S64x64 : S_.BroadcastsInDim S64x64 (![] : Fin 0 → Fin S64x64.rank)
  bcast_S_S128x64 : S_.BroadcastsInDim S128x64 (![] : Fin 0 → Fin S128x64.rank)
  bcast_S_S128 : S_.BroadcastsInDim S128 (![] : Fin 0 → Fin S128.rank)

variable [Facts]

def fn_part1 {F : FTy → Type} [FloatOps F] (main_arg6 : FVec F S64 .f32) (main_arg7 : FVec F S64 .f32) (main_arg8 : FVec F S64 .f32) (main_arg9 : FVec F S128x64 .f32) (main_arg10 : FVec F S128 .f32) (main_v2 : IVec S16x1024x32x67 1) (main_v5 : IVec S64x67 1) (main_v8 : IVec S64 1) (main_v11 : IVec S64 1) (main_v14 : IVec S64 1) (main_v17 : IVec S64x64 1) : IVec S16x1024x32x67 1 × IVec S64x67 1 × IVec S64 1 × IVec S64 1 × IVec S64 1 × IVec S64x64 1 × IVec S64 1 × IVec S64 1 × IVec S64 1 × IVec S128x64 1 × IVec S128 1 :=
  let main_v18 : FVec F S64 .f32 := Host.absf main_arg6
  let main_cst_5 : FVec F S_ .f32 := constant S_ .f32 0x7F800000#32
  let main_v19 : FVec F S64 .f32 := broadcastInDim S64 ![] bcast_S_S64 main_cst_5
  let main_v20 : IVec S64 1 := cmpf .olt main_v18 main_v19
  let main_v21 : FVec F S64 .f32 := Host.absf main_arg7
  let main_cst_6 : FVec F S_ .f32 := constant S_ .f32 0x7F800000#32
  let main_v22 : FVec F S64 .f32 := broadcastInDim S64 ![] bcast_S_S64 main_cst_6
  let main_v23 : IVec S64 1 := cmpf .olt main_v21 main_v22
  let main_v24 : FVec F S64 .f32 := Host.absf main_arg8
  let main_cst_7 : FVec F S_ .f32 := constant S_ .f32 0x7F800000#32
  let main_v25 : FVec F S64 .f32 := broadcastInDim S64 ![] bcast_S_S64 main_cst_7
  let main_v26 : IVec S64 1 := cmpf .olt main_v24 main_v25
  let main_v27 : FVec F S128x64 .f32 := Host.absf main_arg9
  let main_cst_8 : FVec F S_ .f32 := constant S_ .f32 0x7F800000#32
  let main_v28 : FVec F S128x64 .f32 := broadcastInDim S128x64 ![] bcast_S_S128x64 main_cst_8
  let main_v29 : IVec S128x64 1 := cmpf .olt main_v27 main_v28
  let main_v30 : FVec F S128 .f32 := Host.absf main_arg10
  let main_cst_9 : FVec F S_ .f32 := constant S_ .f32 0x7F800000#32
  let main_v31 : FVec F S128 .f32 := broadcastInDim S128 ![] bcast_S_S128 main_cst_9
  let main_v32 : IVec S128 1 := cmpf .olt main_v30 main_v31
  (main_v2, main_v5, main_v8, main_v11, main_v14, main_v17, main_v20, main_v23, main_v26, main_v29, main_v32)

def fn {F : FTy → Type} [FloatOps F] (main_arg0 : FVec F S16x1024x32x67 .f32) (main_arg1 : FVec F S64x67 .f32) (main_arg2 : FVec F S64 .f32) (main_arg3 : FVec F S64 .f32) (main_arg4 : FVec F S64 .f32) (main_arg5 : FVec F S64x64 .f32) (main_arg6 : FVec F S64 .f32) (main_arg7 : FVec F S64 .f32) (main_arg8 : FVec F S64 .f32) (main_arg9 : FVec F S128x64 .f32) (main_arg10 : FVec F S128 .f32) (main_arg11 : FVec F S128 .f32) (main_arg12 : FVec F S128 .f32) : IVec S16x1024x32x67 1 × IVec S64x67 1 × IVec S64 1 × IVec S64 1 × IVec S64 1 × IVec S64x64 1 × IVec S64 1 × IVec S64 1 × IVec S64 1 × IVec S128x64 1 × IVec S128 1 :=
  let main_v0 : FVec F S16x1024x32x67 .f32 := Host.absf main_arg0
  let main_cst : FVec F S_ .f32 := constant S_ .f32 0x7F800000#32
  let main_v1 : FVec F S16x1024x32x67 .f32 := broadcastInDim S16x1024x32x67 ![] bcast_S_S16x1024x32x67 main_cst
  let main_v2 : IVec S16x1024x32x67 1 := cmpf .olt main_v0 main_v1
  let main_v3 : FVec F S64x67 .f32 := Host.absf main_arg1
  let main_cst_0 : FVec F S_ .f32 := constant S_ .f32 0x7F800000#32
  let main_v4 : FVec F S64x67 .f32 := broadcastInDim S64x67 ![] bcast_S_S64x67 main_cst_0
  let main_v5 : IVec S64x67 1 := cmpf .olt main_v3 main_v4
  let main_v6 : FVec F S64 .f32 := Host.absf main_arg2
  let main_cst_1 : FVec F S_ .f32 := constant S_ .f32 0x7F800000#32
  let main_v7 : FVec F S64 .f32 := broadcastInDim S64 ![] bcast_S_S64 main_cst_1
  let main_v8 : IVec S64 1 := cmpf .olt main_v6 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_v12 : FVec F S64 .f32 := Host.absf main_arg4
  let main_cst_3 : FVec F S_ .f32 := constant S_ .f32 0x7F800000#32
  let main_v13 : FVec F S64 .f32 := broadcastInDim S64 ![] bcast_S_S64 main_cst_3
  let main_v14 : IVec S64 1 := cmpf .olt main_v12 main_v13
  let main_v15 : FVec F S64x64 .f32 := Host.absf main_arg5
  let main_cst_4 : FVec F S_ .f32 := constant S_ .f32 0x7F800000#32
  let main_v16 : FVec F S64x64 .f32 := broadcastInDim S64x64 ![] bcast_S_S64x64 main_cst_4
  let main_v17 : IVec S64x64 1 := cmpf .olt main_v15 main_v16
  fn_part1 (F := F) main_arg6 main_arg7 main_arg8 main_arg9 main_arg10 main_v2 main_v5 main_v8 main_v11 main_v14 main_v17
-- ==== Kernel.lean ====
abbrev S16x1024x32x67 : Shape := ⟨4, ![16, 1024, 32, 67]⟩
abbrev S64x67 : Shape := ⟨2, ![64, 67]⟩
abbrev S64 : Shape := ⟨1, ![64]⟩
abbrev S64x64 : Shape := ⟨2, ![64, 64]⟩
abbrev S128x64 : Shape := ⟨2, ![128, 64]⟩
abbrev S128 : Shape := ⟨1, ![128]⟩
abbrev S524288x67 : Shape := ⟨2, ![524288, 67]⟩
abbrev S67x64 : Shape := ⟨2, ![67, 64]⟩
abbrev S1x64 : Shape := ⟨2, ![1, 64]⟩
abbrev S524288x64 : Shape := ⟨2, ![524288, 64]⟩
abbrev S2x64 : Shape := ⟨2, ![2, 64]⟩
abbrev S4096x67 : Shape := ⟨2, ![4096, 67]⟩
abbrev S4096x64 : Shape := ⟨2, ![4096, 64]⟩
abbrev S64x128 : Shape := ⟨2, ![64, 128]⟩
abbrev S1x128 : Shape := ⟨2, ![1, 128]⟩
abbrev S16384x128 : Shape := ⟨2, ![16384, 128]⟩
abbrev S2x128 : Shape := ⟨2, ![2, 128]⟩
abbrev S128x128 : Shape := ⟨2, ![128, 128]⟩
abbrev S4096x128 : Shape := ⟨2, ![4096, 128]⟩
abbrev S128x32x128 : Shape := ⟨3, ![128, 32, 128]⟩
abbrev S2048x128 : Shape := ⟨2, ![2048, 128]⟩
abbrev S16x1024x128 : Shape := ⟨3, ![16, 1024, 128]⟩

abbrev nBuf : Space → Nat
  | .hbm => 35
  | .vmem => 38
  | .smem => 0
  | _ => 0

abbrev bufTy : (tb : Table) → Fin (tcTables nBuf tb) → BufTy
  | .hbm, ⟨0, _⟩ => ⟨S16x1024x32x67, .f32⟩
  | .hbm, ⟨1, _⟩ => ⟨S64x67, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S128x64, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S524288x67, .f32⟩
  | .hbm, ⟨14, _⟩ => ⟨S67x64, .f32⟩
  | .hbm, ⟨15, _⟩ => ⟨S1x64, .f32⟩
  | .hbm, ⟨16, _⟩ => ⟨S524288x64, .f32⟩
  | .hbm, ⟨17, _⟩ => ⟨S2x64, .f32⟩
  | .hbm, ⟨18, _⟩ => ⟨S1x64, .f32⟩
  | .hbm, ⟨19, _⟩ => ⟨S1x64, .f32⟩
  | .hbm, ⟨20, _⟩ => ⟨S64x64, .f32⟩
  | .hbm, ⟨21, _⟩ => ⟨S1x64, .f32⟩
  | .hbm, ⟨22, _⟩ => ⟨S524288x64, .f32⟩
  | .hbm, ⟨23, _⟩ => ⟨S2x64, .f32⟩
  | .hbm, ⟨24, _⟩ => ⟨S1x64, .f32⟩
  | .hbm, ⟨25, _⟩ => ⟨S1x64, .f32⟩
  | .hbm, ⟨26, _⟩ => ⟨S64x128, .f32⟩
  | .hbm, ⟨27, _⟩ => ⟨S1x128, .f32⟩
  | .hbm, ⟨28, _⟩ => ⟨S16384x128, .f32⟩
  | .hbm, ⟨29, _⟩ => ⟨S16384x128, .f32⟩
  | .hbm, ⟨30, _⟩ => ⟨S2x128, .f32⟩
  | .hbm, ⟨31, _⟩ => ⟨S1x128, .f32⟩
  | .hbm, ⟨32, _⟩ => ⟨S1x128, .f32⟩
  | .hbm, ⟨33, _⟩ => ⟨S16384x128, .f32⟩
  | .hbm, ⟨34, _⟩ => ⟨S16x1024x128, .f32⟩
  | .local _ .vmem, ⟨0, _⟩ => ⟨S4096x67, .f32⟩
  | .local _ .vmem, ⟨1, _⟩ => ⟨S4096x67, .f32⟩
  | .local _ .vmem, ⟨2, _⟩ => ⟨S67x64, .f32⟩
  | .local _ .vmem, ⟨3, _⟩ => ⟨S1x64, .f32⟩
  | .local _ .vmem, ⟨4, _⟩ => ⟨S4096x64, .f32⟩
  | .local _ .vmem, ⟨5, _⟩ => ⟨S4096x64, .f32⟩
  | .local _ .vmem, ⟨6, _⟩ => ⟨S2x64, .f32⟩
  | .local _ .vmem, ⟨7, _⟩ => ⟨S4096x64, .f32⟩
  | .local _ .vmem, ⟨8, _⟩ => ⟨S4096x64, .f32⟩
  | .local _ .vmem, ⟨9, _⟩ => ⟨S2x64, .f32⟩
  | .local _ .vmem, ⟨10, _⟩ => ⟨S1x64, .f32⟩
  | .local _ .vmem, ⟨11, _⟩ => ⟨S1x64, .f32⟩
  | .local _ .vmem, ⟨12, _⟩ => ⟨S64x64, .f32⟩
  | .local _ .vmem, ⟨13, _⟩ => ⟨S1x64, .f32⟩
  | .local _ .vmem, ⟨14, _⟩ => ⟨S4096x64, .f32⟩
  | .local _ .vmem, ⟨15, _⟩ => ⟨S4096x64, .f32⟩
  | .local _ .vmem, ⟨16, _⟩ => ⟨S2x64, .f32⟩
  | .local _ .vmem, ⟨17, _⟩ => ⟨S4096x64, .f32⟩
  | .local _ .vmem, ⟨18, _⟩ => ⟨S4096x64, .f32⟩
  | .local _ .vmem, ⟨19, _⟩ => ⟨S2x64, .f32⟩
  | .local _ .vmem, ⟨20, _⟩ => ⟨S1x64, .f32⟩
  | .local _ .vmem, ⟨21, _⟩ => ⟨S1x64, .f32⟩
  | .local _ .vmem, ⟨22, _⟩ => ⟨S64x128, .f32⟩
  | .local _ .vmem, ⟨23, _⟩ => ⟨S1x128, .f32⟩
  | .local _ .vmem, ⟨24, _⟩ => ⟨S128x128, .f32⟩
  | .local _ .vmem, ⟨25, _⟩ => ⟨S128x128, .f32⟩
  | .local _ .vmem, ⟨26, _⟩ => ⟨S128x128, .f32⟩
  | .local _ .vmem, ⟨27, _⟩ => ⟨S128x128, .f32⟩
  | .local _ .vmem, ⟨28, _⟩ => ⟨S2x128, .f32⟩
  | .local _ .vmem, ⟨29, _⟩ => ⟨S2048x128, .f32⟩
  | .local _ .vmem, ⟨30, _⟩ => ⟨S2048x128, .f32⟩
  | .local _ .vmem, ⟨31, _⟩ => ⟨S2048x128, .f32⟩
  | .local _ .vmem, ⟨32, _⟩ => ⟨S2048x128, .f32⟩
  | .local _ .vmem, ⟨33, _⟩ => ⟨S2x128, .f32⟩
  | .local _ .vmem, ⟨34, _⟩ => ⟨S1x128, .f32⟩
  | .local _ .vmem, ⟨35, _⟩ => ⟨S1x128, .f32⟩
  | .local _ .vmem, ⟨36, _⟩ => ⟨S2048x128, .f32⟩
  | .local _ .vmem, ⟨37, _⟩ => ⟨S2048x128, .f32⟩
  | _, _ => ⟨S16x1024x32x67, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3_0 : Ref sig .tc := ⟨.hbm, 16, rfl⟩
abbrev main_v3_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8_0 : Ref sig .tc := ⟨.hbm, 22, rfl⟩
abbrev main_v8_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13_0 : Ref sig .tc := ⟨.hbm, 28, rfl⟩
abbrev main_v13_1 : Ref sig .tc := ⟨.hbm, 29, rfl⟩
abbrev main_v13_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc1_stg7_0 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg6_1 : Ref sig .tc := ⟨.vmem, 25, rfl⟩
abbrev cc2_stg7_0 : Ref sig .tc := ⟨.vmem, 26, rfl⟩
abbrev cc2_stg7_1 : Ref sig .tc := ⟨.vmem, 27, rfl⟩
abbrev cc2_stg8_0 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg5_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc1_sem7_0 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem6_1 : DmaSem sig := 25
abbrev cc2_sem7_0 : DmaSem sig := 26
abbrev cc2_sem7_1 : DmaSem sig := 27
abbrev cc2_sem8_0 : DmaSem sig := 28
abbrev cc3_sem0_0 : DmaSem sig := 29
abbrev cc3_sem0_1 : DmaSem sig := 30
abbrev cc3_sem1_0 : DmaSem sig := 31
abbrev cc3_sem1_1 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem5_1 : DmaSem sig := 37

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x67 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S67x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4096x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4096x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S2x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![128], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S4096x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S128x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S128x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 1 → Memref sig .tc .vmem S2x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2048x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S2x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2048x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]
-- ==== ReferenceIdeal.lean ====
abbrev S16x1024x32x67 : Shape := ⟨4, ![16, 1024, 32, 67]⟩
abbrev S64x67 : Shape := ⟨2, ![64, 67]⟩
abbrev S64 : Shape := ⟨1, ![64]⟩
abbrev S64x64 : Shape := ⟨2, ![64, 64]⟩
abbrev S128x64 : Shape := ⟨2, ![128, 64]⟩
abbrev S128 : Shape := ⟨1, ![128]⟩
abbrev S16x1024x32x64 : Shape := ⟨4, ![16, 1024, 32, 64]⟩
abbrev S1x1x1x64 : Shape := ⟨4, ![1, 1, 1, 64]⟩
abbrev S_ : Shape := ⟨0, ![]⟩
abbrev S16x1024x32x128 : Shape := ⟨4, ![16, 1024, 32, 128]⟩
abbrev S1x1x1x128 : Shape := ⟨4, ![1, 1, 1, 128]⟩
abbrev S16x1024x128 : Shape := ⟨3, ![16, 1024, 128]⟩

abbrev nBuf : Space → Nat
  | .hbm => 168
  | .vmem => 0
  | .smem => 0
  | _ => 0

abbrev hbmTy0_0 (i : Nat) : BufTy := match i % 128 with
  | 0 => ⟨S16x1024x32x67, .f32⟩
  | 1 => ⟨S64x67, .f32⟩
  | 2 => ⟨S64, .f32⟩
  | 3 => ⟨S64, .f32⟩
  | 4 => ⟨S64, .f32⟩
  | 5 => ⟨S64x64, .f32⟩
  | 6 => ⟨S64, .f32⟩
  | 7 => ⟨S64, .f32⟩
  | 8 => ⟨S64, .f32⟩
  | 9 => ⟨S128x64, .f32⟩
  | 10 => ⟨S128, .f32⟩
  | 11 => ⟨S128, .f32⟩
  | 12 => ⟨S128, .f32⟩
  | 13 => ⟨S16x1024x32x64, .f32⟩
  | 14 => ⟨S1x1x1x64, .f32⟩
  | 15 => ⟨S16x1024x32x64, .f32⟩
  | 16 => ⟨S16x1024x32x64, .f32⟩
  | 17 => ⟨S_, .f32⟩
  | 18 => ⟨S64, .f32⟩
  | 19 => ⟨S1x1x1x64, .f32⟩
  | 20 => ⟨S_, .f32⟩
  | 21 => ⟨S1x1x1x64, .f32⟩
  | 22 => ⟨S1x1x1x64, .f32⟩
  | 23 => ⟨S_, .i32⟩
  | 24 => ⟨S_, .f32⟩
  | 25 => ⟨S64, .f32⟩
  | 26 => ⟨S1x1x1x64, .f32⟩
  | 27 => ⟨S_, .f32⟩
  | 28 => ⟨S1x1x1x64, .f32⟩
  | 29 => ⟨S1x1x1x64, .f32⟩
  | 30 => ⟨S16x1024x32x64, .f32⟩
  | 31 => ⟨S16x1024x32x64, .f32⟩
  | 32 => ⟨S16x1024x32x64, .f32⟩
  | 33 => ⟨S_, .f32⟩
  | 34 => ⟨S_, .f32⟩
  | 35 => ⟨S_, .f32⟩
  | 36 => ⟨S_, .f32⟩
  | 37 => ⟨S64, .f32⟩
  | 38 => ⟨S1x1x1x64, .f32⟩
  | 39 => ⟨S1x1x1x64, .f32⟩
  | 40 => ⟨S1x1x1x64, .f32⟩
  | 41 => ⟨S_, .f32⟩
  | 42 => ⟨S_, .i1⟩
  | 43 => ⟨S_, .f32⟩
  | 44 => ⟨S_, .f32⟩
  | 45 => ⟨S1x1x1x64, .f32⟩
  | 46 => ⟨S1x1x1x64, .f32⟩
  | 47 => ⟨S16x1024x32x64, .f32⟩
  | 48 => ⟨S16x1024x32x64, .f32⟩
  | 49 => ⟨S_, .f32⟩
  | 50 => ⟨S1x1x1x64, .f32⟩
  | 51 => ⟨S1x1x1x64, .f32⟩
  | 52 => ⟨S1x1x1x64, .f32⟩
  | 53 => ⟨S16x1024x32x64, .f32⟩
  | 54 => ⟨S16x1024x32x64, .f32⟩
  | 55 => ⟨S1x1x1x64, .f32⟩
  | 56 => ⟨S16x1024x32x64, .f32⟩
  | 57 => ⟨S16x1024x32x64, .f32⟩
  | 58 => ⟨S1x1x1x64, .f32⟩
  | 59 => ⟨S16x1024x32x64, .f32⟩
  | 60 => ⟨S16x1024x32x64, .f32⟩
  | 61 => ⟨S_, .f32⟩
  | 62 => ⟨S16x1024x32x64, .f32⟩
  | 63 => ⟨S16x1024x32x64, .f32⟩
  | 64 => ⟨S16x1024x32x64, .f32⟩
  | 65 => ⟨S1x1x1x64, .f32⟩
  | 66 => ⟨S16x1024x32x64, .f32⟩
  | 67 => ⟨S16x1024x32x64, .f32⟩
  | 68 => ⟨S_, .f32⟩
  | 69 => ⟨S64, .f32⟩
  | 70 => ⟨S1x1x1x64, .f32⟩
  | 71 => ⟨S_, .f32⟩
  | 72 => ⟨S1x1x1x64, .f32⟩
  | 73 => ⟨S1x1x1x64, .f32⟩
  | 74 => ⟨S_, .i32⟩
  | 75 => ⟨S_, .f32⟩
  | 76 => ⟨S64, .f32⟩
  | 77 => ⟨S1x1x1x64, .f32⟩
  | 78 => ⟨S_, .f32⟩
  | 79 => ⟨S1x1x1x64, .f32⟩
  | 80 => ⟨S1x1x1x64, .f32⟩
  | 81 => ⟨S16x1024x32x64, .f32⟩
  | 82 => ⟨S16x1024x32x64, .f32⟩
  | 83 => ⟨S16x1024x32x64, .f32⟩
  | 84 => ⟨S_, .f32⟩
  | 85 => ⟨S_, .f32⟩
  | 86 => ⟨S_, .f32⟩
  | 87 => ⟨S_, .f32⟩
  | 88 => ⟨S64, .f32⟩
  | 89 => ⟨S1x1x1x64, .f32⟩
  | 90 => ⟨S1x1x1x64, .f32⟩
  | 91 => ⟨S1x1x1x64, .f32⟩
  | 92 => ⟨S_, .f32⟩
  | 93 => ⟨S_, .i1⟩
  | 94 => ⟨S_, .f32⟩
  | 95 => ⟨S_, .f32⟩
  | 96 => ⟨S1x1x1x64, .f32⟩
  | 97 => ⟨S1x1x1x64, .f32⟩
  | 98 => ⟨S16x1024x32x64, .f32⟩
  | 99 => ⟨S16x1024x32x64, .f32⟩
  | 100 => ⟨S_, .f32⟩
  | 101 => ⟨S1x1x1x64, .f32⟩
  | 102 => ⟨S1x1x1x64, .f32⟩
  | 103 => ⟨S1x1x1x64, .f32⟩
  | 104 => ⟨S16x1024x32x64, .f32⟩
  | 105 => ⟨S16x1024x32x64, .f32⟩
  | 106 => ⟨S1x1x1x64, .f32⟩
  | 107 => ⟨S16x1024x32x64, .f32⟩
  | 108 => ⟨S16x1024x32x64, .f32⟩
  | 109 => ⟨S1x1x1x64, .f32⟩
  | 110 => ⟨S16x1024x32x64, .f32⟩
  | 111 => ⟨S16x1024x32x64, .f32⟩
  | 112 => ⟨S_, .f32⟩
  | 113 => ⟨S16x1024x32x64, .f32⟩
  | 114 => ⟨S16x1024x32x64, .f32⟩
  | 115 => ⟨S16x1024x32x128, .f32⟩
  | 116 => ⟨S1x1x1x128, .f32⟩
  | 117 => ⟨S16x1024x32x128, .f32⟩
  | 118 => ⟨S16x1024x32x128, .f32⟩
  | 119 => ⟨S_, .f32⟩
  | 120 => ⟨S128, .f32⟩
  | 121 => ⟨S1x1x1x128, .f32⟩
  | 122 => ⟨S_, .f32⟩
  | 123 => ⟨S1x1x1x128, .f32⟩
  | 124 => ⟨S1x1x1x128, .f32⟩
  | 125 => ⟨S_, .i32⟩
  | 126 => ⟨S_, .f32⟩
  | 127 => ⟨S128, .f32⟩
  | _ => ⟨S16x1024x32x67, .f32⟩

abbrev hbmTy0_1 (i : Nat) : BufTy := match i % 128 with
  | 0 => ⟨S1x1x1x128, .f32⟩
  | 1 => ⟨S_, .f32⟩
  | 2 => ⟨S1x1x1x128, .f32⟩
  | 3 => ⟨S1x1x1x128, .f32⟩
  | 4 => ⟨S16x1024x32x128, .f32⟩
  | 5 => ⟨S16x1024x32x128, .f32⟩
  | 6 => ⟨S16x1024x32x128, .f32⟩
  | 7 => ⟨S_, .f32⟩
  | 8 => ⟨S_, .f32⟩
  | 9 => ⟨S_, .f32⟩
  | 10 => ⟨S_, .f32⟩
  | 11 => ⟨S128, .f32⟩
  | 12 => ⟨S1x1x1x128, .f32⟩
  | 13 => ⟨S1x1x1x128, .f32⟩
  | 14 => ⟨S1x1x1x128, .f32⟩
  | 15 => ⟨S_, .f32⟩
  | 16 => ⟨S_, .i1⟩
  | 17 => ⟨S_, .f32⟩
  | 18 => ⟨S_, .f32⟩
  | 19 => ⟨S1x1x1x128, .f32⟩
  | 20 => ⟨S1x1x1x128, .f32⟩
  | 21 => ⟨S16x1024x32x128, .f32⟩
  | 22 => ⟨S16x1024x32x128, .f32⟩
  | 23 => ⟨S_, .f32⟩
  | 24 => ⟨S1x1x1x128, .f32⟩
  | 25 => ⟨S1x1x1x128, .f32⟩
  | 26 => ⟨S1x1x1x128, .f32⟩
  | 27 => ⟨S16x1024x32x128, .f32⟩
  | 28 => ⟨S16x1024x32x128, .f32⟩
  | 29 => ⟨S1x1x1x128, .f32⟩
  | 30 => ⟨S16x1024x32x128, .f32⟩
  | 31 => ⟨S16x1024x32x128, .f32⟩
  | 32 => ⟨S1x1x1x128, .f32⟩
  | 33 => ⟨S16x1024x32x128, .f32⟩
  | 34 => ⟨S16x1024x32x128, .f32⟩
  | 35 => ⟨S_, .f32⟩
  | 36 => ⟨S16x1024x32x128, .f32⟩
  | 37 => ⟨S16x1024x32x128, .f32⟩
  | 38 => ⟨S_, .f32⟩
  | 39 => ⟨S16x1024x128, .f32⟩
  | _ => ⟨S16x1024x32x67, .f32⟩

abbrev hbmTy (i : Nat) : BufTy := match i / 128 with
  | 0 => hbmTy0_0 i
  | 1 => hbmTy0_1 i
  | _ => ⟨S16x1024x32x67, .f32⟩

abbrev bufTy : (tb : Table) → Fin (tcTables nBuf tb) → BufTy
  | .hbm, ⟨i, _⟩ => hbmTy i
  | _, _ => ⟨S16x1024x32x67, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_c : Ref sig .tc := ⟨.hbm, 23, rfl⟩
abbrev main_call0_cst : Ref sig .tc := ⟨.hbm, 24, rfl⟩
abbrev main_call0_v0 : Ref sig .tc := ⟨.hbm, 25, rfl⟩
abbrev main_call0_v1 : Ref sig .tc := ⟨.hbm, 26, rfl⟩
abbrev main_call0_cst_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_cst_1 : Ref sig .tc := ⟨.hbm, 34, rfl⟩
abbrev main_call0_v8 : Ref sig .tc := ⟨.hbm, 35, rfl⟩
abbrev main_call0_cst_2 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_v12 : Ref sig .tc := ⟨.hbm, 40, rfl⟩
abbrev main_call0_cst_3 : Ref sig .tc := ⟨.hbm, 41, rfl⟩
abbrev main_call0_v13 : Ref sig .tc := ⟨.hbm, 42, rfl⟩
abbrev main_call0_cst_4 : Ref sig .tc := ⟨.hbm, 43, rfl⟩
abbrev main_call0_call0_v0 : Ref sig .tc := ⟨.hbm, 44, rfl⟩
abbrev main_call0_call0_v1 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_cst_1 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_call1_cst : Ref sig .tc := ⟨.hbm, 61, rfl⟩
abbrev main_call1_v0 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_cst_2 : Ref sig .tc := ⟨.hbm, 68, rfl⟩
abbrev main_v27 : Ref sig .tc := ⟨.hbm, 69, rfl⟩
abbrev main_v28 : Ref sig .tc := ⟨.hbm, 70, rfl⟩
abbrev main_cst_3 : Ref sig .tc := ⟨.hbm, 71, rfl⟩
abbrev main_v29 : Ref sig .tc := ⟨.hbm, 72, rfl⟩
abbrev main_v30 : Ref sig .tc := ⟨.hbm, 73, rfl⟩
abbrev main_c_4 : Ref sig .tc := ⟨.hbm, 74, rfl⟩
abbrev main_call2_cst : Ref sig .tc := ⟨.hbm, 75, rfl⟩
abbrev main_call2_v0 : Ref sig .tc := ⟨.hbm, 76, rfl⟩
abbrev main_call2_v1 : Ref sig .tc := ⟨.hbm, 77, rfl⟩
abbrev main_call2_cst_0 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_call2_v5 : Ref sig .tc := ⟨.hbm, 82, rfl⟩
abbrev main_call2_v6 : Ref sig .tc := ⟨.hbm, 83, rfl⟩
abbrev main_call2_v7 : Ref sig .tc := ⟨.hbm, 84, rfl⟩
abbrev main_call2_cst_1 : Ref sig .tc := ⟨.hbm, 85, rfl⟩
abbrev main_call2_v8 : Ref sig .tc := ⟨.hbm, 86, rfl⟩
abbrev main_call2_cst_2 : Ref sig .tc := ⟨.hbm, 87, rfl⟩
abbrev main_call2_v9 : Ref sig .tc := ⟨.hbm, 88, rfl⟩
abbrev main_call2_v10 : Ref sig .tc := ⟨.hbm, 89, rfl⟩
abbrev main_call2_v11 : Ref sig .tc := ⟨.hbm, 90, rfl⟩
abbrev main_call2_v12 : Ref sig .tc := ⟨.hbm, 91, rfl⟩
abbrev main_call2_cst_3 : Ref sig .tc := ⟨.hbm, 92, rfl⟩
abbrev main_call2_v13 : Ref sig .tc := ⟨.hbm, 93, rfl⟩
abbrev main_call2_cst_4 : Ref sig .tc := ⟨.hbm, 94, rfl⟩
abbrev main_call2_call0_v0 : Ref sig .tc := ⟨.hbm, 95, rfl⟩
abbrev main_call2_call0_v1 : Ref sig .tc := ⟨.hbm, 96, rfl⟩
abbrev main_v31 : Ref sig .tc := ⟨.hbm, 97, rfl⟩
abbrev main_v32 : Ref sig .tc := ⟨.hbm, 98, rfl⟩
abbrev main_v33 : Ref sig .tc := ⟨.hbm, 99, rfl⟩
abbrev main_cst_5 : Ref sig .tc := ⟨.hbm, 100, rfl⟩
abbrev main_v34 : Ref sig .tc := ⟨.hbm, 101, rfl⟩
abbrev main_v35 : Ref sig .tc := ⟨.hbm, 102, rfl⟩
abbrev main_v36 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_v40 : Ref sig .tc := ⟨.hbm, 107, rfl⟩
abbrev main_v41 : Ref sig .tc := ⟨.hbm, 108, rfl⟩
abbrev main_v42 : Ref sig .tc := ⟨.hbm, 109, rfl⟩
abbrev main_v43 : Ref sig .tc := ⟨.hbm, 110, rfl⟩
abbrev main_v44 : Ref sig .tc := ⟨.hbm, 111, rfl⟩
abbrev main_call3_cst : Ref sig .tc := ⟨.hbm, 112, rfl⟩
abbrev main_call3_v0 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev main_v49 : Ref sig .tc := ⟨.hbm, 118, rfl⟩
abbrev main_cst_6 : Ref sig .tc := ⟨.hbm, 119, rfl⟩
abbrev main_v50 : Ref sig .tc := ⟨.hbm, 120, rfl⟩
abbrev main_v51 : Ref sig .tc := ⟨.hbm, 121, rfl⟩
abbrev main_cst_7 : Ref sig .tc := ⟨.hbm, 122, rfl⟩
abbrev main_v52 : Ref sig .tc := ⟨.hbm, 123, rfl⟩
abbrev main_v53 : Ref sig .tc := ⟨.hbm, 124, rfl⟩
abbrev main_c_8 : Ref sig .tc := ⟨.hbm, 125, rfl⟩
abbrev main_call4_cst : Ref sig .tc := ⟨.hbm, 126, rfl⟩
abbrev main_call4_v0 : Ref sig .tc := ⟨.hbm, 127, rfl⟩
abbrev main_call4_v1 : Ref sig .tc := ⟨.hbm, 128, rfl⟩
abbrev main_call4_cst_0 : Ref sig .tc := ⟨.hbm, 129, rfl⟩
abbrev main_call4_v2 : Ref sig .tc := ⟨.hbm, 130, rfl⟩
abbrev main_call4_v3 : Ref sig .tc := ⟨.hbm, 131, rfl⟩
abbrev main_call4_v4 : Ref sig .tc := ⟨.hbm, 132, rfl⟩
abbrev main_call4_v5 : Ref sig .tc := ⟨.hbm, 133, rfl⟩
abbrev main_call4_v6 : Ref sig .tc := ⟨.hbm, 134, rfl⟩
abbrev main_call4_v7 : Ref sig .tc := ⟨.hbm, 135, rfl⟩
abbrev main_call4_cst_1 : Ref sig .tc := ⟨.hbm, 136, rfl⟩
abbrev main_call4_v8 : Ref sig .tc := ⟨.hbm, 137, rfl⟩
abbrev main_call4_cst_2 : Ref sig .tc := ⟨.hbm, 138, rfl⟩
abbrev main_call4_v9 : Ref sig .tc := ⟨.hbm, 139, rfl⟩
abbrev main_call4_v10 : Ref sig .tc := ⟨.hbm, 140, rfl⟩
abbrev main_call4_v11 : Ref sig .tc := ⟨.hbm, 141, rfl⟩
abbrev main_call4_v12 : Ref sig .tc := ⟨.hbm, 142, rfl⟩
abbrev main_call4_cst_3 : Ref sig .tc := ⟨.hbm, 143, rfl⟩
abbrev main_call4_v13 : Ref sig .tc := ⟨.hbm, 144, rfl⟩
abbrev main_call4_cst_4 : Ref sig .tc := ⟨.hbm, 145, rfl⟩
abbrev main_call4_call0_v0 : Ref sig .tc := ⟨.hbm, 146, rfl⟩
abbrev main_call4_call0_v1 : Ref sig .tc := ⟨.hbm, 147, rfl⟩
abbrev main_v54 : Ref sig .tc := ⟨.hbm, 148, rfl⟩
abbrev main_v55 : Ref sig .tc := ⟨.hbm, 149, rfl⟩
abbrev main_v56 : Ref sig .tc := ⟨.hbm, 150, rfl⟩
abbrev main_cst_9 : Ref sig .tc := ⟨.hbm, 151, rfl⟩
abbrev main_v57 : Ref sig .tc := ⟨.hbm, 152, rfl⟩
abbrev main_v58 : Ref sig .tc := ⟨.hbm, 153, rfl⟩
abbrev main_v59 : Ref sig .tc := ⟨.hbm, 154, rfl⟩
abbrev main_v60 : Ref sig .tc := ⟨.hbm, 155, rfl⟩
abbrev main_v61 : Ref sig .tc := ⟨.hbm, 156, rfl⟩
abbrev main_v62 : Ref sig .tc := ⟨.hbm, 157, rfl⟩
abbrev main_v63 : Ref sig .tc := ⟨.hbm, 158, rfl⟩
abbrev main_v64 : Ref sig .tc := ⟨.hbm, 159, rfl⟩
abbrev main_v65 : Ref sig .tc := ⟨.hbm, 160, rfl⟩
abbrev main_v66 : Ref sig .tc := ⟨.hbm, 161, rfl⟩
abbrev main_v67 : Ref sig .tc := ⟨.hbm, 162, rfl⟩
abbrev main_call5_cst : Ref sig .tc := ⟨.hbm, 163, rfl⟩
abbrev main_call5_v0 : Ref sig .tc := ⟨.hbm, 164, rfl⟩
abbrev main_v68 : Ref sig .tc := ⟨.hbm, 165, rfl⟩
abbrev main_cst_10 : Ref sig .tc := ⟨.hbm, 166, rfl⟩
abbrev main_v69 : Ref sig .tc := ⟨.hbm, 167, rfl⟩

abbrev nD : Nat := 1
abbrev τ : Topo := Topo.v7x

variable {F : FTy → Type} [FloatOps F]
-- ==== Kernel2.lean ====
abbrev S16x4096x3 : Shape := ⟨3, ![16, 4096, 3]⟩
abbrev S16x512x8x3 : Shape := ⟨4, ![16, 512, 8, 3]⟩
abbrev S3x512x8x16 : Shape := ⟨4, ![3, 512, 8, 16]⟩
abbrev S3x512x128 : Shape := ⟨3, ![3, 512, 128]⟩
abbrev S4096 : Shape := ⟨1, ![4096]⟩
abbrev S512x8 : Shape := ⟨2, ![512, 8]⟩
abbrev S512x8x1 : Shape := ⟨3, ![512, 8, 1]⟩
abbrev S512x8x16 : Shape := ⟨3, ![512, 8, 16]⟩
abbrev S512x128 : Shape := ⟨2, ![512, 128]⟩
abbrev S1024x128 : Shape := ⟨2, ![1024, 128]⟩
abbrev S1x512x128 : Shape := ⟨3, ![1, 512, 128]⟩
abbrev S8x128 : Shape := ⟨2, ![8, 128]⟩
abbrev S1x128 : Shape := ⟨2, ![1, 128]⟩
abbrev S128 : Shape := ⟨1, ![128]⟩
abbrev S1024x16 : Shape := ⟨2, ![1024, 16]⟩
abbrev S16x1024 : Shape := ⟨2, ![16, 1024]⟩
abbrev S16x1024x1 : Shape := ⟨3, ![16, 1024, 1]⟩
abbrev S16x1024x3 : Shape := ⟨3, ![16, 1024, 3]⟩

abbrev nBuf : Space → Nat
  | .hbm => 22
  | .vmem => 5
  | .smem => 0
  | _ => 0

abbrev bufTy : (tb : Table) → Fin (tcTables nBuf tb) → BufTy
  | .hbm, ⟨0, _⟩ => ⟨S16x4096x3, .f32⟩
  | .hbm, ⟨1, _⟩ => ⟨S16x512x8x3, .f32⟩
  | .hbm, ⟨2, _⟩ => ⟨S3x512x8x16, .f32⟩
  | .hbm, ⟨3, _⟩ => ⟨S3x512x128, .f32⟩
  | .hbm, ⟨4, _⟩ => ⟨S4096, .f32⟩
  | .hbm, ⟨5, _⟩ => ⟨S512x8, .f32⟩
  | .hbm, ⟨6, _⟩ => ⟨S512x8x1, .f32⟩
  | .hbm, ⟨7, _⟩ => ⟨S512x8x16, .f32⟩
  | .hbm, ⟨8, _⟩ => ⟨S512x128, .f32⟩
  | .hbm, ⟨9, _⟩ => ⟨S1024x128, .f32⟩
  | .hbm, ⟨10, _⟩ => ⟨S1024x128, .f32⟩
  | .hbm, ⟨11, _⟩ => ⟨S1024x128, .f32⟩
  | .hbm, ⟨12, _⟩ => ⟨S1024x16, .f32⟩
  | .hbm, ⟨13, _⟩ => ⟨S16x1024, .f32⟩
  | .hbm, ⟨14, _⟩ => ⟨S1024x16, .f32⟩
  | .hbm, ⟨15, _⟩ => ⟨S16x1024, .f32⟩
  | .hbm, ⟨16, _⟩ => ⟨S1024x16, .f32⟩
  | .hbm, ⟨17, _⟩ => ⟨S16x1024, .f32⟩
  | .hbm, ⟨18, _⟩ => ⟨S16x1024x1, .f32⟩
  | .hbm, ⟨19, _⟩ => ⟨S16x1024x1, .f32⟩
  | .hbm, ⟨20, _⟩ => ⟨S16x1024x1, .f32⟩
  | .hbm, ⟨21, _⟩ => ⟨S16x1024x3, .f32⟩
  | .local _ .vmem, ⟨0, _⟩ => ⟨S3x512x128, .f32⟩
  | .local _ .vmem, ⟨1, _⟩ => ⟨S512x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | _, _ => ⟨S16x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8_0 : Ref sig .tc := ⟨.hbm, 9, rfl⟩
abbrev main_v8_1 : Ref sig .tc := ⟨.hbm, 10, rfl⟩
abbrev main_v8_2 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c1024_i32 : BitVec 32 := 1024#32
  let v12 : BitVec 32 := Scalar.addi c0_i32 c1024_i32
  let c1_i32 : BitVec 32 := 1#32
  ⟨c0_i32, v12, c1_i32⟩
def k0_cond1 (k0_t1 : Fin k0_t1_loop.trips) : BitVec 1 :=
  let c0_i32 : BitVec 32 := 0#32
  let c1_i32 : BitVec 32 := 1#32
  let arg5 : BitVec 32 := Scf.iv c0_i32 c1_i32 k0_t1
  let c7_i32 : BitVec 32 := 7#32
  let v45 : BitVec 32 := Scalar.andi arg5 c7_i32
  let c7_i32_21 : BitVec 32 := 7#32
  let v68 : BitVec 1 := Scalar.cmpi .eq v45 c7_i32_21
  let v69 : BitVec 32 := Scalar.extui v68
  let c0_i32_22 : BitVec 32 := 0#32
  let v70 : BitVec 1 := Scalar.cmpi .ne v69 c0_i32_22
  v70

def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c7_i32_33 : BitVec 32 := 7#32
  let v109 : BitVec 32 := Scalar.subi arg5 c7_i32_33
  v109
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let c7_i32_33 : BitVec 32 := 7#32
  let v109 : BitVec 32 := Scalar.subi arg5 c7_i32_33
  let v110 : BitVec 32 := v109
  let v111 : Index := Scalar.indexCast v110
  let c0_34 : Index := 0#32
  ![v111.toNat, 0]
abbrev stage0_0 : Fin 1 → Memref sig .tc .vmem S3x512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Reference2Ideal.lean ====
abbrev S16x4096x3 : Shape := ⟨3, ![16, 4096, 3]⟩
abbrev S_ : Shape := ⟨0, ![]⟩
abbrev S16x1024 : Shape := ⟨2, ![16, 1024]⟩
abbrev S16x4096 : Shape := ⟨2, ![16, 4096]⟩
abbrev S16 : Shape := ⟨1, ![16]⟩
abbrev S1024 : Shape := ⟨1, ![1024]⟩
abbrev S16x1 : Shape := ⟨2, ![16, 1]⟩
abbrev S16x1x1 : Shape := ⟨3, ![16, 1, 1]⟩
abbrev S1 : Shape := ⟨1, ![1]⟩
abbrev S1x1x1 : Shape := ⟨3, ![1, 1, 1]⟩
abbrev S16x1x3 : Shape := ⟨3, ![16, 1, 3]⟩
abbrev S4096 : Shape := ⟨1, ![4096]⟩
abbrev S16x1024x1 : Shape := ⟨3, ![16, 1024, 1]⟩
abbrev S16x1024x3 : Shape := ⟨3, ![16, 1024, 3]⟩

abbrev nBuf : Space → Nat
  | .hbm => 90
  | .vmem => 0
  | .smem => 0
  | _ => 0

abbrev bufTy : (tb : Table) → Fin (tcTables nBuf tb) → BufTy
  | .hbm, ⟨0, _⟩ => ⟨S16x4096x3, .f32⟩
  | .hbm, ⟨1, _⟩ => ⟨S_, .i32⟩
  | .hbm, ⟨2, _⟩ => ⟨S16x1024, .i32⟩
  | .hbm, ⟨3, _⟩ => ⟨S_, .f32⟩
  | .hbm, ⟨4, _⟩ => ⟨S16x4096, .f32⟩
  | .hbm, ⟨5, _⟩ => ⟨S_, .i32⟩
  | .hbm, ⟨6, _⟩ => ⟨S16, .i32⟩
  | .hbm, ⟨7, _⟩ => ⟨S_, .i32⟩
  | .hbm, ⟨8, _⟩ => ⟨S_, .i32⟩
  | .hbm, ⟨9, _⟩ => ⟨S16x4096x3, .f32⟩
  | .hbm, ⟨10, _⟩ => ⟨S_, .i32⟩
  | .hbm, ⟨11, _⟩ => ⟨S_, .i32⟩
  | .hbm, ⟨12, _⟩ => ⟨S16x1024, .i32⟩
  | .hbm, ⟨13, _⟩ => ⟨S16x4096, .f32⟩
  | .hbm, ⟨14, _⟩ => ⟨S16, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S1024, .i32⟩
  | .hbm, ⟨20, _⟩ => ⟨S_, .i32⟩
  | .hbm, ⟨21, _⟩ => ⟨S1024, .i32⟩
  | .hbm, ⟨22, _⟩ => ⟨S1024, .i1⟩
  | .hbm, ⟨23, _⟩ => ⟨S16x1, .i32⟩
  | .hbm, ⟨24, _⟩ => ⟨S_, .i32⟩
  | .hbm, ⟨25, _⟩ => ⟨S_, .i32⟩
  | .hbm, ⟨26, _⟩ => ⟨S16x1024, .i1⟩
  | .hbm, ⟨27, _⟩ => ⟨S16x1024, .i32⟩
  | .hbm, ⟨28, _⟩ => ⟨S16x1024, .i32⟩
  | .hbm, ⟨29, _⟩ => ⟨S16x1024, .i32⟩
  | .hbm, ⟨30, _⟩ => ⟨S16x1024, .i32⟩
  | .hbm, ⟨31, _⟩ => ⟨S16x1x1, .i32⟩
  | .hbm, ⟨32, _⟩ => ⟨S_, .i32⟩
  | .hbm, ⟨33, _⟩ => ⟨S16x1x1, .i32⟩
  | .hbm, ⟨34, _⟩ => ⟨S16x1x1, .i1⟩
  | .hbm, ⟨35, _⟩ => ⟨S_, .i32⟩
  | .hbm, ⟨36, _⟩ => ⟨S16x1x1, .i32⟩
  | .hbm, ⟨37, _⟩ => ⟨S16x1x1, .i32⟩
  | .hbm, ⟨38, _⟩ => ⟨S16x1x1, .i32⟩
  | .hbm, ⟨39, _⟩ => ⟨S1, .i32⟩
  | .hbm, ⟨40, _⟩ => ⟨S_, .i32⟩
  | .hbm, ⟨41, _⟩ => ⟨S16x1x1, .i32⟩
  | .hbm, ⟨42, _⟩ => ⟨S16x1x1, .i1⟩
  | .hbm, ⟨43, _⟩ => ⟨S1x1x1, .i32⟩
  | .hbm, ⟨44, _⟩ => ⟨S16x1x1, .i32⟩
  | .hbm, ⟨45, _⟩ => ⟨S16x1x1, .i1⟩
  | .hbm, ⟨46, _⟩ => ⟨S16x1x1, .i1⟩
  | .hbm, ⟨47, _⟩ => ⟨S_, .i1⟩
  | .hbm, ⟨48, _⟩ => ⟨S16x1, .i1⟩
  | .hbm, ⟨49, _⟩ => ⟨S16x1x3, .f32⟩
  | .hbm, ⟨50, _⟩ => ⟨S16x1x3, .i1⟩
  | .hbm, ⟨51, _⟩ => ⟨S_, .f32⟩
  | .hbm, ⟨52, _⟩ => ⟨S16x1x3, .f32⟩
  | .hbm, ⟨53, _⟩ => ⟨S16x1x3, .f32⟩
  | .hbm, ⟨54, _⟩ => ⟨S16x4096x3, .f32⟩
  | .hbm, ⟨55, _⟩ => ⟨S16x4096x3, .f32⟩
  | .hbm, ⟨56, _⟩ => ⟨S16x4096x3, .f32⟩
  | .hbm, ⟨57, _⟩ => ⟨S_, .f32⟩
  | .hbm, ⟨58, _⟩ => ⟨S16x4096, .f32⟩
  | .hbm, ⟨59, _⟩ => ⟨S16x4096, .f32⟩
  | .hbm, ⟨60, _⟩ => ⟨S_, .f32⟩
  | .hbm, ⟨61, _⟩ => ⟨S16, .f32⟩
  | .hbm, ⟨62, _⟩ => ⟨S16x1, .f32⟩
  | .hbm, ⟨63, _⟩ => ⟨S16x4096, .f32⟩
  | .hbm, ⟨64, _⟩ => ⟨S16x4096, .i1⟩
  | .hbm, ⟨65, _⟩ => ⟨S4096, .i32⟩
  | .hbm, ⟨66, _⟩ => ⟨S_, .i32⟩
  | .hbm, ⟨67, _⟩ => ⟨S4096, .i32⟩
  | .hbm, ⟨68, _⟩ => ⟨S4096, .i32⟩
  | .hbm, ⟨69, _⟩ => ⟨S_, .i32⟩
  | .hbm, ⟨70, _⟩ => ⟨S_, .i32⟩
  | .hbm, ⟨71, _⟩ => ⟨S16x4096, .i32⟩
  | .hbm, ⟨72, _⟩ => ⟨S16x4096, .i32⟩
  | .hbm, ⟨73, _⟩ => ⟨S16x4096, .i32⟩
  | .hbm, ⟨74, _⟩ => ⟨S_, .i32⟩
  | .hbm, ⟨75, _⟩ => ⟨S16, .i32⟩
  | .hbm, ⟨76, _⟩ => ⟨S_, .i32⟩
  | .hbm, ⟨77, _⟩ => ⟨S16, .i32⟩
  | .hbm, ⟨78, _⟩ => ⟨S16, .i32⟩
  | .hbm, ⟨79, _⟩ => ⟨S_, .i32⟩
  | .hbm, ⟨80, _⟩ => ⟨S_, .i32⟩
  | .hbm, ⟨81, _⟩ => ⟨S_, .i32⟩
  | .hbm, ⟨82, _⟩ => ⟨S16x1024, .i32⟩
  | .hbm, ⟨83, _⟩ => ⟨S16x1024, .i1⟩
  | .hbm, ⟨84, _⟩ => ⟨S_, .i32⟩
  | .hbm, ⟨85, _⟩ => ⟨S16x1024, .i32⟩
  | .hbm, ⟨86, _⟩ => ⟨S16x1024, .i32⟩
  | .hbm, ⟨87, _⟩ => ⟨S16x1024, .i32⟩
  | .hbm, ⟨88, _⟩ => ⟨S16x1024x1, .i32⟩
  | .hbm, ⟨89, _⟩ => ⟨S16x1024x3, .f32⟩
  | _, _ => ⟨S16x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_c_1 : Ref sig .tc := ⟨.hbm, 7, rfl⟩
abbrev main_c_2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v3_5 : Ref sig .tc := ⟨.hbm, 14, rfl⟩
abbrev main_while0c_c_10 : Ref sig .tc := ⟨.hbm, 15, rfl⟩
abbrev main_while0c_v11 : Ref sig .tc := ⟨.hbm, 16, rfl⟩
abbrev main_while0b_c_10 : Ref sig .tc := ⟨.hbm, 17, rfl⟩
abbrev main_while0b_v11 : Ref sig .tc := ⟨.hbm, 18, rfl⟩
abbrev main_while0b_v12 : Ref sig .tc := ⟨.hbm, 19, rfl⟩
abbrev main_while0b_v13 : Ref sig .tc := ⟨.hbm, 20, rfl⟩
abbrev main_while0b_v14 : Ref sig .tc := ⟨.hbm, 21, rfl⟩
abbrev main_while0b_v15 : Ref sig .tc := ⟨.hbm, 22, rfl⟩
abbrev main_while0b_v16 : Ref sig .tc := ⟨.hbm, 23, rfl⟩
abbrev main_while0b_c_11 : Ref sig .tc := ⟨.hbm, 24, rfl⟩
abbrev main_while0b_call0_v0 : Ref sig .tc := ⟨.hbm, 25, rfl⟩
abbrev main_while0b_call0_v1 : Ref sig .tc := ⟨.hbm, 26, rfl⟩
abbrev main_while0b_call0_v2 : Ref sig .tc := ⟨.hbm, 27, rfl⟩
abbrev main_while0b_call0_v3 : Ref sig .tc := ⟨.hbm, 28, rfl⟩
abbrev main_while0b_v17 : Ref sig .tc := ⟨.hbm, 29, rfl⟩
abbrev main_while0b_v18 : Ref sig .tc := ⟨.hbm, 30, rfl⟩
abbrev main_while0b_v19 : Ref sig .tc := ⟨.hbm, 31, rfl⟩
abbrev main_while0b_call1_c : Ref sig .tc := ⟨.hbm, 32, rfl⟩
abbrev main_while0b_call1_v0 : Ref sig .tc := ⟨.hbm, 33, rfl⟩
abbrev main_while0b_call1_v1 : Ref sig .tc := ⟨.hbm, 34, rfl⟩
abbrev main_while0b_call1_c_0 : Ref sig .tc := ⟨.hbm, 35, rfl⟩
abbrev main_while0b_call1_v2 : Ref sig .tc := ⟨.hbm, 36, rfl⟩
abbrev main_while0b_call1_v3 : Ref sig .tc := ⟨.hbm, 37, rfl⟩
abbrev main_while0b_call1_v4 : Ref sig .tc := ⟨.hbm, 38, rfl⟩
abbrev main_while0b_call1_c_1 : Ref sig .tc := ⟨.hbm, 39, rfl⟩
abbrev main_while0b_call1_c_2 : Ref sig .tc := ⟨.hbm, 40, rfl⟩
abbrev main_while0b_call1_v5 : Ref sig .tc := ⟨.hbm, 41, rfl⟩
abbrev main_while0b_call1_v6 : Ref sig .tc := ⟨.hbm, 42, rfl⟩
abbrev main_while0b_call1_v7 : Ref sig .tc := ⟨.hbm, 43, rfl⟩
abbrev main_while0b_call1_v8 : Ref sig .tc := ⟨.hbm, 44, rfl⟩
abbrev main_while0b_call1_v9 : Ref sig .tc := ⟨.hbm, 45, rfl⟩
abbrev main_while0b_call1_v10 : Ref sig .tc := ⟨.hbm, 46, rfl⟩
abbrev main_while0b_call1_c_3 : Ref sig .tc := ⟨.hbm, 47, rfl⟩
abbrev main_while0b_call1_v11 : Ref sig .tc := ⟨.hbm, 48, rfl⟩
abbrev main_while0b_call1_v12 : Ref sig .tc := ⟨.hbm, 49, rfl⟩
abbrev main_while0b_call1_v13 : Ref sig .tc := ⟨.hbm, 50, rfl⟩
abbrev main_while0b_call1_cst : Ref sig .tc := ⟨.hbm, 51, rfl⟩
abbrev main_while0b_call1_v14 : Ref sig .tc := ⟨.hbm, 52, rfl⟩
abbrev main_while0b_v20 : Ref sig .tc := ⟨.hbm, 53, rfl⟩
abbrev main_while0b_v21 : Ref sig .tc := ⟨.hbm, 54, rfl⟩
abbrev main_while0b_v22 : Ref sig .tc := ⟨.hbm, 55, rfl⟩
abbrev main_while0b_v23 : Ref sig .tc := ⟨.hbm, 56, rfl⟩
abbrev main_while0b_cst_12 : Ref sig .tc := ⟨.hbm, 57, rfl⟩
abbrev main_while0b_v24 : Ref sig .tc := ⟨.hbm, 58, rfl⟩
abbrev main_while0b_v25 : Ref sig .tc := ⟨.hbm, 59, rfl⟩
abbrev main_while0b_cst_13 : Ref sig .tc := ⟨.hbm, 60, rfl⟩
abbrev main_while0b_v26 : Ref sig .tc := ⟨.hbm, 61, rfl⟩
abbrev main_while0b_v27 : Ref sig .tc := ⟨.hbm, 62, rfl⟩
abbrev main_while0b_v28 : Ref sig .tc := ⟨.hbm, 63, rfl⟩
abbrev main_while0b_v29 : Ref sig .tc := ⟨.hbm, 64, rfl⟩
abbrev main_while0b_v30 : Ref sig .tc := ⟨.hbm, 65, rfl⟩
abbrev main_while0b_c_14 : Ref sig .tc := ⟨.hbm, 66, rfl⟩
abbrev main_while0b_v31 : Ref sig .tc := ⟨.hbm, 67, rfl⟩
abbrev main_while0b_v32 : Ref sig .tc := ⟨.hbm, 68, rfl⟩
abbrev main_while0b_c_15 : Ref sig .tc := ⟨.hbm, 69, rfl⟩
abbrev main_while0b_call2_v0 : Ref sig .tc := ⟨.hbm, 70, rfl⟩
abbrev main_while0b_call2_v1 : Ref sig .tc := ⟨.hbm, 71, rfl⟩
abbrev main_while0b_call2_v2 : Ref sig .tc := ⟨.hbm, 72, rfl⟩
abbrev main_while0b_v33 : Ref sig .tc := ⟨.hbm, 73, rfl⟩
abbrev main_while0b_c_16 : Ref sig .tc := ⟨.hbm, 74, rfl⟩
abbrev main_while0b_v34 : Ref sig .tc := ⟨.hbm, 75, rfl⟩
abbrev main_while0b_c_17 : Ref sig .tc := ⟨.hbm, 76, rfl⟩
abbrev main_while0b_v35 : Ref sig .tc := ⟨.hbm, 77, rfl⟩
abbrev main_while0b_v36 : Ref sig .tc := ⟨.hbm, 78, rfl⟩
abbrev main_while0b_c_18 : Ref sig .tc := ⟨.hbm, 79, rfl⟩
abbrev main_while0b_v37 : Ref sig .tc := ⟨.hbm, 80, rfl⟩
abbrev main_c_3 : Ref sig .tc := ⟨.hbm, 81, rfl⟩
abbrev main_v4 : Ref sig .tc := ⟨.hbm, 82, rfl⟩
abbrev main_v5 : Ref sig .tc := ⟨.hbm, 83, rfl⟩
abbrev main_c_4 : Ref sig .tc := ⟨.hbm, 84, rfl⟩
abbrev main_v6 : Ref sig .tc := ⟨.hbm, 85, rfl⟩
abbrev main_v7 : Ref sig .tc := ⟨.hbm, 86, rfl⟩
abbrev main_v8 : Ref sig .tc := ⟨.hbm, 87, rfl⟩
abbrev main_v9 : Ref sig .tc := ⟨.hbm, 88, rfl⟩
abbrev main_v10 : Ref sig .tc := ⟨.hbm, 89, rfl⟩

abbrev nD : Nat := 1
abbrev τ : Topo := Topo.v7x

variable {F : FTy → Type} [FloatOps F]

abbrev main_while0_count : Scf.Loop 32 := ⟨0#32, 1024#32, 1#32⟩
-- ==== Kernel3.lean ====
abbrev S16x4096x3 : Shape := ⟨3, ![16, 4096, 3]⟩
abbrev S16x4096x64 : Shape := ⟨3, ![16, 4096, 64]⟩
abbrev S16x1024x3 : Shape := ⟨3, ![16, 1024, 3]⟩
abbrev S16x4096x1 : Shape := ⟨3, ![16, 4096, 1]⟩
abbrev S16x4096 : Shape := ⟨2, ![16, 4096]⟩
abbrev S16x1x4096 : Shape := ⟨3, ![16, 1, 4096]⟩
abbrev S128 : Shape := ⟨1, ![128]⟩
abbrev S1x128 : Shape := ⟨2, ![1, 128]⟩
abbrev S16x1024x32 : Shape := ⟨3, ![16, 1024, 32]⟩
abbrev S1x256x3 : Shape := ⟨3, ![1, 256, 3]⟩
abbrev S1x1x4096 : Shape := ⟨3, ![1, 1, 4096]⟩
abbrev S1x256x32 : Shape := ⟨3, ![1, 256, 32]⟩
abbrev S256x4096 : Shape := ⟨2, ![256, 4096]⟩
abbrev S1x256x1 : Shape := ⟨3, ![1, 256, 1]⟩
abbrev S256x1 : Shape := ⟨2, ![256, 1]⟩
abbrev S1x4096 : Shape := ⟨2, ![1, 4096]⟩
abbrev S256x32 : Shape := ⟨2, ![256, 32]⟩
abbrev S256x128 : Shape := ⟨2, ![256, 128]⟩
abbrev S256 : Shape := ⟨1, ![256]⟩
abbrev S1 : Shape := ⟨1, ![1]⟩
abbrev S1x1x1 : Shape := ⟨3, ![1, 1, 1]⟩
abbrev S256x160 : Shape := ⟨2, ![256, 160]⟩
abbrev S_ : Shape := ⟨0, ![]⟩
abbrev S16x1024x32x1 : Shape := ⟨4, ![16, 1024, 32, 1]⟩
abbrev S16x1024x32x3 : Shape := ⟨4, ![16, 1024, 32, 3]⟩
abbrev S16x1024x1x3 : Shape := ⟨4, ![16, 1024, 1, 3]⟩
abbrev S16x1024x32x64 : Shape := ⟨4, ![16, 1024, 32, 64]⟩
abbrev S16x1024x32x67 : Shape := ⟨4, ![16, 1024, 32, 67]⟩

abbrev nBuf : Space → Nat
  | .hbm => 37
  | .vmem => 12
  | .smem => 0
  | _ => 0

abbrev bufTy : (tb : Table) → Fin (tcTables nBuf tb) → BufTy
  | .hbm, ⟨0, _⟩ => ⟨S16x4096x3, .f32⟩
  | .hbm, ⟨1, _⟩ => ⟨S16x4096x64, .f32⟩
  | .hbm, ⟨2, _⟩ => ⟨S16x1024x3, .f32⟩
  | .hbm, ⟨3, _⟩ => ⟨S16x4096x1, .f32⟩
  | .hbm, ⟨4, _⟩ => ⟨S16x4096, .f32⟩
  | .hbm, ⟨5, _⟩ => ⟨S16x1x4096, .f32⟩
  | .hbm, ⟨6, _⟩ => ⟨S16x4096x1, .f32⟩
  | .hbm, ⟨7, _⟩ => ⟨S16x4096, .f32⟩
  | .hbm, ⟨8, _⟩ => ⟨S16x1x4096, .f32⟩
  | .hbm, ⟨9, _⟩ => ⟨S16x4096x1, .f32⟩
  | .hbm, ⟨10, _⟩ => ⟨S16x4096, .f32⟩
  | .hbm, ⟨11, _⟩ => ⟨S16x1x4096, .f32⟩
  | .hbm, ⟨12, _⟩ => ⟨S128, .f32⟩
  | .hbm, ⟨13, _⟩ => ⟨S1x128, .f32⟩
  | .hbm, ⟨14, _⟩ => ⟨S16x1024x32, .i32⟩
  | .hbm, ⟨15, _⟩ => ⟨S_, .i32⟩
  | .hbm, ⟨16, _⟩ => ⟨S16x1024x32, .i32⟩
  | .hbm, ⟨17, _⟩ => ⟨S16x1024x32, .i1⟩
  | .hbm, ⟨18, _⟩ => ⟨S_, .i32⟩
  | .hbm, ⟨19, _⟩ => ⟨S16x1024x32, .i32⟩
  | .hbm, ⟨20, _⟩ => ⟨S16x1024x32, .i32⟩
  | .hbm, ⟨21, _⟩ => ⟨S16x1024x32, .i32⟩
  | .hbm, ⟨22, _⟩ => ⟨S16x1024x32x1, .i32⟩
  | .hbm, ⟨23, _⟩ => ⟨S16x1024x32x3, .f32⟩
  | .hbm, ⟨24, _⟩ => ⟨S16x1024x1x3, .f32⟩
  | .hbm, ⟨25, _⟩ => ⟨S16x1024x32x3, .f32⟩
  | .hbm, ⟨26, _⟩ => ⟨S16x1024x32x3, .f32⟩
  | .hbm, ⟨27, _⟩ => ⟨S_, .i32⟩
  | .hbm, ⟨28, _⟩ => ⟨S16x1024x32, .i32⟩
  | .hbm, ⟨29, _⟩ => ⟨S16x1024x32, .i1⟩
  | .hbm, ⟨30, _⟩ => ⟨S_, .i32⟩
  | .hbm, ⟨31, _⟩ => ⟨S16x1024x32, .i32⟩
  | .hbm, ⟨32, _⟩ => ⟨S16x1024x32, .i32⟩
  | .hbm, ⟨33, _⟩ => ⟨S16x1024x32, .i32⟩
  | .hbm, ⟨34, _⟩ => ⟨S16x1024x32x1, .i32⟩
  | .hbm, ⟨35, _⟩ => ⟨S16x1024x32x64, .f32⟩
  | .hbm, ⟨36, _⟩ => ⟨S16x1024x32x67, .f32⟩
  | .local _ .vmem, ⟨0, _⟩ => ⟨S1x256x3, .f32⟩
  | .local _ .vmem, ⟨1, _⟩ => ⟨S1x256x3, .f32⟩
  | .local _ .vmem, ⟨2, _⟩ => ⟨S1x1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S1x1x4096, .f32⟩
  | .local _ .vmem, ⟨8, _⟩ => ⟨S1x128, .f32⟩
  | .local _ .vmem, ⟨9, _⟩ => ⟨S1x256x32, .i32⟩
  | .local _ .vmem, ⟨10, _⟩ => ⟨S1x256x32, .i32⟩
  | .local _ .vmem, ⟨11, _⟩ => ⟨S256x4096, .f32⟩
  | _, _ => ⟨S16x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_v12 : Ref sig .tc := ⟨.hbm, 16, rfl⟩
abbrev main_v13 : Ref sig .tc := ⟨.hbm, 17, rfl⟩
abbrev main_c_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_c_1 : Ref sig .tc := ⟨.hbm, 27, rfl⟩
abbrev main_v22 : Ref sig .tc := ⟨.hbm, 28, rfl⟩
abbrev main_v23 : Ref sig .tc := ⟨.hbm, 29, rfl⟩
abbrev main_c_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x32 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S16x4096x3 : Shape := ⟨3, ![16, 4096, 3]⟩
abbrev S16x4096x64 : Shape := ⟨3, ![16, 4096, 64]⟩
abbrev S16x1024x3 : Shape := ⟨3, ![16, 1024, 3]⟩
abbrev S16x1024x4096 : Shape := ⟨3, ![16, 1024, 4096]⟩
abbrev S_ : Shape := ⟨0, ![]⟩
abbrev S16x1024 : Shape := ⟨2, ![16, 1024]⟩
abbrev S16x1024x1 : Shape := ⟨3, ![16, 1024, 1]⟩
abbrev S16x4096 : Shape := ⟨2, ![16, 4096]⟩
abbrev S16x1x4096 : Shape := ⟨3, ![16, 1, 4096]⟩
abbrev S16x1024x32 : Shape := ⟨3, ![16, 1024, 32]⟩
abbrev S16x1024x32x1 : Shape := ⟨4, ![16, 1024, 32, 1]⟩
abbrev S16x1024x32x3 : Shape := ⟨4, ![16, 1024, 32, 3]⟩
abbrev S16x1024x1x3 : Shape := ⟨4, ![16, 1024, 1, 3]⟩
abbrev S16x1024x32x64 : Shape := ⟨4, ![16, 1024, 32, 64]⟩
abbrev S16x1024x32x67 : Shape := ⟨4, ![16, 1024, 32, 67]⟩

abbrev nBuf : Space → Nat
  | .hbm => 44
  | .vmem => 0
  | .smem => 0
  | _ => 0

abbrev bufTy : (tb : Table) → Fin (tcTables nBuf tb) → BufTy
  | .hbm, ⟨0, _⟩ => ⟨S16x4096x3, .f32⟩
  | .hbm, ⟨1, _⟩ => ⟨S16x4096x64, .f32⟩
  | .hbm, ⟨2, _⟩ => ⟨S16x1024x3, .f32⟩
  | .hbm, ⟨3, _⟩ => ⟨S16x1024x4096, .f32⟩
  | .hbm, ⟨4, _⟩ => ⟨S_, .f32⟩
  | .hbm, ⟨5, _⟩ => ⟨S16x1024x4096, .f32⟩
  | .hbm, ⟨6, _⟩ => ⟨S16x1024x4096, .f32⟩
  | .hbm, ⟨7, _⟩ => ⟨S16x1024x3, .f32⟩
  | .hbm, ⟨8, _⟩ => ⟨S_, .f32⟩
  | .hbm, ⟨9, _⟩ => ⟨S16x1024, .f32⟩
  | .hbm, ⟨10, _⟩ => ⟨S16x1024x1, .f32⟩
  | .hbm, ⟨11, _⟩ => ⟨S16x1024x4096, .f32⟩
  | .hbm, ⟨12, _⟩ => ⟨S16x1024x4096, .f32⟩
  | .hbm, ⟨13, _⟩ => ⟨S16x4096x3, .f32⟩
  | .hbm, ⟨14, _⟩ => ⟨S_, .f32⟩
  | .hbm, ⟨15, _⟩ => ⟨S16x4096, .f32⟩
  | .hbm, ⟨16, _⟩ => ⟨S16x1x4096, .f32⟩
  | .hbm, ⟨17, _⟩ => ⟨S16x1024x4096, .f32⟩
  | .hbm, ⟨18, _⟩ => ⟨S16x1024x4096, .f32⟩
  | .hbm, ⟨19, _⟩ => ⟨S16x1024x4096, .f32⟩
  | .hbm, ⟨20, _⟩ => ⟨S16x1024x32, .f32⟩
  | .hbm, ⟨21, _⟩ => ⟨S16x1024x32, .i32⟩
  | .hbm, ⟨22, _⟩ => ⟨S_, .i32⟩
  | .hbm, ⟨23, _⟩ => ⟨S16x1024x32, .i32⟩
  | .hbm, ⟨24, _⟩ => ⟨S16x1024x32, .i1⟩
  | .hbm, ⟨25, _⟩ => ⟨S_, .i32⟩
  | .hbm, ⟨26, _⟩ => ⟨S16x1024x32, .i32⟩
  | .hbm, ⟨27, _⟩ => ⟨S16x1024x32, .i32⟩
  | .hbm, ⟨28, _⟩ => ⟨S16x1024x32, .i32⟩
  | .hbm, ⟨29, _⟩ => ⟨S16x1024x32x1, .i32⟩
  | .hbm, ⟨30, _⟩ => ⟨S16x1024x32x3, .f32⟩
  | .hbm, ⟨31, _⟩ => ⟨S16x1024x1x3, .f32⟩
  | .hbm, ⟨32, _⟩ => ⟨S16x1024x32x3, .f32⟩
  | .hbm, ⟨33, _⟩ => ⟨S16x1024x32x3, .f32⟩
  | .hbm, ⟨34, _⟩ => ⟨S_, .i32⟩
  | .hbm, ⟨35, _⟩ => ⟨S16x1024x32, .i32⟩
  | .hbm, ⟨36, _⟩ => ⟨S16x1024x32, .i1⟩
  | .hbm, ⟨37, _⟩ => ⟨S_, .i32⟩
  | .hbm, ⟨38, _⟩ => ⟨S16x1024x32, .i32⟩
  | .hbm, ⟨39, _⟩ => ⟨S16x1024x32, .i32⟩
  | .hbm, ⟨40, _⟩ => ⟨S16x1024x32, .i32⟩
  | .hbm, ⟨41, _⟩ => ⟨S16x1024x32x1, .i32⟩
  | .hbm, ⟨42, _⟩ => ⟨S16x1024x32x64, .f32⟩
  | .hbm, ⟨43, _⟩ => ⟨S16x1024x32x67, .f32⟩
  | _, _ => ⟨S16x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_values : Ref sig .tc := ⟨.hbm, 20, rfl⟩
abbrev main_indices : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_3 : Ref sig .tc := ⟨.hbm, 34, rfl⟩
abbrev main_v24 : Ref sig .tc := ⟨.hbm, 35, rfl⟩
abbrev main_v25 : Ref sig .tc := ⟨.hbm, 36, rfl⟩
abbrev main_c_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== Proof.Run.lean ====
/- The run of the kernel's program with the contents of every buffer in its conclusion: at the end each
   buffer holds what the fold `Gen.W9` through @main's segments says. The launch's set-up is the frame's. -/
module

public import proofs.«01_k».proof.Proof.Gen.KernelIdeal.Frame

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of @main ends with each unscoped buffer at `Gen.W9`'s contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ => h)

/-- The same with the result and the arguments named: the result at the last boundary's contents, each argument as
    launched. -/
theorem run_result : θ_run defs (onTc (τ := τ) (main (F := F))) ⟨m, fun _ => 0, ρ⟩ (fun r => ∀ c : Dev nD,
      r.2.mem ((c.tc : Thread nD τ).loc main_v17) = W9 m ρ c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c =>
    ⟨h c _ (mem_uc main_v17 (by decide)),
     (h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c),
     (h c _ (mem_uc main_arg7 (by decide))).trans (W9_main_arg7 m ρ c),
     (h c _ (mem_uc main_arg8 (by decide))).trans (W9_main_arg8 m ρ c),
     (h c _ (mem_uc main_arg9 (by decide))).trans (W9_main_arg9 m ρ c),
     (h c _ (mem_uc main_arg10 (by decide))).trans (W9_main_arg10 m ρ c),
     (h c _ (mem_uc main_arg11 (by decide))).trans (W9_main_arg11 m ρ c),
     (h c _ (mem_uc main_arg12 (by decide))).trans (W9_main_arg12 m ρ c)⟩) (run m ρ)

end Cert.KernelIdeal.Whole

end
-- ==== Proof.Batch.lean ====
/- The arithmetic of batch normalisation over the extended reals. The kernel normalises with the moments: the
   sum and the sum of squares, each times 2^-19, the variance as the difference, the factor 1/√(variance + ε).
   The reference divides by the number of rows and takes the mean of the squared deviations. On real data both
   are the same affine function of the value, with a positive slope. -/
module

public import Idealize.ShloMosaic.Lib.Pointwise

@[expose] public section

noncomputable section

namespace Cert.Batch

open Idealize.ShloMosaic

/-- One over the number of rows, as the kernel spells it. -/
def invRows : EReal := Ideal.ofBits .f32 0x36000000#32
/-- The number of rows, as the reference spells it. -/
def nRows : EReal := Ideal.ofBits .f32 0x49000000#32
/-- The ε of the normalisation. -/
def eps : EReal := Ideal.ofBits .f32 0x3727C5AC#32

theorem invRows_eq : invRows = ((1 / 524288 : ℝ) : EReal) := by
  simp [invRows, Ideal.ofBits, Ideal.ieee, -EReal.coe_mul]; norm_num
theorem nRows_eq : nRows = ((524288 : ℝ) : EReal) := by
  simp [nRows, Ideal.ofBits, Ideal.ieee, -EReal.coe_mul]; norm_num
theorem eps_eq : ∃ e : ℝ, 0 < e ∧ eps = (e : EReal) := by
  refine ⟨_, ?_, by simp [eps, Ideal.ofBits, Ideal.ieee, -EReal.coe_mul]; rfl⟩
  norm_num

theorem negInf_eq : Ideal.ofBits .f32 0xFF800000#32 = ⊥ := by simp [Ideal.ofBits, Ideal.ieee]
theorem posInf_eq : Ideal.ofBits .f32 0x7F800000#32 = ⊤ := by simp [Ideal.ofBits, Ideal.ieee]

/-- The kernel's normalised value from the sum `s` and the sum of squares `q` of the channel. -/
def unitK (s q x : EReal) : EReal :=
  (x - s * invRows) * Ideal.div 1 (Ideal.sqrt (q * invRows - s * invRows * (s * invRows) + eps))

/-- The reference's normalised value from the sum `s` of the channel and the sum `d` of the squared deviations. -/
def unitR (s d x : EReal) : EReal :=
  Ideal.div (x - Ideal.div s nRows) (Ideal.sqrt (Ideal.div d nRows + eps))

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- On 524288 real values the two normalisations are one affine function of the value with a positive slope. -/
theorem unit_eq {ι : Type} [Fintype ι] (hn : (Fintype.card ι : ℝ) = 524288) (y : ι → ℝ) (s q d : EReal) (hs : s = ∑ r, (y r : EReal))
    (hq : q = ∑ r, (y r : EReal) * (y r : EReal))
    (hd : d = ∑ r, ((y r : EReal) - Ideal.div s nRows) * ((y r : EReal) - Ideal.div s nRows)) :
    ∃ μ ρ : ℝ, 0 < ρ ∧ ∀ x : ℝ, unitK s q x = (((x - μ) * ρ : ℝ) : EReal) ∧ unitR s d x = (((x - μ) * ρ : ℝ) : EReal) := by
  obtain ⟨e, he, hee⟩ := eps_eq
  set S : ℝ := ∑ r, y r with hS
  set Q : ℝ := ∑ r, y r * y r with hQ
  have hs' : s = (S : EReal) := by rw [hs, hS, coe_sum]
  have hq' : q = (Q : EReal) := by
    rw [hq, hQ, coe_sum]; exact Finset.sum_congr rfl fun r _ => (EReal.coe_mul _ _).symm
  have hm : Ideal.div s nRows = ((S / 524288 : ℝ) : EReal) := by
    rw [nRows_eq, Ideal.div_coe (by norm_num), hs', ← EReal.coe_mul]; congr 1; ring
  set D : ℝ := ∑ r, (y r - S / 524288) * (y r - S / 524288) with hD
  have hd' : d = (D : EReal) := by
    rw [hd, hD, coe_sum, hm]
    exact Finset.sum_congr rfl fun r _ => by rw [EReal.coe_mul, EReal.coe_sub]
  have hDn : 0 ≤ D := Finset.sum_nonneg fun r _ => mul_self_nonneg _
  have hvar : Q * (1 / 524288) - S * (1 / 524288) * (S * (1 / 524288)) = D / 524288 := by
    have : D = Q - 2 * (S / 524288) * S + 524288 * (S / 524288) * (S / 524288) := by
      rw [hD, hQ, hS, Finset.mul_sum]
      have hc : (524288 : ℝ) * ((∑ r, y r) / 524288) * ((∑ r, y r) / 524288)
          = ∑ _r : ι, ((∑ r, y r) / 524288) * ((∑ r, y r) / 524288) := by
        rw [Finset.sum_const, Finset.card_univ, nsmul_eq_mul, hn, mul_assoc]
      rw [hc, ← Finset.sum_sub_distrib, ← Finset.sum_add_distrib]
      exact Finset.sum_congr rfl fun r _ => by ring
    rw [this]; ring
  have hv : 0 < D / 524288 + e := by positivity
  have hsq : 0 < Real.sqrt (D / 524288 + e) := Real.sqrt_pos.mpr hv
  refine ⟨S / 524288, 1 / Real.sqrt (D / 524288 + e), by positivity, fun x => ⟨?_, ?_⟩⟩
  · unfold unitK
    rw [invRows_eq, hee, hs', hq']
    simp only [← EReal.coe_mul, ← EReal.coe_sub, ← EReal.coe_add]
    rw [hvar, Ideal.sqrt_coe, if_neg (not_lt.mpr hv.le), Ideal.div_coe hsq.ne', one_mul, ← EReal.coe_mul]
    congr 1; ring
  · unfold unitR
    rw [hm, hd', nRows_eq, hee, Ideal.div_coe (by norm_num)]
    simp only [← EReal.coe_mul, ← EReal.coe_sub, ← EReal.coe_add]
    have : D * (1 / 524288) + e = D / 524288 + e := by ring
    rw [this, Ideal.sqrt_coe, if_neg (not_lt.mpr hv.le), Ideal.div_coe hsq.ne', ← EReal.coe_mul]

end Cert.Batch
-- ==== Proof.Plain.lean ====
/- The layers as plain functions of rows and channels. -/
module

public import proofs.«01_k».proof.Proof.Batch

@[expose] public section

noncomputable section

namespace Cert.Plain

open Idealize.ShloMosaic

/-- A dense layer at one row: the products with the weights' column, summed, plus the bias. -/
def dense {K O : Nat} (x : Fin K → EReal) (W : Fin K → Fin O → EReal) (b : Fin O → EReal) (o : Fin O) : EReal :=
  ∑ k, x k * W k o + b o

/-- A channel's sum and sum of squares, stacked. -/
def moments {R O : Nat} (y : Fin R → Fin O → EReal) (j : (⟨2, ![2, O]⟩ : Shape).Idx) : EReal :=
  if (j 0).val = 0 then ∑ r, y r (j 1) else ∑ r, y r (j 1) * y r (j 1)

/-- The kernel's normalised and rectified value, from the stacked moments. -/
def normK {O : Nat} (st : (⟨2, ![2, O]⟩ : Shape).Idx → EReal) (g be : Fin O → EReal) (x : Fin O → EReal) (o : Fin O) : EReal :=
  max (Batch.unitK (st (ix2 0 o)) (st (ix2 1 o)) (x o) * g o + be o) 0

theorem dense_congr {K O : Nat} {x x' : Fin K → EReal} {W W' : Fin K → Fin O → EReal} {b b' : Fin O → EReal}
    (hx : ∀ k, x k = x' k) (hW : ∀ k o, W k o = W' k o) (hb : ∀ o, b o = b' o) : dense x W b = dense x' W' b' := by
  rw [funext hx, funext fun k => funext (hW k), funext hb]

theorem normK_congr {O : Nat} {st st' : (⟨2, ![2, O]⟩ : Shape).Idx → EReal} {g g' be be' x x' : Fin O → EReal}
    (hs : st = st') (hg : ∀ o, g o = g' o) (hb : ∀ o, be o = be' o) (hx : ∀ o, x o = x' o) : normK st g be x = normK st' g' be' x' := by
  rw [hs, funext hg, funext hb, funext hx]

/-- A flat row's batch, centre and neighbour. -/
def batchOf (r : Fin 524288) : Fin 16 := ⟨r.val / 32768, by omega⟩
def centreOf (r : Fin 524288) : Fin 1024 := ⟨r.val / 32 % 1024, by omega⟩
def nbrOf (r : Fin 524288) : Fin 32 := ⟨r.val % 32, by omega⟩
/-- The row of a group's member. -/
def rowOf (q : Fin 16384) (k : Fin 32) : Fin 524288 := ⟨q.val * 32 + k.val, by omega⟩

/-- The largest and the smallest of a group of 32 rows, per channel. -/
def top {O : Nat} (y : Fin 524288 → Fin O → EReal) (q : Fin 16384) (o : Fin O) : EReal :=
  Finset.univ.fold max ⊥ fun k : Fin 32 => y (rowOf q k) o
def bot {O : Nat} (y : Fin 524288 → Fin O → EReal) (q : Fin 16384) (o : Fin O) : EReal :=
  Finset.univ.fold min ⊤ fun k : Fin 32 => y (rowOf q k) o

/-- The kernel's next layer: normalised with the layer's own moments, rectified, dense. -/
def nextK {K O : Nat} (y : Fin 524288 → Fin K → EReal) (g be : Fin K → EReal) (W : Fin K → Fin O → EReal) (b : Fin O → EReal)
    (r : Fin 524288) : Fin O → EReal :=
  dense (normK (moments y) g be (y r)) W b

/-- The kernel's output of a group: its largest or smallest value by the sign of the scale, normalised and rectified. -/
def lastK {O : Nat} (y : Fin 524288 → Fin O → EReal) (g be : Fin O → EReal) (q : Fin 16384) (o : Fin O) : EReal :=
  normK (moments y) g be (fun o => if 0 < g o then top y q o else bot y q o) o

end Cert.Plain
-- ==== Proof.Reduce.lean ====
/- A host sum over the three leading axes of a rank-4 array, read as a sum over the three coordinates, and a
   sum over those coordinates read as a sum over the flat row index. -/
module

public import Idealize.ShloMosaic.Lib.Pointwise
public import Idealize.ShloMosaic.Lib.Pipeline.ValueKit

@[expose] public section

noncomputable section

namespace Cert.Rows

open Idealize.ShloMosaic

variable {n0 n1 n2 n3 : Nat} {t : Shape}

/-- The indices that the reduction of axes 0, 1 and 2 sends to `j` are those with last coordinate `j`. -/
theorem lead3_fiber (h : (⟨4, ![n0, n1, n2, n3]⟩ : Shape).ReducesTo [0, 1, 2] (⟨1, ![n3]⟩ : Shape))
    (j : (⟨1, ![n3]⟩ : Shape).Idx) (i : (⟨4, ![n0, n1, n2, n3]⟩ : Shape).Idx) :
    h.drop i = j ↔ ∃ k : Fin n0 × Fin n1 × Fin n2, ix4 k.1 k.2.1 k.2.2 (j 0) = i := by
  constructor
  · intro e
    refine ⟨(i 0, i 1, i 2), ?_⟩
    funext a; apply Fin.ext
    match a with
    | ⟨0, _⟩ => rfl
    | ⟨1, _⟩ => rfl
    | ⟨2, _⟩ => rfl
    | ⟨3, _⟩ => exact (congrArg Fin.val (congrFun e 0)).symm
  · rintro ⟨k, rfl⟩
    funext b; apply Fin.ext
    match b with
    | ⟨0, _⟩ => rfl

/-- The host's sum over axes 0, 1 and 2 at `j`: the initial value plus the triple sum. -/
theorem hostReduceAdd_lead3 (h : (⟨4, ![n0, n1, n2, n3]⟩ : Shape).ReducesTo [0, 1, 2] (⟨1, ![n3]⟩ : Shape))
    (v : (⟨4, ![n0, n1, n2, n3]⟩ : Shape).Idx → EReal) (init : EReal) (j : (⟨1, ![n3]⟩ : Shape).Idx) :
    Ideal.hostReduceAdd h v init j = init + ∑ a : Fin n0, ∑ b : Fin n1, ∑ c : Fin n2, v (ix4 a b c (j 0)) := by
  classical
  refine congrArg (init + ·) ?_
  refine Eq.trans (Finset.sum_congr (Finset.filter_congr_decidable _ _ _) fun _ _ => rfl)
    ((Finset.sum_filter_eq_sum_of_fiber (fun i => h.drop i = j) (fun k : Fin n0 × Fin n1 × Fin n2 => ix4 k.1 k.2.1 k.2.2 (j 0))
    (fun _ _ e => Prod.ext (congrFun e 0) (Prod.ext (congrFun e 1) (congrFun e 2))) (lead3_fiber h j) v).trans ?_)
  simp only [Fintype.sum_prod_type]

/-- A sum over batches, centres and neighbours is the sum over the 524288 flat rows. -/
theorem sum_rows (f : Fin 16 → Fin 1024 → Fin 32 → EReal) :
    ∑ a : Fin 16, ∑ b : Fin 1024, ∑ k : Fin 32, f a b k
      = ∑ r : Fin 524288, f ⟨r.val / 32768, by omega⟩ ⟨r.val / 32 % 1024, by omega⟩ ⟨r.val % 32, by omega⟩ := by
  have h1 : ∀ a : Fin 16, ∑ b : Fin 1024, ∑ k : Fin 32, f a b k
      = ∑ q : Fin 32768, f a ⟨q.val / 32, by omega⟩ ⟨q.val % 32, by omega⟩ := fun a =>
    Fin.sum_mul_add_congr fun b k hl => by
      rw [show (⟨(b.val * 32 + k.val) / 32, by omega⟩ : Fin 1024) = b from Fin.ext (by show (b.val * 32 + k.val) / 32 = b.val; omega),
        show (⟨(b.val * 32 + k.val) % 32, by omega⟩ : Fin 32) = k from Fin.ext (by show (b.val * 32 + k.val) % 32 = k.val; omega)]
  rw [Finset.sum_congr rfl fun a _ => h1 a]
  refine Fin.sum_mul_add_congr fun a q hl => ?_
  rw [show (⟨(a.val * 32768 + q.val) / 32768, by omega⟩ : Fin 16) = a from
      Fin.ext (by show (a.val * 32768 + q.val) / 32768 = a.val; omega),
    show (⟨(a.val * 32768 + q.val) / 32 % 1024, by omega⟩ : Fin 1024) = ⟨q.val / 32, by omega⟩ from
      Fin.ext (by show (a.val * 32768 + q.val) / 32 % 1024 = q.val / 32; omega),
    show (⟨(a.val * 32768 + q.val) % 32, by omega⟩ : Fin 32) = ⟨q.val % 32, by omega⟩ from
      Fin.ext (by show (a.val * 32768 + q.val) % 32 = q.val % 32; omega)]

end Cert.Rows
-- ==== Proof.RefPlain.lean ====
/- The reference's layers as plain functions of rows and channels. -/
module

public import proofs.«01_k».proof.Proof.Plain
public import proofs.«01_k».proof.Proof.Reduce

@[expose] public section

noncomputable section

namespace Cert.Plain

open Idealize.ShloMosaic

/-- A channel's sum over the rows. -/
def sumR {O : Nat} (y : Fin 524288 → Fin O → EReal) (o : Fin O) : EReal := ∑ r, y r o

/-- A channel's squared deviations from its mean, summed over the rows. -/
def devR {O : Nat} (y : Fin 524288 → Fin O → EReal) (o : Fin O) : EReal :=
  ∑ r, (y r o - Ideal.div (sumR y o) Batch.nRows) * (y r o - Ideal.div (sumR y o) Batch.nRows)

/-- The reference's normalised and rectified value. -/
def normR {O : Nat} (y : Fin 524288 → Fin O → EReal) (g be : Fin O → EReal) (x : Fin O → EReal) (o : Fin O) : EReal :=
  max (Batch.unitR (sumR y o) (devR y o) (x o) * g o + be o) 0

/-- The reference's next layer. -/
def nextR {K O : Nat} (y : Fin 524288 → Fin K → EReal) (g be : Fin K → EReal) (W : Fin K → Fin O → EReal) (b : Fin O → EReal)
    (r : Fin 524288) : Fin O → EReal :=
  dense (normR y g be (y r)) W b

/-- The reference's output of a group: the largest of its 32 normalised and rectified rows. -/
def lastR {O : Nat} (y : Fin 524288 → Fin O → EReal) (g be : Fin O → EReal) (q : Fin 16384) (o : Fin O) : EReal :=
  Finset.univ.fold max ⊥ fun k : Fin 32 => normR y g be (y (rowOf q k)) o

/-- An array over batches, centres and neighbours, as rows. -/
def flat {O : Nat} (v : (⟨4, ![16, 1024, 32, O]⟩ : Shape).Idx → EReal) (r : Fin 524288) (o : Fin O) : EReal :=
  v (ix4 (batchOf r) (centreOf r) (nbrOf r) o)

/-- The row of a batch's centre's neighbour. -/
def rowAt (a : Fin 16) (b : Fin 1024) (k : Fin 32) : Fin 524288 := ⟨a.val * 32768 + b.val * 32 + k.val, by omega⟩

theorem flat_rowAt {O : Nat} (v : (⟨4, ![16, 1024, 32, O]⟩ : Shape).Idx → EReal) (a : Fin 16) (b : Fin 1024) (k : Fin 32) (o : Fin O) :
    flat v (rowAt a b k) o = v (ix4 a b k o) := by
  have ha : batchOf (rowAt a b k) = a := Fin.ext (by simp only [batchOf, rowAt]; omega)
  have hb : centreOf (rowAt a b k) = b := Fin.ext (by simp only [centreOf, rowAt]; omega)
  have hk : nbrOf (rowAt a b k) = k := Fin.ext (by simp only [nbrOf, rowAt]; omega)
  unfold flat
  rw [ha, hb, hk]

/-- A sum over the three leading axes, from zero, is the sum over the rows. -/
theorem sum_flat {O : Nat} (h : (⟨4, ![16, 1024, 32, O]⟩ : Shape).ReducesTo [0, 1, 2] (⟨1, ![O]⟩ : Shape))
    (v : (⟨4, ![16, 1024, 32, O]⟩ : Shape).Idx → EReal) (init : EReal) (hi : init = 0) (o : Fin O) :
    Ideal.hostReduceAdd h v init (ix1 o) = ∑ r, flat v r o := by
  subst hi
  refine (Rows.hostReduceAdd_lead3 h v 0 (ix1 o)).trans ((zero_add _).trans ?_)
  exact Rows.sum_rows fun a b k => v (ix4 a b k o)

/-- The reference divides by the number of rows less a zero read off an integer, if that is positive. -/
theorem select_rows (x y : EReal) :
    (if 0 < Ideal.ofBits FTy.f32 1224736768#32 - FloatOps.sitofp (F := Ideal) FTy.f32 0#32
      then Ideal.div x (Ideal.ofBits FTy.f32 1224736768#32 - FloatOps.sitofp (F := Ideal) FTy.f32 0#32) else y) = Ideal.div x Batch.nRows := by
  have h0 : (FloatOps.sitofp (F := Ideal) FTy.f32 0#32 : EReal) = 0 := by
    show (((0#32 : BitVec 32).toInt : ℝ) : EReal) = 0
    simp
  have hn : Ideal.ofBits FTy.f32 1224736768#32 = Batch.nRows := rfl
  rw [h0, sub_zero, hn, if_pos]
  rw [Batch.nRows_eq]
  exact_mod_cast (by norm_num : (0 : ℝ) < 524288)

end Cert.Plain
-- ==== Proof.Equation.lean ====
/- The kernel's layers and the reference's are equal where the values are finite. -/
module

public import proofs.«01_k».proof.Proof.RefPlain

@[expose] public section

noncomputable section

namespace Cert.Plain

open Idealize.ShloMosaic

/-- A finite extended real. -/
def Real (x : EReal) : Prop := ∃ a : ℝ, x = (a : EReal)

theorem Real.add {x y : EReal} (hx : Real x) (hy : Real y) : Real (x + y) := by
  obtain ⟨a, rfl⟩ := hx
  obtain ⟨b, rfl⟩ := hy
  exact ⟨a + b, (EReal.coe_add a b).symm⟩

theorem Real.mul {x y : EReal} (hx : Real x) (hy : Real y) : Real (x * y) := by
  obtain ⟨a, rfl⟩ := hx
  obtain ⟨b, rfl⟩ := hy
  exact ⟨a * b, (EReal.coe_mul a b).symm⟩

theorem Real.sum {ι : Type} (s : Finset ι) (f : ι → EReal) (hf : ∀ i, Real (f i)) : Real (∑ i ∈ s, f i) := by
  classical
  induction s using Finset.induction_on with
  | empty => exact ⟨0, by simp⟩
  | insert a s ha ih => rw [Finset.sum_insert ha]; exact (hf a).add ih

theorem Real.max_zero {x : EReal} (hx : Real x) : Real (max x 0) := by
  rcases le_total x 0 with h | h
  · rw [max_eq_right h]; exact ⟨0, rfl⟩
  · rw [max_eq_left h]; exact hx

/-- A dense layer of finite values with finite weights is finite. -/
theorem dense_real {K O : Nat} {x : Fin K → EReal} {W : Fin K → Fin O → EReal} {b : Fin O → EReal}
    (hx : ∀ k, Real (x k)) (hW : ∀ k o, Real (W k o)) (hb : ∀ o, Real (b o)) (o : Fin O) : Real (dense x W b o) :=
  (Real.sum _ _ fun k => (hx k).mul (hW k o)).add (hb o)

/-- Over finite rows both normalisations are one increasing affine map per channel. -/
theorem unit_affine {O : Nat} (y : Fin 524288 → Fin O → EReal) (hy : ∀ r o, Real (y r o)) (o : Fin O) :
    ∃ μ ρ : ℝ, 0 < ρ ∧ ∀ x : ℝ,
      Batch.unitK (moments y (ix2 0 o)) (moments y (ix2 1 o)) x = (((x - μ) * ρ : ℝ) : EReal)
      ∧ Batch.unitR (sumR y o) (devR y o) x = (((x - μ) * ρ : ℝ) : EReal) := by
  choose z hz using fun r => hy r o
  have h0 : moments y (ix2 0 o) = sumR y o := rfl
  have h1 : moments y (ix2 1 o) = ∑ r, y r o * y r o := rfl
  rw [h0]
  refine Batch.unit_eq (by rw [Fintype.card_fin]; norm_num) z _ _ _ (Finset.sum_congr rfl fun r _ => hz r)
    (h1.trans (Finset.sum_congr rfl fun r _ => by rw [hz r])) (Finset.sum_congr rfl fun r _ => by rw [hz r])

/-- The two normalised and rectified values of a finite row are equal. -/
theorem norm_eq {O : Nat} (y : Fin 524288 → Fin O → EReal) (hy : ∀ r o, Real (y r o)) (g be x : Fin O → EReal) (hx : ∀ o, Real (x o)) :
    normK (moments y) g be x = normR y g be x := by
  funext o
  obtain ⟨μ, ρ, -, h⟩ := unit_affine y hy o
  obtain ⟨a, ha⟩ := hx o
  unfold normK normR
  rw [ha, (h a).1, (h a).2]

/-- They are finite where the scale and the shift are. -/
theorem norm_real {O : Nat} (y : Fin 524288 → Fin O → EReal) (hy : ∀ r o, Real (y r o)) (g be x : Fin O → EReal) (hx : ∀ o, Real (x o))
    (hg : ∀ o, Real (g o)) (hb : ∀ o, Real (be o)) (o : Fin O) : Real (normR y g be x o) := by
  obtain ⟨μ, ρ, -, h⟩ := unit_affine y hy o
  obtain ⟨a, ha⟩ := hx o
  unfold normR
  rw [ha, (h a).2]
  exact ((Real.mul ⟨_, rfl⟩ (hg o)).add (hb o)).max_zero

/-- The next layers are equal. -/
theorem next_eq {K O : Nat} (y : Fin 524288 → Fin K → EReal) (hy : ∀ r o, Real (y r o)) (g be : Fin K → EReal) (W : Fin K → Fin O → EReal)
    (b : Fin O → EReal) : nextK y g be W b = nextR y g be W b := by
  funext r
  unfold nextK nextR
  rw [norm_eq y hy g be (y r) (hy r)]

theorem next_real {K O : Nat} (y : Fin 524288 → Fin K → EReal) (hy : ∀ r o, Real (y r o)) (g be : Fin K → EReal) (W : Fin K → Fin O → EReal)
    (b : Fin O → EReal) (hg : ∀ o, Real (g o)) (hb : ∀ o, Real (be o)) (hW : ∀ k o, Real (W k o)) (hbb : ∀ o, Real (b o))
    (r : Fin 524288) (o : Fin O) : Real (nextR y g be W b r o) :=
  dense_real (norm_real y hy g be (y r) (hy r) hg hb) hW hbb o

/-- A product by a nonnegative factor increases, one by a nonpositive factor decreases. -/
theorem mul_mono_pos {a b g : EReal} (hg : 0 ≤ g) (h : a ≤ b) : a * g ≤ b * g := mul_le_mul_of_nonneg_right h hg
theorem mul_anti_neg {a b g : EReal} (hg : g ≤ 0) (h : a ≤ b) : b * g ≤ a * g := by
  have h' : a * (-g) ≤ b * (-g) := mul_mono_pos (EReal.neg_nonneg.2 hg) h
  rw [mul_neg, mul_neg] at h'
  exact EReal.neg_le_neg_iff.1 h'

/-- The largest value of a family is the value at any index that dominates. -/
theorem fold_max_at {n : Nat} (f : Fin n → EReal) (k : Fin n) (h : ∀ i, f i ≤ f k) : Finset.univ.fold max ⊥ f = f k :=
  le_antisymm (Finset.fold_max_le _ |>.2 ⟨bot_le, fun i _ => h i⟩) (Finset.le_fold_max _ |>.2 (Or.inr ⟨k, Finset.mem_univ k, le_rfl⟩))
theorem fold_min_at {n : Nat} (f : Fin n → EReal) (k : Fin n) (h : ∀ i, f k ≤ f i) : Finset.univ.fold min ⊤ f = f k :=
  le_antisymm (Finset.fold_min_le _ |>.2 (Or.inr ⟨k, Finset.mem_univ k, le_rfl⟩)) (Finset.le_fold_min _ |>.2 ⟨le_top, fun i _ => h i⟩)

/-- Normalising the largest or the smallest of a group, by the sign of the scale, gives the largest of the normalised group. -/
theorem last_eq {O : Nat} (y : Fin 524288 → Fin O → EReal) (hy : ∀ r o, Real (y r o)) (g be : Fin O → EReal) (q : Fin 16384) (o : Fin O) :
    lastK y g be q o = lastR y g be q o := by
  obtain ⟨μ, ρ, hρ, h⟩ := unit_affine y hy o
  choose z hz using fun k : Fin 32 => hy (rowOf q k) o
  have hR : ∀ k, normR y g be (y (rowOf q k)) o = max ((((z k - μ) * ρ : ℝ) : EReal) * g o + be o) 0 := fun k => by
    unfold normR
    rw [hz k, (h (z k)).2]
  have hK : ∀ k, (if 0 < g o then top y q o else bot y q o) = y (rowOf q k) o →
      lastK y g be q o = max ((((z k - μ) * ρ : ℝ) : EReal) * g o + be o) 0 := fun k hk => by
    show max (Batch.unitK _ _ (if 0 < g o then top y q o else bot y q o) * g o + be o) 0 = _
    rw [hk, hz k, (h (z k)).1]
  have mono : ∀ i k, z i ≤ z k → (((z i - μ) * ρ : ℝ) : EReal) ≤ (((z k - μ) * ρ : ℝ) : EReal) := fun i k hik =>
    EReal.coe_le_coe_iff.2 (mul_le_mul_of_nonneg_right (sub_le_sub_right hik μ) hρ.le)
  unfold lastR
  rw [funext hR]
  by_cases hg : 0 < g o
  · obtain ⟨k, -, hk⟩ := Finset.exists_max_image Finset.univ z ⟨0, Finset.mem_univ _⟩
    have ht : top y q o = y (rowOf q k) o :=
      fold_max_at (fun k => y (rowOf q k) o) k fun i => by
        show y (rowOf q i) o ≤ y (rowOf q k) o
        rw [hz i, hz k]; exact EReal.coe_le_coe_iff.2 (hk i (Finset.mem_univ i))
    rw [hK k (by rw [if_pos hg, ht])]
    refine (fold_max_at (fun k : Fin 32 => max ((((z k - μ) * ρ : ℝ) : EReal) * g o + be o) 0) k fun i => ?_).symm
    exact max_le_max (add_le_add (mul_mono_pos hg.le (mono i k (hk i (Finset.mem_univ i)))) le_rfl) le_rfl
  · obtain ⟨k, -, hk⟩ := Finset.exists_min_image Finset.univ z ⟨0, Finset.mem_univ _⟩
    have ht : bot y q o = y (rowOf q k) o :=
      fold_min_at (fun k => y (rowOf q k) o) k fun i => by
        show y (rowOf q k) o ≤ y (rowOf q i) o
        rw [hz i, hz k]; exact EReal.coe_le_coe_iff.2 (hk i (Finset.mem_univ i))
    rw [hK k (by rw [if_neg hg, ht])]
    refine (fold_max_at (fun k : Fin 32 => max ((((z k - μ) * ρ : ℝ) : EReal) * g o + be o) 0) k fun i => ?_).symm
    exact max_le_max (add_le_add (mul_anti_neg (not_lt.1 hg) (mono k i (hk i (Finset.mem_univ i)))) le_rfl) le_rfl

end Cert.Plain
-- ==== Proof.Stats.lean ====
/- The pair of channel sums a grid step leaves: row 0 gains the sum over the block's rows, row 1 the sum of
   squares. The first step of the grid writes zeros first. -/
module

public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.KernelIdeal.Stats

open Idealize.ShloMosaic Idealize.ShloMosaic.TcCoe Idealize.SL.Sem
open Cert.KernelIdeal Cert.KernelIdeal.Gen

variable {n : Nat}

/-- Two rows of `n` channels, and one of them. -/
abbrev Two (n : Nat) : Shape := ⟨2, ![2, n]⟩
abbrev One (n : Nat) : Shape := ⟨2, ![1, n]⟩

/-- Row 0, row 1 and the whole of the pair. -/
abbrev row0 (h : ∀ a, (![0, 0] : Fin 2 → Nat) a + (![1, n] : Fin 2 → Nat) a ≤ (Two n).size a) : Rect (Two n) := Rect.unit (s := Two n) ![0, 0] ![1, n] h
abbrev row1 (h : ∀ a, (![1, 0] : Fin 2 → Nat) a + (![1, n] : Fin 2 → Nat) a ≤ (Two n).size a) : Rect (Two n) := Rect.unit (s := Two n) ![1, 0] ![1, n] h
abbrev both (h : ∀ a, (![0, 0] : Fin 2 → Nat) a + (![2, n] : Fin 2 → Nat) a ≤ (Two n).size a) : Rect (Two n) := Rect.unit (s := Two n) ![0, 0] ![2, n] h

/-- Two stacked rows, each what it held plus an increment, over earlier stores. -/
theorem canonB (acc : FVec Ideal (Two n) .f32) (P Q : FVec Ideal (One n) .f32 → FVec Ideal (One n) .f32) (p q : Fin n → EReal)
    (hP : ∀ v j, P v j = v j + p (j 1)) (hQ : ∀ v j, Q v j = v j + q (j 1)) (h0) (h1)
    (L' : List (View.Piece (Elt Ideal) (Two n) .f32)) (y : (Two n).Idx) :
    (View.canon (([⟨row1 h1, Q (View.ld (Val := Elt Ideal) (e' := .f32) acc (row1 h1))⟩, ⟨row0 h0, P (View.ld (Val := Elt Ideal) (e' := .f32) acc (row0 h0))⟩] :
        List (View.Piece (Elt Ideal) (Two n) .f32)) ++ L') y : EReal)
    = acc y + if (y 0).val = 0 then p (y 1) else q (y 1) := by
  refine View.canon_append_of_piecesOf (Val := Elt Ideal) (e := .f32) (fun y : (Two n).Idx => acc y + if (y 0).val = 0 then p (y 1) else q (y 1)) L' _
    ?_ y ?_
  · refine ⟨fun x => (hQ _ x).trans ?_, fun x => (hP _ x).trans ?_, trivial⟩
    · have e0 : ((row1 h1).emb x 0).val = 1 + 1 * (x 0).val := rfl
      have e1 : (row1 h1).emb x 1 = x 1 := Fin.ext (show 0 + 1 * (x 1).val = (x 1).val by omega)
      show acc ((row1 h1).emb x) + q (x 1)
        = acc ((row1 h1).emb x) + if ((row1 h1).emb x 0).val = 0 then p ((row1 h1).emb x 1) else q ((row1 h1).emb x 1)
      rw [if_neg (by omega), e1]
    · have hx : (x 0).val < 1 := (x 0).isLt
      have e0 : ((row0 h0).emb x 0).val = 0 + 1 * (x 0).val := rfl
      have e1 : (row0 h0).emb x 1 = x 1 := Fin.ext (show 0 + 1 * (x 1).val = (x 1).val by omega)
      show acc ((row0 h0).emb x) + p (x 1)
        = acc ((row0 h0).emb x) + if ((row0 h0).emb x 0).val = 0 then p ((row0 h0).emb x 1) else q ((row0 h0).emb x 1)
      rw [if_pos (by omega), e1]
  · have hy0 : (y 0).val < 2 := (y 0).isLt
    have hy1 : (y 1).val < n := (y 1).isLt
    by_cases h : (y 0).val = 0
    · refine ⟨_, List.mem_cons_of_mem _ (List.mem_cons_self ..), ?_⟩
      rw [Rect.mem_set_unit]
      intro a
      match a with
      | ⟨0, _⟩ => exact ⟨Nat.zero_le _, show (y 0).val < 0 + 1 by omega⟩
      | ⟨1, _⟩ => exact ⟨Nat.zero_le _, show (y 1).val < 0 + n by omega⟩
    · refine ⟨_, List.mem_cons_self .., ?_⟩
      rw [Rect.mem_set_unit]
      intro a
      match a with
      | ⟨0, _⟩ => exact ⟨show 1 ≤ (y 0).val by omega, show (y 0).val < 1 + 1 by omega⟩
      | ⟨1, _⟩ => exact ⟨Nat.zero_le _, show (y 1).val < 0 + n by omega⟩

/-- Two stacked rows, each its old contents plus an increment, over a zero fill. -/
theorem canonA (v : View sig .tc .vmem (Two n) .f32) (Z : FVec Ideal (Two n) .f32)
    (hz : ∀ j, Z j = 0) (P Q : FVec Ideal (One n) .f32 → FVec Ideal (One n) .f32) (p q : Fin n → EReal)
    (hP : ∀ v j, P v j = v j + p (j 1)) (hQ : ∀ v j, Q v j = v j + q (j 1)) (h0) (h1) (h2)
    (hd : LoadRect.disj (row0 (n := n) h0) (row1 (n := n) h1).toLoadRect = true) (y : (Two n).Idx) :
    (View.canon ([⟨row1 h1, Q (v.readCov ([⟨row0 h0, P (v.readCov ([⟨both h2, Z⟩] : List (View.Piece (Elt Ideal) (Two n) .f32)) (row0 h0).toLoadRect)⟩, ⟨both h2, Z⟩] :
            List (View.Piece (Elt Ideal) (Two n) .f32)) (row1 h1).toLoadRect)⟩,
        ⟨row0 h0, P (v.readCov ([⟨both h2, Z⟩] : List (View.Piece (Elt Ideal) (Two n) .f32)) (row0 h0).toLoadRect)⟩, ⟨both h2, Z⟩] :
        List (View.Piece (Elt Ideal) (Two n) .f32)) y : EReal)
    = 0 + if (y 0).val = 0 then p (y 1) else q (y 1) := by
  rw [View.readCov_skip _ _ _ _ _ hd, View.readCov_fill _ _ _ _ _ (fun a => by fin_cases a <;> rfl), View.readCov_fill _ _ _ _ _ (fun a => by fin_cases a <;> rfl)]
  exact (canonB Z P Q p q hP hQ h0 h1 [⟨both h2, Z⟩] y).trans (by rw [hz])

end Cert.KernelIdeal.Stats
-- ==== Proof.Region0.lean ====
/- The first pass: every row's 67 inputs through the first dense layer, and the moments of the 64 channels. -/
module

public import proofs.«01_k».proof.Proof.Stats
public import proofs.«01_k».proof.Proof.Plain

@[expose] public section

set_option maxRecDepth 16384

noncomputable section

namespace Cert.KernelIdeal.Region0

open Idealize.ShloMosaic Idealize.ShloMosaic.TcCoe Idealize.SL.Sem
open Cert.KernelIdeal Cert.KernelIdeal.Gen Cert.Plain
open Idealize.ShloMosaic.Pipeline (Dat)

variable (V : (c : Dev nD) → (b : Ref sig .tc) → Buf (Elt Ideal) ((c : Thread nD τ).loc b))

/-- The first layer of every row. -/
def lin (X : FVec Ideal S524288x67 .f32) (W : FVec Ideal S67x64 .f32) (b : FVec Ideal S1x64 .f32) (r : Fin 524288) : Fin 64 → EReal :=
  dense (fun k : Fin 67 => X (ix2 r k)) (fun k o => W (ix2 k o)) (fun o => b (ix2 0 o))

/-- One block of rows. -/
theorem pay_lin (X : FVec Ideal S4096x67 .f32) (W : FVec Ideal S67x64 .f32) (b : FVec Ideal S1x64 .f32) (j : S4096x64.Idx) :
    k0_pay1 (F := Ideal) X W b j = ∑ k : Fin 67, X (ix2 (j 0) k) * W (ix2 k (j 1)) + b (ix2 0 (j 1)) := by
  pointwise [k0_pay1]

theorem pay_zero (j : S2x64.Idx) : k0_pay2 (F := Ideal) j = 0 := by pointwise [k0_pay2]

/-- The block's sums, added to what row 0 held. -/
theorem pay_sum (X : FVec Ideal S4096x67 .f32) (W : FVec Ideal S67x64 .f32) (b v : FVec Ideal S1x64 .f32) (j : S1x64.Idx) :
    k0_pay3 (F := Ideal) X W b v j = v j + ∑ r : Fin 4096, k0_pay1 (F := Ideal) X W b (ix2 r (j 1)) := by
  pointwise [k0_pay3]

/-- The block's sums of squares, added to what row 1 held. -/
theorem pay_sq (X : FVec Ideal S4096x67 .f32) (W : FVec Ideal S67x64 .f32) (b v : FVec Ideal S1x64 .f32) (j : S1x64.Idx) :
    k0_pay4 (F := Ideal) X W b v j
      = v j + ∑ r : Fin 4096, k0_pay1 (F := Ideal) X W b (ix2 r (j 1)) * k0_pay1 (F := Ideal) X W b (ix2 r (j 1)) := by
  pointwise [k0_pay4]

theorem idx : ∀ t : Fin cfg0.N, win0_0.index t = ![t.val, 0] ∧ win0_1.index t = ![0, 0] ∧ win0_2.index t = ![0, 0]
    ∧ win0_3.index t = ![t.val, 0] ∧ win0_4.index t = ![0, 0] :=
  (by decide +kernel : ∀ t : Fin grid0.N, _)

/-- A step's block of rows, read off the array. -/
theorem rows_apply (c : Dev nD) (t : Fin cfg0.N) (a : Fin 4096) (k : Fin 67) (r : Fin 524288) (hr : r.val = t.val * 4096 + a.val) :
    (iblk0 V c 0 t : FVec Ideal S4096x67 .f32) (ix2 a k) = (V c main_v0 : FVec Ideal S524288x67 .f32) (ix2 r k) :=
  congrArg (V c main_v0) (by blk_ext [idx t])
theorem w_eq (c : Dev nD) (t : Fin cfg0.N) : iblk0 V c 1 t = V c main_v1 :=
  funext fun x => congrArg (V c main_v1) (by blk_ext [idx t])
theorem b_eq (c : Dev nD) (t : Fin cfg0.N) : iblk0 V c 2 t = V c main_v2 :=
  funext fun x => congrArg (V c main_v2) (by blk_ext [idx t])

/-- The block of a grid step is the layer at the step's rows. -/
theorem block (c : Dev nD) (t : Fin cfg0.N) (j : S4096x64.Idx) (r : Fin 524288) (o : Fin 64) (hr : r.val = t.val * 4096 + (j 0).val)
    (ho : o.val = (j 1).val) :
    k0_pay1 (F := Ideal) (iblk0 V c 0 t) (iblk0 V c 1 t) (iblk0 V c 2 t) j
      = lin (V c main_v0) (V c main_v1) (V c main_v2) r o := by
  obtain rfl : o = j 1 := Fin.ext ho
  rw [w_eq, b_eq, pay_lin]
  exact congrArg₂ (· + ·) (Finset.sum_congr rfl fun k _ => congrArg₂ (· * ·) (rows_apply V c t (j 0) k r hr) rfl) rfl

/-- The first output array: the first layer. -/
theorem final3 (c : Dev nD) : (dat0 V c).arrAt 3 cfg0.N
    = fun j : S524288x64.Idx => lin (V c main_v0) (V c main_v1) (V c main_v2) (j 0) (j 1) := by
  refine (dat0 V c).arrAt_eq_of_covers 3 _ (by decide +kernel) fun t hf y => ?_
  blk_simp
  rw [after0_3]
  by_cases h : t.val % 128 = 0
  · rw [outsAt0_A V c t h]; frame_out; exact block V c t y _ _ (by blk_simp [idx t]) (by blk_simp [idx t])
  · rw [outsAt0_B V c t h]; frame_out; exact block V c t y _ _ (by blk_simp [idx t]) (by blk_simp [idx t])

/-- The second output array: the moments of the first layer. -/
theorem final4 (c : Dev nD) : (dat0 V c).arrAt 4 cfg0.N = moments (lin (V c main_v0) (V c main_v1) (V c main_v2)) := by
  refine (dat0 V c).arrAt_eq_of_covers 4 _ (by decide +kernel) fun t hf y => ?_
  blk_simp
  rw [after0_4, Pipeline.eq_sum_fin_of_reset_step_apply_of_flush (fun n h => (outsAt0 V c n h).2) 128 (fun _ => 0)
    (fun (p : Fin cfg0.N) (j : S2x64.Idx) => if (j 0).val = 0
      then ∑ r : Fin 4096, k0_pay1 (F := Ideal) (iblk0 V c 0 p) (iblk0 V c 1 p) (iblk0 V c 2 p) (ix2 r (j 1))
      else ∑ r : Fin 4096, k0_pay1 (F := Ideal) (iblk0 V c 0 p) (iblk0 V c 1 p) (iblk0 V c 2 p) (ix2 r (j 1))
        * k0_pay1 (F := Ideal) (iblk0 V c 0 p) (iblk0 V c 1 p) (iblk0 V c 2 p) (ix2 r (j 1)))
    (fun t h j => by
      rw [outsAt0_A V c t h]; frame_out
      exact Stats.canonA (n := 64) (ms0_4 t).view _ pay_zero
        (k0_pay3 (F := Ideal) (iblk0 V c 0 t) (iblk0 V c 1 t) (iblk0 V c 2 t)) (k0_pay4 (F := Ideal) (iblk0 V c 0 t) (iblk0 V c 1 t) (iblk0 V c 2 t))
        (fun o => ∑ r : Fin 4096, k0_pay1 (F := Ideal) (iblk0 V c 0 t) (iblk0 V c 1 t) (iblk0 V c 2 t) (ix2 r o))
        (fun o => ∑ r : Fin 4096, k0_pay1 (F := Ideal) (iblk0 V c 0 t) (iblk0 V c 1 t) (iblk0 V c 2 t) (ix2 r o)
          * k0_pay1 (F := Ideal) (iblk0 V c 0 t) (iblk0 V c 1 t) (iblk0 V c 2 t) (ix2 r o))
        (pay_sum _ _ _) (pay_sq _ _ _) inb_S2x64_S1x64_0_0 inb_S2x64_S1x64_1_0 inb_S2x64_S2x64_0_0 (by decide +kernel) j)
    (fun t h j => by
      rw [outsAt0_B V c t h]; frame_out
      exact Stats.canonB (n := 64) _
        (k0_pay3 (F := Ideal) (iblk0 V c 0 t) (iblk0 V c 1 t) (iblk0 V c 2 t)) (k0_pay4 (F := Ideal) (iblk0 V c 0 t) (iblk0 V c 1 t) (iblk0 V c 2 t))
        (fun o => ∑ r : Fin 4096, k0_pay1 (F := Ideal) (iblk0 V c 0 t) (iblk0 V c 1 t) (iblk0 V c 2 t) (ix2 r o))
        (fun o => ∑ r : Fin 4096, k0_pay1 (F := Ideal) (iblk0 V c 0 t) (iblk0 V c 1 t) (iblk0 V c 2 t) (ix2 r o)
          * k0_pay1 (F := Ideal) (iblk0 V c 0 t) (iblk0 V c 1 t) (iblk0 V c 2 t) (ix2 r o))
        (pay_sum _ _ _) (pay_sq _ _ _) inb_S2x64_S1x64_0_0 inb_S2x64_S1x64_1_0 [] j)
    t ((flush0_4 t).mp hf) _, zero_add]
  have ht : t.val < 128 := lt_of_lt_of_eq t.isLt N_0
  rw [show (win0_4.blk t).view.emb y = y by blk_ext [idx t]]
  have hb : ∀ (s : Fin 128) (k : Fin 4096) (hl : s.val * 4096 + k.val < 524288) (hs : 128 * (t.val / 128) + s.val < cfg0.N),
      k0_pay1 (F := Ideal) (iblk0 V c 0 ⟨128 * (t.val / 128) + s.val, hs⟩) (iblk0 V c 1 ⟨128 * (t.val / 128) + s.val, hs⟩)
        (iblk0 V c 2 ⟨128 * (t.val / 128) + s.val, hs⟩) (ix2 k (y 1)) = lin (V c main_v0) (V c main_v1) (V c main_v2) ⟨s.val * 4096 + k.val, hl⟩ (y 1) :=
    fun s k hl hs => block V c _ _ _ _ (by show s.val * 4096 + k.val = (128 * (t.val / 128) + s.val) * 4096 + k.val; omega) rfl
  unfold moments
  show (_ : EReal) = _
  by_cases h0 : (y 0).val = 0
  · simp only [if_pos h0]
    exact Fin.sum_mul_add_congr fun s k hl => hb s k hl _
  · simp only [if_neg h0]
    exact Fin.sum_mul_add_congr fun s k hl => congrArg₂ (· * ·) (hb s k hl _) (hb s k hl _)

end Cert.KernelIdeal.Region0
-- ==== Proof.Region1.lean ====
/- The second pass: the first layer normalised and rectified, then the second dense layer, and its moments. -/
module

public import proofs.«01_k».proof.Proof.Stats
public import proofs.«01_k».proof.Proof.Plain

@[expose] public section

set_option maxRecDepth 16384

noncomputable section

namespace Cert.KernelIdeal.Region1

open Idealize.ShloMosaic Idealize.ShloMosaic.TcCoe Idealize.SL.Sem
open Cert.KernelIdeal Cert.KernelIdeal.Gen Cert.Plain
open Idealize.ShloMosaic.Pipeline (Dat)

variable (V : (c : Dev nD) → (b : Ref sig .tc) → Buf (Elt Ideal) ((c : Thread nD τ).loc b))

/-- The layer of every row: the previous layer normalised with its moments and rectified, then dense. -/
def lin (X : FVec Ideal S524288x64 .f32) (st : FVec Ideal S2x64 .f32) (g be : FVec Ideal S1x64 .f32) (W : FVec Ideal S64x64 .f32)
    (b : FVec Ideal S1x64 .f32) (r : Fin 524288) : Fin 64 → EReal :=
  dense (normK st (fun k : Fin 64 => g (ix2 0 k)) (fun k => be (ix2 0 k)) (fun k => X (ix2 r k))) (fun k o => W (ix2 k o)) (fun o => b (ix2 0 o))

/-- One block of rows. -/
theorem pay_lin (X : FVec Ideal S4096x64 .f32) (st : FVec Ideal S2x64 .f32) (g be : FVec Ideal S1x64 .f32) (W : FVec Ideal S64x64 .f32)
    (b : FVec Ideal S1x64 .f32) (j : S4096x64.Idx) :
    k1_pay4 (F := Ideal) X st g be W b j
      = dense (normK st (fun k : Fin 64 => g (ix2 0 k)) (fun k => be (ix2 0 k)) (fun k => X (ix2 (j 0) k))) (fun k o => W (ix2 k o)) (fun o => b (ix2 0 o)) (j 1) := by
  unfold dense normK Batch.unitK Batch.invRows Batch.eps
  pointwise [k1_pay4]

theorem pay_zero (j : S2x64.Idx) : k1_pay1 (F := Ideal) j = 0 := by pointwise [k1_pay1]

/-- The block's sums, added to what row 0 held. -/
theorem pay_sum (Y : FVec Ideal S4096x64 .f32) (v : FVec Ideal S1x64 .f32) (j : S1x64.Idx) :
    k1_pay2 (F := Ideal) Y v j = v j + ∑ r : Fin 4096, Y (ix2 r (j 1)) := by
  pointwise [k1_pay2]

/-- The block's sums of squares, added to what row 1 held. -/
theorem pay_sq (Y : FVec Ideal S4096x64 .f32) (v : FVec Ideal S1x64 .f32) (j : S1x64.Idx) :
    k1_pay3 (F := Ideal) Y v j = v j + ∑ r : Fin 4096, Y (ix2 r (j 1)) * Y (ix2 r (j 1)) := by
  pointwise [k1_pay3]

theorem idx : ∀ t : Fin cfg1.N, win1_0.index t = ![t.val, 0] ∧ win1_1.index t = ![0, 0] ∧ win1_2.index t = ![0, 0] ∧ win1_3.index t = ![0, 0] ∧ win1_4.index t = ![0, 0] ∧ win1_5.index t = ![0, 0] ∧ win1_6.index t = ![t.val, 0] ∧ win1_7.index t = ![0, 0] :=
  (by decide +kernel : ∀ t : Fin grid1.N, _)

/-- A step's block of rows, read off the array. -/
theorem rows_apply (c : Dev nD) (t : Fin cfg1.N) (a : Fin 4096) (k : Fin 64) (r : Fin 524288) (hr : r.val = t.val * 4096 + a.val) :
    (iblk1 V c 0 t : FVec Ideal S4096x64 .f32) (ix2 a k) = (V c main_v3_0 : FVec Ideal S524288x64 .f32) (ix2 r k) :=
  congrArg (V c main_v3_0) (by blk_ext [idx t])
theorem in1_eq (c : Dev nD) (t : Fin cfg1.N) : iblk1 V c 1 t = V c main_v3_1 :=
  funext fun x => congrArg (V c main_v3_1) (by blk_ext [idx t])
theorem in2_eq (c : Dev nD) (t : Fin cfg1.N) : iblk1 V c 2 t = V c main_v4 :=
  funext fun x => congrArg (V c main_v4) (by blk_ext [idx t])
theorem in3_eq (c : Dev nD) (t : Fin cfg1.N) : iblk1 V c 3 t = V c main_v5 :=
  funext fun x => congrArg (V c main_v5) (by blk_ext [idx t])
theorem in4_eq (c : Dev nD) (t : Fin cfg1.N) : iblk1 V c 4 t = V c main_v6 :=
  funext fun x => congrArg (V c main_v6) (by blk_ext [idx t])
theorem in5_eq (c : Dev nD) (t : Fin cfg1.N) : iblk1 V c 5 t = V c main_v7 :=
  funext fun x => congrArg (V c main_v7) (by blk_ext [idx t])

/-- The block a grid step computes. -/
abbrev blockOf (c : Dev nD) (t : Fin cfg1.N) : FVec Ideal S4096x64 .f32 :=
  k1_pay4 (F := Ideal) (iblk1 V c 0 t) (iblk1 V c 1 t) (iblk1 V c 2 t) (iblk1 V c 3 t) (iblk1 V c 4 t) (iblk1 V c 5 t)

/-- The layer over the arrays as the pass finds them. -/
abbrev linOf (c : Dev nD) : Fin 524288 → Fin 64 → EReal :=
  lin (V c main_v3_0) (V c main_v3_1) (V c main_v4) (V c main_v5) (V c main_v6) (V c main_v7)

/-- The block of a grid step is the layer at the step's rows. -/
theorem block (c : Dev nD) (t : Fin cfg1.N) (j : S4096x64.Idx) (r : Fin 524288) (o : Fin 64) (hr : r.val = t.val * 4096 + (j 0).val)
    (ho : o.val = (j 1).val) : blockOf V c t j = linOf V c r o := by
  obtain rfl : o = j 1 := Fin.ext ho
  unfold blockOf linOf
  rw [in1_eq, in2_eq, in3_eq, in4_eq, in5_eq, pay_lin, show (fun k : Fin 64 => (iblk1 V c 0 t : FVec Ideal S4096x64 .f32) (ix2 (j 0) k))
    = fun k => (V c main_v3_0 : FVec Ideal S524288x64 .f32) (ix2 r k) from funext fun k => rows_apply V c t (j 0) k r hr]
  rfl

/-- The first output array: the layer. -/
theorem final6 (c : Dev nD) : (dat1 V c).arrAt 6 cfg1.N = fun j : S524288x64.Idx => linOf V c (j 0) (j 1) := by
  refine (dat1 V c).arrAt_eq_of_covers 6 _ (by decide +kernel) fun t hf y => ?_
  blk_simp
  rw [after1_6]
  by_cases h : t.val % 128 = 0
  · rw [outsAt1_A V c t h]; frame_out; exact block V c t y _ _ (by blk_simp [idx t]) (by blk_simp [idx t])
  · rw [outsAt1_B V c t h]; frame_out; exact block V c t y _ _ (by blk_simp [idx t]) (by blk_simp [idx t])

/-- The last output array: the moments of the layer. -/
theorem final7 (c : Dev nD) : (dat1 V c).arrAt 7 cfg1.N = moments (linOf V c) := by
  refine (dat1 V c).arrAt_eq_of_covers 7 _ (by decide +kernel) fun t hf y => ?_
  blk_simp
  rw [after1_7, Pipeline.eq_sum_fin_of_reset_step_apply_of_flush (fun n h => (outsAt1 V c n h).2) 128 (fun _ => 0)
    (fun (p : Fin cfg1.N) (j : S2x64.Idx) => if (j 0).val = 0
      then ∑ r : Fin 4096, blockOf V c p (ix2 r (j 1)) else ∑ r : Fin 4096, blockOf V c p (ix2 r (j 1)) * blockOf V c p (ix2 r (j 1)))
    (fun t h j => by
      rw [outsAt1_A V c t h]; frame_out
      exact Stats.canonA (n := 64) (ms1_7 t).view _ pay_zero (k1_pay2 (F := Ideal) (blockOf V c t)) (k1_pay3 (F := Ideal) (blockOf V c t))
        (fun o => ∑ r : Fin 4096, blockOf V c t (ix2 r o)) (fun o => ∑ r : Fin 4096, blockOf V c t (ix2 r o) * blockOf V c t (ix2 r o))
        (pay_sum _) (pay_sq _) inb_S2x64_S1x64_0_0 inb_S2x64_S1x64_1_0 inb_S2x64_S2x64_0_0 (by decide +kernel) j)
    (fun t h j => by
      rw [outsAt1_B V c t h]; frame_out
      exact Stats.canonB (n := 64) _ (k1_pay2 (F := Ideal) (blockOf V c t)) (k1_pay3 (F := Ideal) (blockOf V c t))
        (fun o => ∑ r : Fin 4096, blockOf V c t (ix2 r o)) (fun o => ∑ r : Fin 4096, blockOf V c t (ix2 r o) * blockOf V c t (ix2 r o))
        (pay_sum _) (pay_sq _) inb_S2x64_S1x64_0_0 inb_S2x64_S1x64_1_0 [] j)
    t ((flush1_7 t).mp hf) _, zero_add]
  have ht : t.val < 128 := lt_of_lt_of_eq t.isLt N_1
  rw [show (win1_7.blk t).view.emb y = y by blk_ext [idx t]]
  have hb : ∀ (s : Fin 128) (k : Fin 4096) (hl : s.val * 4096 + k.val < 524288) (hs : 128 * (t.val / 128) + s.val < cfg1.N),
      blockOf V c ⟨128 * (t.val / 128) + s.val, hs⟩ (ix2 k (y 1)) = linOf V c ⟨s.val * 4096 + k.val, hl⟩ (y 1) :=
    fun s k hl hs => block V c _ _ _ _ (by show s.val * 4096 + k.val = (128 * (t.val / 128) + s.val) * 4096 + k.val; omega) rfl
  unfold moments
  show (_ : EReal) = _
  by_cases h0 : (y 0).val = 0
  · simp only [if_pos h0]
    exact Fin.sum_mul_add_congr fun s k hl => hb s k hl _
  · simp only [if_neg h0]
    exact Fin.sum_mul_add_congr fun s k hl => congrArg₂ (· * ·) (hb s k hl _) (hb s k hl _)

end Cert.KernelIdeal.Region1
-- ==== Proof.Region2.lean ====
/- The third pass: the second layer normalised and rectified, the third dense layer with its moments, and the
   largest and smallest value of every group of 32 rows. -/
module

public import proofs.«01_k».proof.Proof.Stats
public import proofs.«01_k».proof.Proof.Plain

@[expose] public section

set_option maxRecDepth 16384

noncomputable section

namespace Cert.KernelIdeal.Region2

open Idealize.ShloMosaic Idealize.ShloMosaic.TcCoe Idealize.SL.Sem
open Cert.KernelIdeal Cert.KernelIdeal.Gen Cert.Plain
open Idealize.ShloMosaic.Pipeline (Dat)

variable (V : (c : Dev nD) → (b : Ref sig .tc) → Buf (Elt Ideal) ((c : Thread nD τ).loc b))

/-- The layer of every row: the previous layer normalised with its moments and rectified, then dense. -/
def lin (X : FVec Ideal S524288x64 .f32) (st : FVec Ideal S2x64 .f32) (g be : FVec Ideal S1x64 .f32) (W : FVec Ideal S64x128 .f32)
    (b : FVec Ideal S1x128 .f32) (r : Fin 524288) : Fin 128 → EReal :=
  dense (normK st (fun k : Fin 64 => g (ix2 0 k)) (fun k => be (ix2 0 k)) (fun k => X (ix2 r k))) (fun k o => W (ix2 k o)) (fun o => b (ix2 0 o))

/-- One block of rows. -/
theorem pay_lin (X : FVec Ideal S4096x64 .f32) (st : FVec Ideal S2x64 .f32) (g be : FVec Ideal S1x64 .f32) (W : FVec Ideal S64x128 .f32)
    (b : FVec Ideal S1x128 .f32) (j : S4096x128.Idx) :
    k2_pay7 (F := Ideal) X st g be W b j
      = dense (normK st (fun k : Fin 64 => g (ix2 0 k)) (fun k => be (ix2 0 k)) (fun k => X (ix2 (j 0) k))) (fun k o => W (ix2 k o)) (fun o => b (ix2 0 o)) (j 1) := by
  unfold dense normK Batch.unitK Batch.invRows Batch.eps
  pointwise [k2_pay7]

theorem pay_zero (j : S2x128.Idx) : k2_pay1 (F := Ideal) j = 0 := by pointwise [k2_pay1]

/-- The block's sums, added to what row 0 held. -/
theorem pay_sum (Y : FVec Ideal S4096x128 .f32) (v : FVec Ideal S1x128 .f32) (j : S1x128.Idx) :
    k2_pay2 (F := Ideal) Y v j = v j + ∑ r : Fin 4096, Y (ix2 r (j 1)) := by
  pointwise [k2_pay2]

/-- The block's sums of squares, added to what row 1 held. -/
theorem pay_sq (Y : FVec Ideal S4096x128 .f32) (v : FVec Ideal S1x128 .f32) (j : S1x128.Idx) :
    k2_pay3 (F := Ideal) Y v j = v j + ∑ r : Fin 4096, Y (ix2 r (j 1)) * Y (ix2 r (j 1)) := by
  pointwise [k2_pay3]

theorem idx : ∀ t : Fin cfg2.N, win2_0.index t = ![t.val, 0] ∧ win2_1.index t = ![0, 0] ∧ win2_2.index t = ![0, 0] ∧ win2_3.index t = ![0, 0] ∧ win2_4.index t = ![0, 0] ∧ win2_5.index t = ![0, 0] ∧ win2_6.index t = ![t.val, 0] ∧ win2_7.index t = ![t.val, 0] ∧ win2_8.index t = ![0, 0] :=
  (by decide +kernel : ∀ t : Fin grid2.N, _)

/-- A step's block of rows, read off the array. -/
theorem rows_apply (c : Dev nD) (t : Fin cfg2.N) (a : Fin 4096) (k : Fin 64) (r : Fin 524288) (hr : r.val = t.val * 4096 + a.val) :
    (iblk2 V c 0 t : FVec Ideal S4096x64 .f32) (ix2 a k) = (V c main_v8_0 : FVec Ideal S524288x64 .f32) (ix2 r k) :=
  congrArg (V c main_v8_0) (by blk_ext [idx t])
theorem in1_eq (c : Dev nD) (t : Fin cfg2.N) : iblk2 V c 1 t = V c main_v8_1 :=
  funext fun x => congrArg (V c main_v8_1) (by blk_ext [idx t])
theorem in2_eq (c : Dev nD) (t : Fin cfg2.N) : iblk2 V c 2 t = V c main_v9 :=
  funext fun x => congrArg (V c main_v9) (by blk_ext [idx t])
theorem in3_eq (c : Dev nD) (t : Fin cfg2.N) : iblk2 V c 3 t = V c main_v10 :=
  funext fun x => congrArg (V c main_v10) (by blk_ext [idx t])
theorem in4_eq (c : Dev nD) (t : Fin cfg2.N) : iblk2 V c 4 t = V c main_v11 :=
  funext fun x => congrArg (V c main_v11) (by blk_ext [idx t])
theorem in5_eq (c : Dev nD) (t : Fin cfg2.N) : iblk2 V c 5 t = V c main_v12 :=
  funext fun x => congrArg (V c main_v12) (by blk_ext [idx t])

/-- The block a grid step computes. -/
abbrev blockOf (c : Dev nD) (t : Fin cfg2.N) : FVec Ideal S4096x128 .f32 :=
  k2_pay7 (F := Ideal) (iblk2 V c 0 t) (iblk2 V c 1 t) (iblk2 V c 2 t) (iblk2 V c 3 t) (iblk2 V c 4 t) (iblk2 V c 5 t)

/-- The layer over the arrays as the pass finds them. -/
abbrev linOf (c : Dev nD) : Fin 524288 → Fin 128 → EReal :=
  lin (V c main_v8_0) (V c main_v8_1) (V c main_v9) (V c main_v10) (V c main_v11) (V c main_v12)

/-- The block of a grid step is the layer at the step's rows. -/
theorem block (c : Dev nD) (t : Fin cfg2.N) (j : S4096x128.Idx) (r : Fin 524288) (o : Fin 128) (hr : r.val = t.val * 4096 + (j 0).val)
    (ho : o.val = (j 1).val) : blockOf V c t j = linOf V c r o := by
  obtain rfl : o = j 1 := Fin.ext ho
  unfold blockOf linOf
  rw [in1_eq, in2_eq, in3_eq, in4_eq, in5_eq, pay_lin, show (fun k : Fin 64 => (iblk2 V c 0 t : FVec Ideal S4096x64 .f32) (ix2 (j 0) k))
    = fun k => (V c main_v8_0 : FVec Ideal S524288x64 .f32) (ix2 r k) from funext fun k => rows_apply V c t (j 0) k r hr]
  rfl

/-- The largest of a group of 32 rows, per channel. -/
def top (y : Fin 524288 → Fin 128 → EReal) (j : S16384x128.Idx) : EReal :=
  Finset.univ.fold max ⊥ fun k : Fin 32 => y ⟨(j 0).val * 32 + k.val, by have h : (j 0).val < 16384 := (j 0).isLt; omega⟩ (j 1)

/-- The smallest of a group of 32 rows, per channel. -/
def bot (y : Fin 524288 → Fin 128 → EReal) (j : S16384x128.Idx) : EReal :=
  Finset.univ.fold min ⊤ fun k : Fin 32 => y ⟨(j 0).val * 32 + k.val, by have h : (j 0).val < 16384 := (j 0).isLt; omega⟩ (j 1)

theorem pay_top (Y : FVec Ideal S4096x128 .f32) (j : S128x128.Idx) :
    k2_pay5 (F := Ideal) Y j = Finset.univ.fold max ⊥ fun k : Fin 32 => Y (ix2 ⟨(j 0).val * 32 + k.val, by have h : (j 0).val < 128 := (j 0).isLt; omega⟩ (j 1)) := by
  pointwise [k2_pay5, k2_pay4]
  rw [Batch.negInf_eq]
theorem pay_bot (Y : FVec Ideal S4096x128 .f32) (j : S128x128.Idx) :
    k2_pay6 (F := Ideal) Y j = Finset.univ.fold min ⊤ fun k : Fin 32 => Y (ix2 ⟨(j 0).val * 32 + k.val, by have h : (j 0).val < 128 := (j 0).isLt; omega⟩ (j 1)) := by
  pointwise [k2_pay6, k2_pay4]
  rw [Batch.posInf_eq]

/-- The first output array: the largest of every group. -/
theorem final6 (c : Dev nD) : (dat2 V c).arrAt 6 cfg2.N = top (linOf V c) := by
  refine (dat2 V c).arrAt_eq_of_covers 6 _ (by decide +kernel) fun t hf y => ?_
  blk_simp
  rw [after2_6]
  have e : ∀ k : Fin 32, blockOf V c t (ix2 ⟨(y 0).val * 32 + k.val, by have h : (y 0).val < 128 := (y 0).isLt; omega⟩ (y 1))
      = linOf V c ⟨((win2_6.blk t).view.emb y 0).val * 32 + k.val, by have h : ((win2_6.blk t).view.emb y 0).val < 16384 := ((win2_6.blk t).view.emb y 0).isLt; omega⟩
        ((win2_6.blk t).view.emb y 1) := fun k =>
    block V c t _ _ _ (by blk_simp [idx t]; (try dsimp only); omega) (by blk_simp [idx t])
  by_cases h : t.val % 128 = 0
  · rw [outsAt2_A V c t h]; frame_out
    exact (pay_top (blockOf V c t) y).trans (Finset.fold_congr fun k _ => e k)
  · rw [outsAt2_B V c t h]; frame_out
    exact (pay_top (blockOf V c t) y).trans (Finset.fold_congr fun k _ => e k)

/-- The second output array: the smallest of every group. -/
theorem final7 (c : Dev nD) : (dat2 V c).arrAt 7 cfg2.N = bot (linOf V c) := by
  refine (dat2 V c).arrAt_eq_of_covers 7 _ (by decide +kernel) fun t hf y => ?_
  blk_simp
  rw [after2_7]
  have e : ∀ k : Fin 32, blockOf V c t (ix2 ⟨(y 0).val * 32 + k.val, by have h : (y 0).val < 128 := (y 0).isLt; omega⟩ (y 1))
      = linOf V c ⟨((win2_7.blk t).view.emb y 0).val * 32 + k.val, by have h : ((win2_7.blk t).view.emb y 0).val < 16384 := ((win2_7.blk t).view.emb y 0).isLt; omega⟩
        ((win2_7.blk t).view.emb y 1) := fun k =>
    block V c t _ _ _ (by blk_simp [idx t]; (try dsimp only); omega) (by blk_simp [idx t])
  by_cases h : t.val % 128 = 0
  · rw [outsAt2_A V c t h]; frame_out
    exact (pay_bot (blockOf V c t) y).trans (Finset.fold_congr fun k _ => e k)
  · rw [outsAt2_B V c t h]; frame_out
    exact (pay_bot (blockOf V c t) y).trans (Finset.fold_congr fun k _ => e k)

/-- The last output array: the moments of the layer. -/
theorem final8 (c : Dev nD) : (dat2 V c).arrAt 8 cfg2.N = moments (linOf V c) := by
  refine (dat2 V c).arrAt_eq_of_covers 8 _ (by decide +kernel) fun t hf y => ?_
  blk_simp
  rw [after2_8, Pipeline.eq_sum_fin_of_reset_step_apply_of_flush (fun n h => (outsAt2 V c n h).2.2) 128 (fun _ => 0)
    (fun (p : Fin cfg2.N) (j : S2x128.Idx) => if (j 0).val = 0
      then ∑ r : Fin 4096, blockOf V c p (ix2 r (j 1)) else ∑ r : Fin 4096, blockOf V c p (ix2 r (j 1)) * blockOf V c p (ix2 r (j 1)))
    (fun t h j => by
      rw [outsAt2_A V c t h]; frame_out
      exact Stats.canonA (n := 128) (ms2_8 t).view _ pay_zero (k2_pay2 (F := Ideal) (blockOf V c t)) (k2_pay3 (F := Ideal) (blockOf V c t))
        (fun o => ∑ r : Fin 4096, blockOf V c t (ix2 r o)) (fun o => ∑ r : Fin 4096, blockOf V c t (ix2 r o) * blockOf V c t (ix2 r o))
        (pay_sum _) (pay_sq _) inb_S2x128_S1x128_0_0 inb_S2x128_S1x128_1_0 inb_S2x128_S2x128_0_0 (by decide +kernel) j)
    (fun t h j => by
      rw [outsAt2_B V c t h]; frame_out
      exact Stats.canonB (n := 128) _ (k2_pay2 (F := Ideal) (blockOf V c t)) (k2_pay3 (F := Ideal) (blockOf V c t))
        (fun o => ∑ r : Fin 4096, blockOf V c t (ix2 r o)) (fun o => ∑ r : Fin 4096, blockOf V c t (ix2 r o) * blockOf V c t (ix2 r o))
        (pay_sum _) (pay_sq _) inb_S2x128_S1x128_0_0 inb_S2x128_S1x128_1_0 [] j)
    t ((flush2_8 t).mp hf) _, zero_add]
  have ht : t.val < 128 := lt_of_lt_of_eq t.isLt N_2
  rw [show (win2_8.blk t).view.emb y = y by blk_ext [idx t]]
  have hb : ∀ (s : Fin 128) (k : Fin 4096) (hl : s.val * 4096 + k.val < 524288) (hs : 128 * (t.val / 128) + s.val < cfg2.N),
      blockOf V c ⟨128 * (t.val / 128) + s.val, hs⟩ (ix2 k (y 1)) = linOf V c ⟨s.val * 4096 + k.val, hl⟩ (y 1) :=
    fun s k hl hs => block V c _ _ _ _ (by show s.val * 4096 + k.val = (128 * (t.val / 128) + s.val) * 4096 + k.val; omega) rfl
  unfold moments
  show (_ : EReal) = _
  by_cases h0 : (y 0).val = 0
  · simp only [if_pos h0]
    exact Fin.sum_mul_add_congr fun s k hl => hb s k hl _
  · simp only [if_neg h0]
    exact Fin.sum_mul_add_congr fun s k hl => congrArg₂ (· * ·) (hb s k hl _) (hb s k hl _)

end Cert.KernelIdeal.Region2
-- ==== Proof.Region3.lean ====
/- The last pass: of every group the largest or the smallest value, by the sign of the channel's scale,
   normalised with the third layer's moments and rectified. -/
module

public import proofs.«01_k».proof.Proof.Stats
public import proofs.«01_k».proof.Proof.Plain

@[expose] public section

set_option maxRecDepth 16384

noncomputable section

namespace Cert.KernelIdeal.Region3

open Idealize.ShloMosaic Idealize.ShloMosaic.TcCoe Idealize.SL.Sem
open Cert.KernelIdeal Cert.KernelIdeal.Gen Cert.Plain
open Idealize.ShloMosaic.Pipeline (Dat)

variable (V : (c : Dev nD) → (b : Ref sig .tc) → Buf (Elt Ideal) ((c : Thread nD τ).loc b))

/-- The output of a group: the largest value where the scale is positive, the smallest elsewhere, normalised and rectified. -/
def out (mx mn : FVec Ideal S16384x128 .f32) (st : FVec Ideal S2x128 .f32) (g be : FVec Ideal S1x128 .f32) (j : S16384x128.Idx) : EReal :=
  normK st (fun o : Fin 128 => g (ix2 0 o)) (fun o => be (ix2 0 o))
    (fun o => if 0 < g (ix2 0 o) then mx (ix2 (j 0) o) else mn (ix2 (j 0) o)) (j 1)

/-- The indicator of a positive scale, as a number. -/
theorem sign_eq (x : EReal) : FloatOps.sitofp (F := Ideal) .f32 (BitVec.setWidth 32 (BitVec.ofBool (decide (0 < x)))) = if 0 < x then (1 : EReal) else 0 := by
  show (((BitVec.setWidth 32 (BitVec.ofBool (decide (0 < x)))).toInt : ℝ) : EReal) = _
  by_cases h : 0 < x <;> simp [h]

theorem pay1 (X : FVec Ideal S2048x128 .f32) (z : Ideal .f32) (j : S2048x128.Idx) : k3_pay1 (F := Ideal) X z j = max (X j) z := by
  pointwise [k3_pay1]

/-- The selection and the normalisation of a block. -/
theorem pay2 (st : FVec Ideal S2x128 .f32) (g : FVec Ideal S1x128 .f32) (mx mn : FVec Ideal S2048x128 .f32) (be : FVec Ideal S1x128 .f32) (j : S2048x128.Idx) :
    k3_pay2 (F := Ideal) st g mx mn be j
      = Batch.unitK (st (ix2 0 (j 1))) (st (ix2 1 (j 1))) (if 0 < g (ix2 0 (j 1)) then mx j else mn j) * g (ix2 0 (j 1)) + be (ix2 0 (j 1)) := by
  unfold Batch.unitK Batch.invRows Batch.eps
  pointwise [k3_pay2]
  rw [sign_eq]
  have h1 : (1 : EReal) - 1 = 0 := by
    rw [show (1 : EReal) = ((1 : ℝ) : EReal) from rfl, ← EReal.coe_sub, sub_self]; rfl
  split
  · rw [h1, mul_one, mul_zero, add_zero]
  · rw [sub_zero, mul_one, mul_zero, zero_add]

theorem idx : ∀ t : Fin cfg3.N, win3_0.index t = ![t.val, 0] ∧ win3_1.index t = ![t.val, 0] ∧ win3_2.index t = ![0, 0]
    ∧ win3_3.index t = ![0, 0] ∧ win3_4.index t = ![0, 0] ∧ win3_5.index t = ![t.val, 0] :=
  (by decide +kernel : ∀ t : Fin grid3.N, _)

theorem st_eq (c : Dev nD) (t : Fin cfg3.N) : iblk3 V c 2 t = V c main_v13_2 :=
  funext fun x => congrArg (V c main_v13_2) (by blk_ext [idx t])
theorem g_eq (c : Dev nD) (t : Fin cfg3.N) : iblk3 V c 3 t = V c main_v14 :=
  funext fun x => congrArg (V c main_v14) (by blk_ext [idx t])
theorem be_eq (c : Dev nD) (t : Fin cfg3.N) : iblk3 V c 4 t = V c main_v15 :=
  funext fun x => congrArg (V c main_v15) (by blk_ext [idx t])

/-- The output array. -/
theorem final5 (c : Dev nD) : (dat3 V c).arrAt 5 cfg3.N
    = out (V c main_v13_0) (V c main_v13_1) (V c main_v13_2) (V c main_v14) (V c main_v15) := by
  refine (dat3 V c).arrAt_eq_of_covers 5 _ (by decide +kernel) fun t hf y => ?_
  blk_simp
  rw [after3_5]
  frame_out
  rw [st_eq, g_eq, be_eq]
  obtain ⟨i, hi⟩ : ∃ i : S16384x128.Idx, i = (win3_5.blk t).view.emb y := ⟨_, rfl⟩
  rw [← hi]
  have h1 : i 1 = y 1 := Fin.ext (by rw [hi]; blk_simp [idx t])
  have hmx : iblk3 V c 0 t y = (V c main_v13_0 : FVec Ideal S16384x128 .f32) (ix2 (i 0) (i 1)) :=
    congrArg (V c main_v13_0) (by rw [hi]; blk_ext [idx t])
  have hmn : iblk3 V c 1 t y = (V c main_v13_1 : FVec Ideal S16384x128 .f32) (ix2 (i 0) (i 1)) :=
    congrArg (V c main_v13_1) (by rw [hi]; blk_ext [idx t])
  refine (pay1 _ _ y).trans ?_
  rw [pay2, hmx, hmn, ← h1]
  unfold out normK
  exact congrArg (max _) (by simp [FloatOps.ofBits, Ideal.ofBits, Ideal.ieee])

end Cert.KernelIdeal.Region3
-- ==== Proof.Chain.lean ====
/- The four passes one after the other: the kernel's result as one function of its arguments. -/
module

public import proofs.«01_k».proof.Proof.Region0
public import proofs.«01_k».proof.Proof.Region1
public import proofs.«01_k».proof.Proof.Region2
public import proofs.«01_k».proof.Proof.Region3

@[expose] public section

set_option maxRecDepth 16384

noncomputable section

namespace Cert.KernelIdeal.Chain

open Idealize.ShloMosaic Idealize.ShloMosaic.TcCoe Idealize.SL.Sem
open Cert.KernelIdeal Cert.KernelIdeal.Gen Cert.Plain

variable (m : (ℓ : Loc nD τ sig) → Buf (Elt Ideal) ℓ) (ρ : Dev nD → PrngReg) (c : Dev nD)

/-- The arguments at a device, by their roles. -/
abbrev aG : FVec Ideal S16x1024x32x67 .f32 := m ((c : Thread nD τ).loc main_arg0)
abbrev aW0 : FVec Ideal S64x67 .f32 := m ((c : Thread nD τ).loc main_arg1)
abbrev aB0 : FVec Ideal S64 .f32 := m ((c : Thread nD τ).loc main_arg2)
abbrev aG0 : FVec Ideal S64 .f32 := m ((c : Thread nD τ).loc main_arg3)
abbrev aE0 : FVec Ideal S64 .f32 := m ((c : Thread nD τ).loc main_arg4)
abbrev aW1 : FVec Ideal S64x64 .f32 := m ((c : Thread nD τ).loc main_arg5)
abbrev aB1 : FVec Ideal S64 .f32 := m ((c : Thread nD τ).loc main_arg6)
abbrev aG1 : FVec Ideal S64 .f32 := m ((c : Thread nD τ).loc main_arg7)
abbrev aE1 : FVec Ideal S64 .f32 := m ((c : Thread nD τ).loc main_arg8)
abbrev aW2 : FVec Ideal S128x64 .f32 := m ((c : Thread nD τ).loc main_arg9)
abbrev aB2 : FVec Ideal S128 .f32 := m ((c : Thread nD τ).loc main_arg10)
abbrev aG2 : FVec Ideal S128 .f32 := m ((c : Thread nD τ).loc main_arg11)
abbrev aE2 : FVec Ideal S128 .f32 := m ((c : Thread nD τ).loc main_arg12)

/-! What each pass finds in the arrays the host prepared. -/

theorem v0 (r : Fin 524288) (k : Fin 67) : (V1 m ρ c main_v0 : FVec Ideal S524288x67 .f32) (ix2 r k) = aG m c (ix4 (batchOf r) (centreOf r) (nbrOf r) k) := by
  show StableHlo.after hostOps0 (W0 m ρ c) (Proc.devRef .tc main_v0) (ix2 r k) = _
  after_results
  pointwise
  rfl
theorem v1 (k : Fin 67) (o : Fin 64) : (V1 m ρ c main_v1 : FVec Ideal S67x64 .f32) (ix2 k o) = aW0 m c (ix2 o k) := by
  show StableHlo.after hostOps0 (W0 m ρ c) (Proc.devRef .tc main_v1) (ix2 k o) = _
  after_results
  pointwise
theorem v2 (o : Fin 64) : (V1 m ρ c main_v2 : FVec Ideal S1x64 .f32) (ix2 0 o) = aB0 m c (ix1 o) := by
  show StableHlo.after hostOps0 (W0 m ρ c) (Proc.devRef .tc main_v2) (ix2 0 o) = _
  after_results
  pointwise
theorem v4 (o : Fin 64) : (V3 m ρ c main_v4 : FVec Ideal S1x64 .f32) (ix2 0 o) = aG0 m c (ix1 o) := by
  show StableHlo.after hostOps1 (W2 m ρ c) (Proc.devRef .tc main_v4) (ix2 0 o) = _
  after_results
  pointwise
  exact congrFun (W2_args m ρ c main_arg3 (by decide)) _
theorem v5 (o : Fin 64) : (V3 m ρ c main_v5 : FVec Ideal S1x64 .f32) (ix2 0 o) = aE0 m c (ix1 o) := by
  show StableHlo.after hostOps1 (W2 m ρ c) (Proc.devRef .tc main_v5) (ix2 0 o) = _
  after_results
  pointwise
  exact congrFun (W2_args m ρ c main_arg4 (by decide)) _
theorem v6 (k : Fin 64) (o : Fin 64) : (V3 m ρ c main_v6 : FVec Ideal S64x64 .f32) (ix2 k o) = aW1 m c (ix2 o k) := by
  show StableHlo.after hostOps1 (W2 m ρ c) (Proc.devRef .tc main_v6) (ix2 k o) = _
  after_results
  pointwise
  exact congrFun (W2_args m ρ c main_arg5 (by decide)) _
theorem v7 (o : Fin 64) : (V3 m ρ c main_v7 : FVec Ideal S1x64 .f32) (ix2 0 o) = aB1 m c (ix1 o) := by
  show StableHlo.after hostOps1 (W2 m ρ c) (Proc.devRef .tc main_v7) (ix2 0 o) = _
  after_results
  pointwise
  exact congrFun (W2_args m ρ c main_arg6 (by decide)) _
theorem v9 (o : Fin 64) : (V5 m ρ c main_v9 : FVec Ideal S1x64 .f32) (ix2 0 o) = aG1 m c (ix1 o) := by
  show StableHlo.after hostOps2 (W4 m ρ c) (Proc.devRef .tc main_v9) (ix2 0 o) = _
  after_results
  pointwise
  exact congrFun (W4_args m ρ c main_arg7 (by decide)) _
theorem v10 (o : Fin 64) : (V5 m ρ c main_v10 : FVec Ideal S1x64 .f32) (ix2 0 o) = aE1 m c (ix1 o) := by
  show StableHlo.after hostOps2 (W4 m ρ c) (Proc.devRef .tc main_v10) (ix2 0 o) = _
  after_results
  pointwise
  exact congrFun (W4_args m ρ c main_arg8 (by decide)) _
theorem v11 (k : Fin 64) (o : Fin 128) : (V5 m ρ c main_v11 : FVec Ideal S64x128 .f32) (ix2 k o) = aW2 m c (ix2 o k) := by
  show StableHlo.after hostOps2 (W4 m ρ c) (Proc.devRef .tc main_v11) (ix2 k o) = _
  after_results
  pointwise
  exact congrFun (W4_args m ρ c main_arg9 (by decide)) _
theorem v12 (o : Fin 128) : (V5 m ρ c main_v12 : FVec Ideal S1x128 .f32) (ix2 0 o) = aB2 m c (ix1 o) := by
  show StableHlo.after hostOps2 (W4 m ρ c) (Proc.devRef .tc main_v12) (ix2 0 o) = _
  after_results
  pointwise
  exact congrFun (W4_args m ρ c main_arg10 (by decide)) _
theorem v14 (o : Fin 128) : (V7 m ρ c main_v14 : FVec Ideal S1x128 .f32) (ix2 0 o) = aG2 m c (ix1 o) := by
  show StableHlo.after hostOps3 (W6 m ρ c) (Proc.devRef .tc main_v14) (ix2 0 o) = _
  after_results
  pointwise
  exact congrFun (W6_args m ρ c main_arg11 (by decide)) _
theorem v15 (o : Fin 128) : (V7 m ρ c main_v15 : FVec Ideal S1x128 .f32) (ix2 0 o) = aE2 m c (ix1 o) := by
  show StableHlo.after hostOps3 (W6 m ρ c) (Proc.devRef .tc main_v15) (ix2 0 o) = _
  after_results
  pointwise
  exact congrFun (W6_args m ρ c main_arg12 (by decide)) _

/-! The layers over the arguments. -/

/-- The first layer. -/
def y0 : Fin 524288 → Fin 64 → EReal := fun r =>
  dense (fun k : Fin 67 => aG m c (ix4 (batchOf r) (centreOf r) (nbrOf r) k)) (fun k o => aW0 m c (ix2 o k)) (fun o => aB0 m c (ix1 o))
/-- The second layer. -/
def y1 : Fin 524288 → Fin 64 → EReal :=
  nextK (y0 m c) (fun k => aG0 m c (ix1 k)) (fun k => aE0 m c (ix1 k)) (fun k o => aW1 m c (ix2 o k)) (fun o => aB1 m c (ix1 o))
/-- The third layer. -/
def y2 : Fin 524288 → Fin 128 → EReal :=
  nextK (y1 m c) (fun k => aG1 m c (ix1 k)) (fun k => aE1 m c (ix1 k)) (fun k o => aW2 m c (ix2 o k)) (fun o => aB2 m c (ix1 o))

theorem lin0_eq : Region0.lin (V1 m ρ c main_v0) (V1 m ρ c main_v1) (V1 m ρ c main_v2) = y0 m c := by
  funext r
  exact dense_congr (fun k => v0 m ρ c r k) (v1 m ρ c) (v2 m ρ c)

theorem lin1_eq : Region1.linOf (V3 m ρ) c = y1 m c := by
  have h0 : V3 m ρ c main_v3_0 = fun j : S524288x64.Idx => y0 m c (j 0) (j 1) := by
    refine (W3_of m ρ c main_v3_0 (by decide)).trans ((W2_arr m ρ c 3).trans ?_)
    rw [Region0.final3, lin0_eq]
  have h1 : V3 m ρ c main_v3_1 = moments (y0 m c) := by
    refine (W3_of m ρ c main_v3_1 (by decide)).trans ((W2_arr m ρ c 4).trans ?_)
    rw [Region0.final4, lin0_eq]
  funext r
  unfold Region1.linOf Region1.lin y1 nextK
  exact dense_congr (congrFun (normK_congr h1 (v4 m ρ c) (v5 m ρ c) fun k => congrFun h0 (ix2 r k))) (v6 m ρ c) (v7 m ρ c)

theorem lin2_eq : Region2.linOf (V5 m ρ) c = y2 m c := by
  have h0 : V5 m ρ c main_v8_0 = fun j : S524288x64.Idx => y1 m c (j 0) (j 1) := by
    refine (W5_of m ρ c main_v8_0 (by decide)).trans ((W4_arr m ρ c 6).trans ?_)
    rw [Region1.final6, lin1_eq]
  have h1 : V5 m ρ c main_v8_1 = moments (y1 m c) := by
    refine (W5_of m ρ c main_v8_1 (by decide)).trans ((W4_arr m ρ c 7).trans ?_)
    rw [Region1.final7, lin1_eq]
  funext r
  unfold Region2.linOf Region2.lin y2 nextK
  exact dense_congr (congrFun (normK_congr h1 (v9 m ρ c) (v10 m ρ c) fun k => congrFun h0 (ix2 r k))) (v11 m ρ c) (v12 m ρ c)

theorem out_eq (q : Fin 16384) (o : Fin 128) :
    Region3.out (V7 m ρ c main_v13_0) (V7 m ρ c main_v13_1) (V7 m ρ c main_v13_2) (V7 m ρ c main_v14) (V7 m ρ c main_v15) (ix2 q o)
      = lastK (y2 m c) (fun o => aG2 m c (ix1 o)) (fun o => aE2 m c (ix1 o)) q o := by
  have h0 : V7 m ρ c main_v13_0 = Region2.top (y2 m c) := by
    refine (W7_of m ρ c main_v13_0 (by decide)).trans ((W6_arr m ρ c 6).trans ?_)
    rw [Region2.final6, lin2_eq]
  have h1 : V7 m ρ c main_v13_1 = Region2.bot (y2 m c) := by
    refine (W7_of m ρ c main_v13_1 (by decide)).trans ((W6_arr m ρ c 7).trans ?_)
    rw [Region2.final7, lin2_eq]
  have h2 : V7 m ρ c main_v13_2 = moments (y2 m c) := by
    refine (W7_of m ρ c main_v13_2 (by decide)).trans ((W6_arr m ρ c 8).trans ?_)
    rw [Region2.final8, lin2_eq]
  unfold Region3.out lastK
  refine congrFun (normK_congr h2 (v14 m ρ c) (v15 m ρ c) fun o => ?_) o
  rw [h0, h1, v14]
  rfl

/-- The kernel's result. -/
def result (j : S16x1024x128.Idx) : EReal :=
  lastK (y2 m c) (fun o => aG2 m c (ix1 o)) (fun o => aE2 m c (ix1 o))
    ⟨(j 0).val * 1024 + (j 1).val, by have h0 : (j 0).val < 16 := (j 0).isLt; have h1 : (j 1).val < 1024 := (j 1).isLt; omega⟩ (j 2)

theorem result_eq : (W9 m ρ c (Proc.devRef .tc main_v17) : FVec Ideal S16x1024x128 .f32) = result m c := by
  funext j
  show StableHlo.after hostOps4 (W8 m ρ c) (Proc.devRef .tc main_v17) j = _
  after_results
  pointwise
  refine (congrFun (W8_arr m ρ c 5) _).trans ?_
  refine (congrFun (Region3.final5 (V7 m ρ) c) _).trans ?_
  exact out_eq m ρ c _ _

end Cert.KernelIdeal.Chain
-- ==== Proof.Finite.lean ====
/- The precondition: every argument but the last scale and shift holds finite values. -/
module

public import proofs.«01_k».proof.Defs
public import proofs.«01_k».proof.Proof.Gen.Pre_finite
public import proofs.«01_k».proof.Proof.Equation
public import proofs.«01_k».proof.Proof.Chain

@[expose] public section

set_option maxRecDepth 16384

noncomputable section

namespace Cert.Finite

open Idealize.ShloMosaic Cert.Plain Cert.KernelIdeal Cert.KernelIdeal.Chain

/-- A magnitude below infinity is finite. -/
theorem real_of_abs {x : EReal} (h : Ideal.cmp .olt (max x (-x)) (Ideal.ofBits .f32 0x7F800000#32) = 1#1) : Real x := by
  rw [Batch.posInf_eq] at h
  have hx : max x (-x) < ⊤ := by
    by_contra hc
    simp [Ideal.cmp, hc] at h
  induction x with
  | bot => simp at hx
  | top => simp at hx
  | coe a => exact ⟨a, rfl⟩

variable (m : (ℓ : Loc nD τ sig) → Buf (Elt Ideal) ℓ) (c : Dev nD)

/-- The finite arguments. -/
structure Args : Prop where
  aG : ∀ i, Real (Chain.aG m c i)
  aW0 : ∀ i, Real (Chain.aW0 m c i)
  aB0 : ∀ i, Real (Chain.aB0 m c i)
  aG0 : ∀ i, Real (Chain.aG0 m c i)
  aE0 : ∀ i, Real (Chain.aE0 m c i)
  aW1 : ∀ i, Real (Chain.aW1 m c i)
  aB1 : ∀ i, Real (Chain.aB1 m c i)
  aG1 : ∀ i, Real (Chain.aG1 m c i)
  aE1 : ∀ i, Real (Chain.aE1 m c i)
  aW2 : ∀ i, Real (Chain.aW2 m c i)
  aB2 : ∀ i, Real (Chain.aB2 m c i)

/-- The precondition says so. -/
theorem args_of_pre (h : Cert.Pre_KernelIdeal_finite m) : Args m c := by
  obtain ⟨h0, h1, h2, h3, h4, h5, h6, h7, h8, h9, h10⟩ := h c
  exact ⟨fun i => real_of_abs (congrFun h0 i), fun i => real_of_abs (congrFun h1 i), fun i => real_of_abs (congrFun h2 i), fun i => real_of_abs (congrFun h3 i), fun i => real_of_abs (congrFun h4 i), fun i => real_of_abs (congrFun h5 i), fun i => real_of_abs (congrFun h6 i), fun i => real_of_abs (congrFun h7 i), fun i => real_of_abs (congrFun h8 i), fun i => real_of_abs (congrFun h9 i), fun i => real_of_abs (congrFun h10 i)⟩

end Cert.Finite
-- ==== Proof.Layers.lean ====
/- What the reference computes, layer by layer, in plain functions of rows and channels. -/
module

public import proofs.«01_k».proof.Proof.Gen.ReferenceIdeal.Read
public import proofs.«01_k».proof.Proof.RefPlain

@[expose] public section

set_option maxRecDepth 16384

noncomputable section

namespace Cert.ReferenceIdeal.Layers

open Idealize.ShloMosaic Idealize.ShloMosaic.TcCoe Idealize.SL.Sem
open Cert.ReferenceIdeal Cert.ReferenceIdeal.Gen Cert.ReferenceIdeal.Read Cert.Plain

variable (x0 : FVec Ideal S16x1024x32x67 .f32) (x1 : FVec Ideal S64x67 .f32) (x2 x3 x4 : FVec Ideal S64 .f32)
  (x5 : FVec Ideal S64x64 .f32) (x6 x7 x8 : FVec Ideal S64 .f32) (x9 : FVec Ideal S128x64 .f32) (x10 x11 x12 : FVec Ideal S128 .f32)

/-- The first layer before its normalisation, by rows. -/
def lin0 : Fin 524288 → Fin 64 → EReal := flat (val_main_v3 (F := Ideal) x0 x1 x2)

/-- The first layer is dense in what comes before it. -/
theorem lin0_eq (r : Fin 524288) :
    lin0 x0 x1 x2 r = dense (flat x0 r) (fun k o => x1 (ix2 o k)) (fun o => x2 (ix1 o)) := by
  funext o
  unfold lin0 flat dense
  pointwise [val_main_v3, val_main_v2, val_main_v1, val_main_v0]

/-- Its sum over the rows, as the mean and as the variance spell it. -/
theorem sum0 (o : Fin 64) : val_main_v4 (F := Ideal) x0 x1 x2 (ix1 o) = sumR (lin0 x0 x1 x2) o :=
  sum_flat _ _ _ (by pointwise [val_main_cst]) o
theorem csum0 (o : Fin 64) : val_main_call0_v0 (F := Ideal) x0 x1 x2 (ix1 o) = sumR (lin0 x0 x1 x2) o :=
  sum_flat _ _ _ (by pointwise [val_main_call0_cst]) o

/-- Its squared deviations, summed. -/
theorem dev0 (o : Fin 64) : val_main_call0_v9 (F := Ideal) x0 x1 x2 (ix1 o) = devR (lin0 x0 x1 x2) o := by
  refine (sum_flat _ _ _ (by pointwise [val_main_call0_cst_2]) o).trans (Finset.sum_congr rfl fun r _ => ?_)
  rw [← csum0 x0 x1 x2 o]
  unfold lin0 flat Batch.nRows
  pointwise [val_main_call0_v6, val_main_call0_v5, val_main_call0_v4, val_main_call0_v3, val_main_call0_v2, val_main_call0_v1, val_main_call0_cst_0]

/-- Its variance. -/
theorem var0 (o : Fin 64) :
    val_main_v8 (F := Ideal) x0 x1 x2 (ix4 0 0 0 o) = Ideal.div (devR (lin0 x0 x1 x2) o) Batch.nRows := by
  rw [← dev0 x0 x1 x2 o]
  pointwise [val_main_v8, val_main_call0_v13, val_main_call0_v12, val_main_call0_v11, val_main_call0_v10, val_main_call0_v8, val_main_call0_v7, val_main_c, val_main_call0_cst_1, val_main_call0_cst_3]
  exact select_rows _ _

/-- The first layer normalised and rectified, by rows. -/
theorem act0 (r : Fin 524288) :
    flat (val_main_v22 (F := Ideal) x0 x1 x2 x3 x4) r = normR (lin0 x0 x1 x2) (fun o => x3 (ix1 o)) (fun o => x4 (ix1 o)) (lin0 x0 x1 x2 r) := by
  funext o
  unfold normR Batch.unitR
  rw [← var0 x0 x1 x2 o, ← sum0 x0 x1 x2 o]
  unfold lin0 flat Batch.nRows Batch.eps
  pointwise [val_main_v22, val_main_v21, val_main_v20, val_main_v19, val_main_v18, val_main_v17, val_main_v16, val_main_v15, val_main_v14, val_main_v13, val_main_v12, val_main_v11, val_main_v10, val_main_v9, val_main_cst_1, val_main_v7, val_main_v6, val_main_v5, val_main_cst_0, val_main_call1_cst, val_main_call1_v0]

/-- The second layer before its normalisation, by rows. -/
def lin1 : Fin 524288 → Fin 64 → EReal := flat (val_main_v26 (F := Ideal) x0 x1 x2 x3 x4 x5 x6)

/-- The second layer is dense in what comes before it. -/
theorem lin1_eq (r : Fin 524288) :
    lin1 x0 x1 x2 x3 x4 x5 x6 r = dense (flat (val_main_v22 (F := Ideal) x0 x1 x2 x3 x4) r) (fun k o => x5 (ix2 o k)) (fun o => x6 (ix1 o)) := by
  funext o
  unfold lin1 flat dense
  pointwise [val_main_v26, val_main_v25, val_main_v24, val_main_v23]

/-- Its sum over the rows, as the mean and as the variance spell it. -/
theorem sum1 (o : Fin 64) : val_main_v27 (F := Ideal) x0 x1 x2 x3 x4 x5 x6 (ix1 o) = sumR (lin1 x0 x1 x2 x3 x4 x5 x6) o :=
  sum_flat _ _ _ (by pointwise [val_main_cst_2]) o
theorem csum1 (o : Fin 64) : val_main_call2_v0 (F := Ideal) x0 x1 x2 x3 x4 x5 x6 (ix1 o) = sumR (lin1 x0 x1 x2 x3 x4 x5 x6) o :=
  sum_flat _ _ _ (by pointwise [val_main_call2_cst]) o

/-- Its squared deviations, summed. -/
theorem dev1 (o : Fin 64) : val_main_call2_v9 (F := Ideal) x0 x1 x2 x3 x4 x5 x6 (ix1 o) = devR (lin1 x0 x1 x2 x3 x4 x5 x6) o := by
  refine (sum_flat _ _ _ (by pointwise [val_main_call2_cst_2]) o).trans (Finset.sum_congr rfl fun r _ => ?_)
  rw [← csum1 x0 x1 x2 x3 x4 x5 x6 o]
  unfold lin1 flat Batch.nRows
  pointwise [val_main_call2_v6, val_main_call2_v5, val_main_call2_v4, val_main_call2_v3, val_main_call2_v2, val_main_call2_v1, val_main_call2_cst_0]

/-- Its variance. -/
theorem var1 (o : Fin 64) :
    val_main_v31 (F := Ideal) x0 x1 x2 x3 x4 x5 x6 (ix4 0 0 0 o) = Ideal.div (devR (lin1 x0 x1 x2 x3 x4 x5 x6) o) Batch.nRows := by
  rw [← dev1 x0 x1 x2 x3 x4 x5 x6 o]
  pointwise [val_main_v31, val_main_call2_v13, val_main_call2_v12, val_main_call2_v11, val_main_call2_v10, val_main_call2_v8, val_main_call2_v7, val_main_c_4, val_main_call2_cst_1, val_main_call2_cst_3]
  exact select_rows _ _

/-- The second layer normalised and rectified, by rows. -/
theorem act1 (r : Fin 524288) :
    flat (val_main_v45 (F := Ideal) x0 x1 x2 x3 x4 x5 x6 x7 x8) r = normR (lin1 x0 x1 x2 x3 x4 x5 x6) (fun o => x7 (ix1 o)) (fun o => x8 (ix1 o)) (lin1 x0 x1 x2 x3 x4 x5 x6 r) := by
  funext o
  unfold normR Batch.unitR
  rw [← var1 x0 x1 x2 x3 x4 x5 x6 o, ← sum1 x0 x1 x2 x3 x4 x5 x6 o]
  unfold lin1 flat Batch.nRows Batch.eps
  pointwise [val_main_v45, val_main_v44, val_main_v43, val_main_v42, val_main_v41, val_main_v40, val_main_v39, val_main_v38, val_main_v37, val_main_v36, val_main_v35, val_main_v34, val_main_v33, val_main_v32, val_main_cst_5, val_main_v30, val_main_v29, val_main_v28, val_main_cst_3, val_main_call3_cst, val_main_call3_v0]

/-- The second layer from the one before. -/
theorem lin1_next :
    lin1 x0 x1 x2 x3 x4 x5 x6 = nextR (lin0 x0 x1 x2) (fun k => x3 (ix1 k)) (fun k => x4 (ix1 k)) (fun k o => x5 (ix2 o k)) (fun o => x6 (ix1 o)) := by
  funext r
  rw [lin1_eq, act0]
  rfl

/-- The third layer before its normalisation, by rows. -/
def lin2 : Fin 524288 → Fin 128 → EReal := flat (val_main_v49 (F := Ideal) x0 x1 x2 x3 x4 x5 x6 x7 x8 x9 x10)

/-- The third layer is dense in what comes before it. -/
theorem lin2_eq (r : Fin 524288) :
    lin2 x0 x1 x2 x3 x4 x5 x6 x7 x8 x9 x10 r = dense (flat (val_main_v45 (F := Ideal) x0 x1 x2 x3 x4 x5 x6 x7 x8) r) (fun k o => x9 (ix2 o k)) (fun o => x10 (ix1 o)) := by
  funext o
  unfold lin2 flat dense
  pointwise [val_main_v49, val_main_v48, val_main_v47, val_main_v46]

/-- Its sum over the rows, as the mean and as the variance spell it. -/
theorem sum2 (o : Fin 128) : val_main_v50 (F := Ideal) x0 x1 x2 x3 x4 x5 x6 x7 x8 x9 x10 (ix1 o) = sumR (lin2 x0 x1 x2 x3 x4 x5 x6 x7 x8 x9 x10) o :=
  sum_flat _ _ _ (by pointwise [val_main_cst_6]) o
theorem csum2 (o : Fin 128) : val_main_call4_v0 (F := Ideal) x0 x1 x2 x3 x4 x5 x6 x7 x8 x9 x10 (ix1 o) = sumR (lin2 x0 x1 x2 x3 x4 x5 x6 x7 x8 x9 x10) o :=
  sum_flat _ _ _ (by pointwise [val_main_call4_cst]) o

/-- Its squared deviations, summed. -/
theorem dev2 (o : Fin 128) : val_main_call4_v9 (F := Ideal) x0 x1 x2 x3 x4 x5 x6 x7 x8 x9 x10 (ix1 o) = devR (lin2 x0 x1 x2 x3 x4 x5 x6 x7 x8 x9 x10) o := by
  refine (sum_flat _ _ _ (by pointwise [val_main_call4_cst_2]) o).trans (Finset.sum_congr rfl fun r _ => ?_)
  rw [← csum2 x0 x1 x2 x3 x4 x5 x6 x7 x8 x9 x10 o]
  unfold lin2 flat Batch.nRows
  pointwise [val_main_call4_v6, val_main_call4_v5, val_main_call4_v4, val_main_call4_v3, val_main_call4_v2, val_main_call4_v1, val_main_call4_cst_0]

/-- Its variance. -/
theorem var2 (o : Fin 128) :
    val_main_v54 (F := Ideal) x0 x1 x2 x3 x4 x5 x6 x7 x8 x9 x10 (ix4 0 0 0 o) = Ideal.div (devR (lin2 x0 x1 x2 x3 x4 x5 x6 x7 x8 x9 x10) o) Batch.nRows := by
  rw [← dev2 x0 x1 x2 x3 x4 x5 x6 x7 x8 x9 x10 o]
  pointwise [val_main_v54, val_main_call4_v13, val_main_call4_v12, val_main_call4_v11, val_main_call4_v10, val_main_call4_v8, val_main_call4_v7, val_main_c_8, val_main_call4_cst_1, val_main_call4_cst_3]
  exact select_rows _ _

/-- The third layer normalised and rectified, by rows. -/
theorem act2 (r : Fin 524288) :
    flat (val_main_v68 (F := Ideal) x0 x1 x2 x3 x4 x5 x6 x7 x8 x9 x10 x11 x12) r = normR (lin2 x0 x1 x2 x3 x4 x5 x6 x7 x8 x9 x10) (fun o => x11 (ix1 o)) (fun o => x12 (ix1 o)) (lin2 x0 x1 x2 x3 x4 x5 x6 x7 x8 x9 x10 r) := by
  funext o
  unfold normR Batch.unitR
  rw [← var2 x0 x1 x2 x3 x4 x5 x6 x7 x8 x9 x10 o, ← sum2 x0 x1 x2 x3 x4 x5 x6 x7 x8 x9 x10 o]
  unfold lin2 flat Batch.nRows Batch.eps
  pointwise [val_main_v68, val_main_v67, val_main_v66, val_main_v65, val_main_v64, val_main_v63, val_main_v62, val_main_v61, val_main_v60, val_main_v59, val_main_v58, val_main_v57, val_main_v56, val_main_v55, val_main_cst_9, val_main_v53, val_main_v52, val_main_v51, val_main_cst_7, val_main_call5_cst, val_main_call5_v0]

/-- The third layer from the one before. -/
theorem lin2_next :
    lin2 x0 x1 x2 x3 x4 x5 x6 x7 x8 x9 x10 = nextR (lin1 x0 x1 x2 x3 x4 x5 x6) (fun k => x7 (ix1 k)) (fun k => x8 (ix1 k)) (fun k o => x9 (ix2 o k)) (fun o => x10 (ix1 o)) := by
  funext r
  rw [lin2_eq, act1]
  rfl

/-- The reference's result. -/
theorem result_at (a : Fin 16) (b : Fin 1024) (o : Fin 128) :
    val_main_v69 (F := Ideal) x0 x1 x2 x3 x4 x5 x6 x7 x8 x9 x10 x11 x12 (ix3 a b o)
      = lastR (lin2 x0 x1 x2 x3 x4 x5 x6 x7 x8 x9 x10) (fun o => x11 (ix1 o)) (fun o => x12 (ix1 o)) ⟨a.val * 1024 + b.val, by omega⟩ o := by
  unfold lastR
  rw [← Batch.negInf_eq]
  pointwise [val_main_v69, val_main_cst_10]
  refine congrArg (fun f => Finset.fold max _ f Finset.univ) (funext fun k => ?_)
  have hr : rowOf ⟨a.val * 1024 + b.val, by omega⟩ k = rowAt a b k := Fin.ext (by simp only [rowOf, rowAt]; omega)
  rw [hr, ← act2]
  exact (flat_rowAt _ a b k o).symm

end Cert.ReferenceIdeal.Layers
-- ==== Proof.Value.lean ====
/- The equation: the kernel's result is the reference's. -/
module

public import proofs.«01_k».proof.Proof.Finite
public import proofs.«01_k».proof.Proof.Layers

@[expose] public section

set_option maxRecDepth 16384

noncomputable section

namespace Cert.Equation

open Idealize.ShloMosaic Cert.Plain Cert.KernelIdeal Cert.KernelIdeal.Chain Cert.ReferenceIdeal.Layers

variable (m : (ℓ : Loc nD τ sig) → Buf (Elt Ideal) ℓ) (c : Dev nD)

/-- The first layers agree. -/
theorem y0_eq : y0 m c = lin0 (aG m c) (aW0 m c) (aB0 m c) := by
  funext r
  rw [Cert.ReferenceIdeal.Layers.lin0_eq]
  rfl

theorem y0_real (h : Finite.Args m c) (r : Fin 524288) (o : Fin 64) : Real (y0 m c r o) :=
  dense_real (fun _ => h.aG _) (fun _ _ => h.aW0 _) (fun _ => h.aB0 _) o

/-- The second layers agree over finite arguments. -/
theorem y1_eq (h : Finite.Args m c) : y1 m c = lin1 (aG m c) (aW0 m c) (aB0 m c) (aG0 m c) (aE0 m c) (aW1 m c) (aB1 m c) := by
  rw [lin1_next, ← y0_eq]
  exact next_eq (y0 m c) (y0_real m c h) _ _ _ _

theorem y1_real (h : Finite.Args m c) (r : Fin 524288) (o : Fin 64) : Real (y1 m c r o) := by
  unfold y1
  rw [next_eq (y0 m c) (y0_real m c h)]
  exact next_real (y0 m c) (y0_real m c h) _ _ _ _ (fun _ => h.aG0 _) (fun _ => h.aE0 _) (fun _ _ => h.aW1 _) (fun _ => h.aB1 _) r o

/-- The third layers agree over finite arguments. -/
theorem y2_eq (h : Finite.Args m c) : y2 m c = lin2 (aG m c) (aW0 m c) (aB0 m c) (aG0 m c) (aE0 m c) (aW1 m c) (aB1 m c) (aG1 m c) (aE1 m c) (aW2 m c) (aB2 m c) := by
  rw [lin2_next, ← y1_eq m c h]
  exact next_eq (y1 m c) (y1_real m c h) _ _ _ _

theorem y2_real (h : Finite.Args m c) (r : Fin 524288) (o : Fin 128) : Real (y2 m c r o) := by
  unfold y2
  rw [next_eq (y1 m c) (y1_real m c h)]
  exact next_real (y1 m c) (y1_real m c h) _ _ _ _ (fun _ => h.aG1 _) (fun _ => h.aE1 _) (fun _ _ => h.aW2 _) (fun _ => h.aB2 _) r o

/-- The kernel's result is the reference's, over finite arguments. -/
theorem result_ref (h : Finite.Args m c) :
    (result m c : FVec Ideal S16x1024x128 .f32) = Cert.ReferenceIdeal.Read.val_main_v69 (F := Ideal) (aG m c) (aW0 m c) (aB0 m c) (aG0 m c) (aE0 m c) (aW1 m c) (aB1 m c) (aG1 m c) (aE1 m c) (aW2 m c) (aB2 m c) (aG2 m c) (aE2 m c) := by
  funext j
  obtain ⟨a, b, o, rfl⟩ : ∃ (a : Fin 16) (b : Fin 1024) (o : Fin 128), j = ix3 a b o :=
    ⟨j 0, j 1, j 2, by funext x; fin_cases x <;> rfl⟩
  refine Eq.trans ?_ (result_at (aG m c) (aW0 m c) (aB0 m c) (aG0 m c) (aE0 m c) (aW1 m c) (aB1 m c) (aG1 m c) (aE1 m c) (aW2 m c) (aB2 m c) (aG2 m c) (aE2 m c) a b o).symm
  rw [← y2_eq m c h]
  exact last_eq (y2 m c) (y2_real m c h) _ _ _ o

end Cert.Equation
-- ==== Proof.FpsLoopIdeal.lean ====
/-
  The sampling loop, trip by trip: what one trip hands the next and what it writes, for any floats.
-/
module

public import proofs.«01_k».proof.Proof.Gen.Kernel2Ideal.Skeleton
public import Idealize.ShloMosaic.Lib.Exec
public import Idealize.ShloMosaic.Lib.Tactic
public import Idealize.ShloMosaic.Lib.Pipeline.Kit
public import Idealize.ShloMosaic.Lib.WritesUnit

@[expose] public section

noncomputable section

namespace Cert.Kernel2Ideal.Fps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen

variable {F : FTy → Type} [FloatOps F]

local notation "𝕄" => MT nD τ sig Unit (Elt F) ℕ (UR sig nD τ) ℕ

/-- What a trip hands the next: the distances, the number of the point chosen, and the last rows of the three
    coordinates of the points chosen so far. -/
abbrev Carry (F : FTy → Type) [FloatOps F] : Type :=
  FVec F S512x128 .f32 × FVec F S1x128 .f32 × FVec F S8x128 .f32 × FVec F S8x128 .f32 × FVec F S8x128 .f32

/-- What the loop starts from. -/
def start : Carry F := (k0_pay6 (F := F), k0_pay7 (F := F), k0_pay5 (F := F), k0_pay5 (F := F), k0_pay5 (F := F))

section
variable (v0 v2 v4 : Vec F S1x512x128 .f32) (v6 : Vec F S512x128 .f32) (v8 : IVec S8x128 32)

/-- One trip: the coordinates of the chosen point, the distances to it, the next choice. -/
def next (k : Fin k0_t1_loop.trips) (a : Carry F) : Carry F :=
  (k0_pay19 (k0_pay1 v0) (k0_pay2 v2) (k0_pay3 v4) a.1 (k0_pay10 (k0_pay1 v0) (k0_pay4 v6) a.2.1)
      (k0_pay11 (k0_pay2 v2) (k0_pay4 v6) a.2.1) (k0_pay12 (k0_pay3 v4) (k0_pay4 v6) a.2.1),
    k0_pay8 (k0_pay20 (k0_pay1 v0) (k0_pay2 v2) (k0_pay3 v4) (k0_pay4 v6) a.1
      (k0_pay10 (k0_pay1 v0) (k0_pay4 v6) a.2.1) (k0_pay11 (k0_pay2 v2) (k0_pay4 v6) a.2.1)
      (k0_pay12 (k0_pay3 v4) (k0_pay4 v6) a.2.1)),
    k0_pay15 (k0_pay1 v0) (k0_pay4 v6) v8 0#32 1#32 k a.2.1 a.2.2.1,
    k0_pay17 a.2.2.2.1 (k0_pay11 (k0_pay2 v2) (k0_pay4 v6) a.2.1) (k0_pay14 (F := F) v8 0#32 1#32 k)
      (k0_pay16 (F := F) 0#32 1#32 k),
    k0_pay18 a.2.2.2.2 (k0_pay12 (k0_pay3 v4) (k0_pay4 v6) a.2.1) (k0_pay13 (F := F) 0#32 1#32 k)
      (k0_pay14 (F := F) v8 0#32 1#32 k))

/-- What is carried before trip `k`. -/
def carry : ℕ → Carry F
  | 0 => start
  | k + 1 => if h : k < k0_t1_loop.trips then next v0 v2 v4 v6 v8 ⟨k, h⟩ (carry k) else carry k

theorem carry_succ (k : Fin k0_t1_loop.trips) :
    carry v0 v2 v4 v6 v8 (k.val + 1) = next v0 v2 v4 v6 v8 k (carry v0 v2 v4 v6 v8 k.val) := by
  rw [carry, dif_pos k.isLt]

/-- The pieces a trip writes of `w`: eight rows every eighth trip. -/
def piece (k : Fin k0_t1_loop.trips) (w : FVec F S8x128 .f32) : List (View.Piece (Elt F) S1024x128 .f32) :=
  if h : k0_cond1 k = 1#1 then [⟨Rect.unit (s := S1024x128) (k0_off1 k) S8x128.size (k0_off1_inb k h), w⟩] else []

theorem trip (𝒱 : Variants) (c : Dev nD) (bd : Option 𝒱.V) (E : Set ℕ)
    (arg0 : Memref sig .tc .vmem S3x512x128 .f32) (harg0 : arg0.IsWhole) (arg1 : Memref sig .tc .vmem S512x128 .f32) (harg1 : arg1.IsWhole)
    (arg2 : Memref sig .tc .vmem S1024x128 .f32) (harg2 : arg2.IsWhole) (arg3 : Memref sig .tc .vmem S1024x128 .f32) (harg3 : arg3.IsWhole)
    (arg4 : Memref sig .tc .vmem S1024x128 .f32) (harg4 : arg4.IsWhole)
    (k : Fin k0_t1_loop.trips) (a : Carry F) (f2 : BufTy.Contents (Elt F) arg2.view.ty)
    (f3 : BufTy.Contents (Elt F) arg3.view.ty) (f4 : BufTy.Contents (Elt F) arg4.view.ty) :
    iprop((arg2.view.loc (c : Thread nD τ) ↦[arg2.view.set]{fullShare} f2)
        ∗ (arg3.view.loc (c : Thread nD τ) ↦[arg3.view.set]{fullShare} f3)
        ∗ (arg4.view.loc (c : Thread nD τ) ↦[arg4.view.set]{fullShare} f4))
      ⊢ wp frame (wpE (defs₀ (F := F)) 𝒱 (c : Thread nD τ) bd) E
          (k0_t1_body (F := F) arg0 harg0 arg1 harg1 arg2 harg2 arg3 harg3 arg4 harg4 v0 v2 v4 v6 v8 k a)
          (fun b => (iprop(⌜b = next v0 v2 v4 v6 v8 k a⌝
            ∗ (arg2.view.loc (c : Thread nD τ) ↦[arg2.view.set]{fullShare} arg2.view.writes (Elt F) f2 (piece k (next v0 v2 v4 v6 v8 k a).2.2.1))
            ∗ (arg3.view.loc (c : Thread nD τ) ↦[arg3.view.set]{fullShare} arg3.view.writes (Elt F) f3 (piece k (next v0 v2 v4 v6 v8 k a).2.2.2.1))
            ∗ (arg4.view.loc (c : Thread nD τ) ↦[arg4.view.set]{fullShare} arg4.view.writes (Elt F) f4 (piece k (next v0 v2 v4 v6 v8 k a).2.2.2.2)))
            : sProp 𝕄)) := by
  obtain ⟨a1, a2, a3, a4, a5⟩ := a
  have hk : k.val < 1024 := Nat.lt_of_lt_of_le k.isLt k0_t1_abs.2.1
  unfold k0_t1_body piece next
  dsimp only
  simp only [k0_part1_eq_skeleton, k0_part2_eq_skeleton]
  iintro ⟨H2, H3, H4⟩
  by_cases h1 : k0_cond1 k = 1#1
  · simp only [dif_pos h1]
    sl_exec
    sl_step
    sl_close
  · simp only [dif_neg h1]
    sl_exec
    sl_step
    sl_close
end

end Cert.Kernel2Ideal.Fps

end
-- ==== Proof.FpsModel.lean ====
/-
  Farthest point sampling of one cloud as mathematics: the distances to the points chosen, the first farthest
  point, the sequence of the choices; and a fold over eight lanes sixteen apart, which the kernel makes by turning
  a row of 128 lanes.
-/
module

public import Idealize.ShloMosaic.Lib.Pointwise

@[expose] public section

noncomputable section

namespace Cert.Fps

open Idealize.ShloMosaic

/-- One coordinate of one cloud. -/
def ax (A : FVec Ideal ⟨3, ![16, 4096, 3]⟩ .f32) (b : Fin 16) (i : Fin 3) : Fin 4096 → EReal := fun n => A (ix3 b n i)

/-- The squared distance of point `n` to point `i`. -/
def sq (x y z : Fin 4096 → EReal) (i n : Fin 4096) : EReal :=
  (x n - x i) * (x n - x i) + (y n - y i) * (y n - y i) + (z n - z i) * (z n - z i)

theorem top_attained (d : Fin 4096 → EReal) : (Finset.univ.filter fun n => d n = ⨆ j, d j).Nonempty := by
  obtain ⟨n, hn⟩ := exists_eq_ciSup_of_finite (f := d)
  exact ⟨n, by simpa using hn⟩

/-- The first point farthest away. -/
def first (d : Fin 4096 → EReal) : Fin 4096 := (Finset.univ.filter fun n => d n = ⨆ j, d j).min' (top_attained d)

theorem first_spec (d : Fin 4096 → EReal) : d (first d) = ⨆ j, d j := by
  exact (Finset.mem_filter.1 (Finset.min'_mem _ (top_attained d))).2

theorem first_le (d : Fin 4096 → EReal) (n : Fin 4096) (h : d n = ⨆ j, d j) : first d ≤ n :=
  Finset.min'_le _ _ (by simpa using h)

/-- The distance every point starts from. -/
def far₀ : EReal := Ideal.ofBits .f32 0x501502F9#32

/-- The distances and the choice before trip `k`. -/
def trips (x y z : Fin 4096 → EReal) : ℕ → (Fin 4096 → EReal) × Fin 4096
  | 0 => (fun _ => far₀, 0)
  | k + 1 => (fun n => min ((trips x y z k).1 n) (sq x y z (trips x y z k).2 n),
      first fun n => min ((trips x y z k).1 n) (sq x y z (trips x y z k).2 n))

/-- The distances before trip `k`. -/
def dist (x y z : Fin 4096 → EReal) (k : ℕ) : Fin 4096 → EReal := (trips x y z k).1
/-- The point chosen before trip `k`. -/
def pick (x y z : Fin 4096 → EReal) (k : ℕ) : Fin 4096 := (trips x y z k).2

theorem dist_zero (x y z : Fin 4096 → EReal) (n : Fin 4096) : dist x y z 0 n = far₀ := rfl
theorem pick_zero (x y z : Fin 4096 → EReal) : pick x y z 0 = 0 := rfl
theorem dist_succ (x y z : Fin 4096 → EReal) (k : ℕ) (n : Fin 4096) :
    dist x y z (k + 1) n = min (dist x y z k n) (sq x y z (pick x y z k) n) := rfl
theorem pick_succ (x y z : Fin 4096 → EReal) (k : ℕ) : pick x y z (k + 1) = first (dist x y z (k + 1)) := rfl

/-! ## Lanes -/

/-- The lane `16 s + b`. -/
def lane (s : Fin 8) (b : Fin 16) : Fin 128 := ⟨16 * s.val + b.val, by omega⟩
/-- The point in row `r` of lane `16 s + b`. -/
def point (r : Fin 512) (s : Fin 8) : Fin 4096 := ⟨8 * r.val + s.val, by omega⟩

theorem lane_of (l : Fin 128) : ∃ s b, l = lane s b :=
  ⟨⟨l.val / 16, by omega⟩, ⟨l.val % 16, by omega⟩, Fin.ext (by simp only [lane]; omega)⟩
theorem point_of (n : Fin 4096) : ∃ r s, n = point r s :=
  ⟨⟨n.val / 8, by omega⟩, ⟨n.val % 8, by omega⟩, Fin.ext (by simp only [point]; omega)⟩
theorem point_inj {r r' : Fin 512} {s s' : Fin 8} (h : point r s = point r' s') : r = r' ∧ s = s' := by
  have := congrArg Fin.val h
  simp only [point] at this
  exact ⟨Fin.ext (by omega), Fin.ext (by omega)⟩

/-- Lane `l` turned back by `d`. -/
def back (d : ℕ) (l : Fin 128) : Fin 128 := ⟨(l.val + 128 - d) % 128, Nat.mod_lt _ (by decide)⟩

/-- The fold of a row with its turns by 16, 32 and 64. -/
def ring (op : EReal → EReal → EReal) (w : Fin 128 → EReal) (l : Fin 128) : EReal :=
  op (op (op (w l) (w (back 16 l))) (op (w (back 32 l)) (w (back 16 (back 32 l)))))
    (op (op (w (back 64 l)) (w (back 16 (back 64 l)))) (op (w (back 32 (back 64 l))) (w (back 16 (back 32 (back 64 l))))))

theorem back_lane (s : Fin 8) (b : Fin 16) : back 16 (lane s b) = lane (s + 7) b ∧ back 32 (lane s b) = lane (s + 6) b
    ∧ back 64 (lane s b) = lane (s + 4) b := by
  refine ⟨?_, ?_, ?_⟩ <;> revert s b <;> decide

theorem ring_lane (op : EReal → EReal → EReal) (w : Fin 128 → EReal) (s : Fin 8) (b : Fin 16) :
    ring op w (lane s b) = op (op (op (w (lane s b)) (w (lane (s + 7) b))) (op (w (lane (s + 6) b)) (w (lane (s + 6 + 7) b))))
      (op (op (w (lane (s + 4) b)) (w (lane (s + 4 + 7) b))) (op (w (lane (s + 4 + 6) b)) (w (lane (s + 4 + 6 + 7) b)))) := by
  unfold ring
  simp only [(back_lane _ b).1, (back_lane _ b).2.1, (back_lane _ b).2.2]

theorem turn_eq : ∀ s : Fin 8, s + 6 + 7 = s + 5 ∧ s + 4 + 7 = s + 3 ∧ s + 4 + 6 = s + 2 ∧ s + 2 + 7 = s + 1 := by decide
theorem turn_cases : ∀ s t : Fin 8, t = s ∨ t = s + 7 ∨ t = s + 6 ∨ t = s + 6 + 7 ∨ t = s + 4 ∨ t = s + 4 + 7 ∨ t = s + 4 + 6
    ∨ t = s + 4 + 6 + 7 := by decide

theorem ring_add (w : Fin 128 → EReal) (s : Fin 8) (b : Fin 16) : ring (· + ·) w (lane s b) = ∑ t : Fin 8, w (lane t b) := by
  obtain ⟨h5, h3, h2, h3'⟩ := turn_eq s
  rw [ring_lane, ← Equiv.sum_comp (Equiv.addLeft s), Fin.sum_univ_eight, h5, h3, h2, h3']
  simp only [Equiv.coe_addLeft, add_zero]
  ac_rfl

theorem turn_all {p : Fin 8 → Prop} (s : Fin 8) :
    (((p s ∧ p (s + 7)) ∧ p (s + 6) ∧ p (s + 6 + 7)) ∧ (p (s + 4) ∧ p (s + 4 + 7)) ∧ p (s + 4 + 6) ∧ p (s + 4 + 6 + 7)) ↔ ∀ t, p t := by
  constructor
  · intro h t
    rcases turn_cases s t with h' | h' | h' | h' | h' | h' | h' | h' <;> rw [h'] <;> tauto
  · intro h; simp only [h, and_self]

theorem ring_max_le (w : Fin 128 → EReal) (s : Fin 8) (b : Fin 16) (T : EReal) :
    ring max w (lane s b) ≤ T ↔ ∀ t : Fin 8, w (lane t b) ≤ T := by
  rw [ring_lane]; simp only [max_le_iff]; exact turn_all (p := fun t => w (lane t b) ≤ T) s

theorem le_ring_min (w : Fin 128 → EReal) (s : Fin 8) (b : Fin 16) (T : EReal) :
    T ≤ ring min w (lane s b) ↔ ∀ t : Fin 8, T ≤ w (lane t b) := by
  rw [ring_lane]; simp only [le_min_iff]; exact turn_all (p := fun t => T ≤ w (lane t b)) s

/-! ## Choosing by numbers -/

/-- A point's number as a float. -/
def num (n : Fin 4096) : EReal := ((n.val : ℝ) : EReal)

theorem num_inj {n n' : Fin 4096} (h : num n = num n') : n = n' := by
  unfold num at h
  exact Fin.ext (by exact_mod_cast EReal.coe_injective h)

theorem num_le {n n' : Fin 4096} (h : n ≤ n') : num n ≤ num n' := by
  unfold num
  exact EReal.coe_le_coe_iff.2 (by exact_mod_cast h)

theorem limit_eq : Ideal.ofBits .f32 0x45800000#32 = ((4096 : ℝ) : EReal) := by
  simp [Ideal.ofBits, Ideal.ieee, -EReal.coe_mul]; norm_num
theorem low_eq : Ideal.ofBits .f32 0xFF800000#32 = ⊥ := by simp [Ideal.ofBits, Ideal.ieee]
theorem high_eq : Ideal.ofBits .f32 0x7F800000#32 = ⊤ := by simp [Ideal.ofBits, Ideal.ieee]

theorem num_le_limit (n : Fin 4096) : num n ≤ Ideal.ofBits .f32 0x45800000#32 := by
  rw [limit_eq]; unfold num
  exact EReal.coe_le_coe_iff.2 (by exact_mod_cast n.isLt.le)

/-- The bit of a decided comparison as a float. -/
theorem float_bit (p : Prop) [Decidable p] :
    (FloatOps.sitofp (F := Ideal) .f32 (BitVec.setWidth 32 (BitVec.ofBool (decide p))) : EReal) = if p then 1 else 0 := by
  by_cases h : p
  · rw [if_pos h, decide_eq_true h]
    show ((((BitVec.setWidth 32 (BitVec.ofBool true)).toInt : ℤ) : ℝ) : EReal) = 1
    rw [show (BitVec.setWidth 32 (BitVec.ofBool true)).toInt = 1 by decide]; norm_num
  · rw [if_neg h, decide_eq_false h]
    show ((((BitVec.setWidth 32 (BitVec.ofBool false)).toInt : ℤ) : ℝ) : EReal) = 0
    rw [show (BitVec.setWidth 32 (BitVec.ofBool false)).toInt = 0 by decide]; norm_num

/-- Summing a coordinate against the one point of number `num f` gives that point's coordinate. -/
theorem sum_hit (x : Fin 4096 → EReal) (f : Fin 4096) :
    ∑ t : Fin 8, ∑ r : Fin 512, x (point r t) * (if num (point r t) = num f then 1 else 0) = x f := by
  obtain ⟨r₀, s₀, rfl⟩ := point_of f
  rw [Finset.sum_eq_single s₀, Finset.sum_eq_single r₀]
  · rw [if_pos rfl, mul_one]
  · intro r _ hr
    rw [if_neg fun h => hr (point_inj (num_inj h)).1, mul_zero]
  · intro h; exact absurd (Finset.mem_univ _) h
  · intro t _ ht
    exact Finset.sum_eq_zero fun r _ => by rw [if_neg fun h => ht (point_inj (num_inj h)).2, mul_zero]
  · intro h; exact absurd (Finset.mem_univ _) h

/-- The maximum the kernel takes, over the rows and then around the ring, is the maximum over the points. -/
theorem ring_max (d : Fin 4096 → EReal) (w : Fin 128 → EReal) (b : Fin 16) (s : Fin 8)
    (hw : ∀ t, w (lane t b) = Finset.univ.fold max (Ideal.ofBits .f32 0xFF800000#32) (fun r : Fin 512 => d (point r t))) :
    ring max w (lane s b) = ⨆ n, d n := by
  refine eq_of_forall_ge_iff fun T => ?_
  rw [ring_max_le, iSup_le_iff]
  simp only [hw, Finset.fold_max_le, low_eq, bot_le, true_and, Finset.mem_univ, true_implies]
  exact ⟨fun h n => by obtain ⟨r, t, rfl⟩ := point_of n; exact h t r, fun h t r => h _⟩

/-- The least number among the points a property holds of, the others counting as the limit. -/
theorem ring_min (d : Fin 4096 → EReal) (w : Fin 128 → EReal) (b : Fin 16) (s : Fin 8)
    (hw : ∀ t, w (lane t b) = Finset.univ.fold min (Ideal.ofBits .f32 0x7F800000#32)
      (fun r : Fin 512 => if d (point r t) = ⨆ j, d j then num (point r t) else Ideal.ofBits .f32 0x45800000#32)) :
    ring min w (lane s b) = num (first d) := by
  refine eq_of_forall_le_iff fun T => ?_
  rw [le_ring_min]
  simp only [hw, Finset.le_fold_min, high_eq, le_top, true_and, Finset.mem_univ, true_implies]
  constructor
  · intro h
    obtain ⟨r, t, e⟩ := point_of (first d)
    have := h t r
    rwa [← e, if_pos (first_spec d)] at this
  · intro h t r
    split
    · exact h.trans (num_le (first_le d _ (by assumption)))
    · exact h.trans (num_le_limit _)

end Cert.Fps

end
-- ==== Proof.FpsPay.lean ====
/-
  One trip of the sampling loop read lane by lane over the extended reals: the coordinates of the chosen point, the
  distances, the next choice, and the rows of the coordinates chosen.
-/
module

public import proofs.«01_k».proof.Proof.FpsLoopIdeal
public import proofs.«01_k».proof.Proof.FpsModel

@[expose] public section

set_option maxRecDepth 16384

noncomputable section

namespace Cert.Kernel2Ideal.Fps

open Idealize.ShloMosaic Idealize.ShloMosaic.TcCoe Idealize.ShloMosaic.Tactic
open Cert.Kernel2Ideal Cert.Kernel2Ideal.Gen
open Cert.Fps

theorem hit_apply (v7 : FVec Ideal S512x128 .f32) (a : FVec Ideal S1x128 .f32) (r : Fin 512) (l : Fin 128) :
    k0_pay9 v7 a (ix2 r l) = if v7 (ix2 r l) = a (ix2 0 l) then 1 else 0 := by
  pointwise [k0_pay9]
  exact float_bit _

section Coord
variable (v v7 : FVec Ideal S512x128 .f32) (a : FVec Ideal S1x128 .f32)

theorem pay10_ring (l : Fin 128) : k0_pay10 v v7 a (ix2 0 l)
    = ring (· + ·) (fun l => ∑ r : Fin 512, v (ix2 r l) * k0_pay9 v7 a (ix2 r l)) l := by
  pointwise [k0_pay10]
  rfl
theorem pay11_ring (l : Fin 128) : k0_pay11 v v7 a (ix2 0 l)
    = ring (· + ·) (fun l => ∑ r : Fin 512, v (ix2 r l) * k0_pay9 v7 a (ix2 r l)) l := by
  pointwise [k0_pay11]
  rfl
theorem pay12_ring (l : Fin 128) : k0_pay12 v v7 a (ix2 0 l)
    = ring (· + ·) (fun l => ∑ r : Fin 512, v (ix2 r l) * k0_pay9 v7 a (ix2 r l)) l := by
  pointwise [k0_pay12]
  rfl

/-- The coordinate summed against the hit is the chosen point's. -/
theorem coord (x : Fin 4096 → EReal) (f : Fin 4096) (b : Fin 16) (s : Fin 8)
    (hv : ∀ r t, v (ix2 r (lane t b)) = x (point r t)) (h7 : ∀ r t, v7 (ix2 r (lane t b)) = num (point r t))
    (ha : ∀ t, a (ix2 0 (lane t b)) = num f) :
    ring (· + ·) (fun l => ∑ r : Fin 512, v (ix2 r l) * k0_pay9 v7 a (ix2 r l)) (lane s b) = x f := by
  rw [ring_add, ← sum_hit x f]
  exact Finset.sum_congr rfl fun t _ => Finset.sum_congr rfl fun r _ => by rw [hit_apply, hv, h7, ha]
end Coord

theorem pay19_apply (v1 v3 v5 d : FVec Ideal S512x128 .f32) (x y z : FVec Ideal S1x128 .f32) (r : Fin 512) (l : Fin 128) :
    k0_pay19 v1 v3 v5 d x y z (ix2 r l) = min (d (ix2 r l))
      ((v1 (ix2 r l) - x (ix2 0 l)) * (v1 (ix2 r l) - x (ix2 0 l)) + (v3 (ix2 r l) - y (ix2 0 l)) * (v3 (ix2 r l) - y (ix2 0 l))
        + (v5 (ix2 r l) - z (ix2 0 l)) * (v5 (ix2 r l) - z (ix2 0 l))) := by
  pointwise [k0_pay19]

/-! ## The next choice -/

/-- The greatest distance, on every lane of its coset. -/
def topRow (d : FVec Ideal S512x128 .f32) : FVec Ideal S1x128 .f32 :=
  let w := shapeCast S1x128 (multiReduction .maximumf [0] S128 d 0xFF800000#32 reduces_S512x128_S128 (.inl rfl) rfl) shapeCasts_S128_S1x128
  let w1 := maximumf w (dynamicRotate 1 16#32 none w rotates_S1x128_d1)
  let w2 := maximumf w1 (dynamicRotate 1 32#32 none w1 rotates_S1x128_d1)
  maximumf w2 (dynamicRotate 1 64#32 none w2 rotates_S1x128_d1)

/-- Each point's number where its distance is the given one, the limit elsewhere. -/
def cand (v7 d : FVec Ideal S512x128 .f32) (t : FVec Ideal S1x128 .f32) : FVec Ideal S512x128 .f32 :=
  let m := sitofp .f32 (extui 32 (cmpf .oeq d (broadcastTo S512x128 t broadcasts_S1x128_S512x128)) natLt_1_32)
  addf (mulf v7 m) (mulf (broadcast S512x128 (Scalar.ofBits .f32 0x45800000#32))
    (subf (broadcast S512x128 (Scalar.ofBits .f32 0x3F800000#32)) m))

/-- The least of a column, around the coset. -/
def lowRow (e : FVec Ideal S512x128 .f32) : FVec Ideal S1x128 .f32 :=
  let w := shapeCast S1x128 (multiReduction .minimumf [0] S128 e 0x7F800000#32 reduces_S512x128_S128 (.inl rfl) rfl) shapeCasts_S128_S1x128
  let w1 := minimumf w (dynamicRotate 1 16#32 none w rotates_S1x128_d1)
  minimumf w1 (dynamicRotate 1 32#32 none w1 rotates_S1x128_d1)

theorem pay20_eq (v1 v3 v5 v7 d : FVec Ideal S512x128 .f32) (x y z : FVec Ideal S1x128 .f32) :
    k0_pay20 v1 v3 v5 v7 d x y z
      = lowRow (cand v7 (k0_pay19 v1 v3 v5 d x y z) (topRow (k0_pay19 v1 v3 v5 d x y z))) := rfl

theorem topRow_apply (d : FVec Ideal S512x128 .f32) (l : Fin 128) : topRow d (ix2 0 l)
    = ring max (fun l => Finset.univ.fold max (Ideal.ofBits .f32 0xFF800000#32) (fun r : Fin 512 => d (ix2 r l))) l := by
  pointwise [topRow]
  rfl

theorem lowRow_apply (e : FVec Ideal S512x128 .f32) (l : Fin 128) : k0_pay8 (lowRow e) (ix2 0 l)
    = ring min (fun l => Finset.univ.fold min (Ideal.ofBits .f32 0x7F800000#32) (fun r : Fin 512 => e (ix2 r l))) l := by
  pointwise [k0_pay8, lowRow]
  rfl

theorem cand_apply (v7 d : FVec Ideal S512x128 .f32) (t : FVec Ideal S1x128 .f32) (r : Fin 512) (l : Fin 128) :
    cand v7 d t (ix2 r l) = if d (ix2 r l) = t (ix2 0 l) then v7 (ix2 r l) else Ideal.ofBits .f32 0x45800000#32 := by
  pointwise [cand]
  rw [float_bit]
  split
  · rw [mul_one, show (1 : EReal) - 1 = 0 by rw [← EReal.coe_one, ← EReal.coe_sub, sub_self, EReal.coe_zero], mul_zero, add_zero]
  · rw [mul_zero, sub_zero, mul_one, zero_add]

/-- Distances read as the model's, the next choice is the first farthest point's number. -/
theorem choose (v7 D : FVec Ideal S512x128 .f32) (d : Fin 4096 → EReal) (b : Fin 16) (s : Fin 8)
    (h7 : ∀ r t, v7 (ix2 r (lane t b)) = num (point r t)) (hD : ∀ r t, D (ix2 r (lane t b)) = d (point r t)) :
    k0_pay8 (lowRow (cand v7 D (topRow D))) (ix2 0 (lane s b)) = num (first d) := by
  rw [lowRow_apply]
  refine ring_min d _ b s fun t => ?_
  refine congrArg (fun f => Finset.univ.fold min _ f) (funext fun r => ?_)
  rw [cand_apply, h7, hD, topRow_apply, ring_max d _ b t fun t' => by simp only [hD]]

/-! ## The rows -/

theorem pay13_eq : ∀ k : Fin k0_t1_loop.trips, (Scalar.extui (Scalar.cmpi CmpIPredicate.ne (Scalar.andi (Scf.iv 0#32 1#32 k) 7#32) 0#32) : BitVec 32).toInt
    = if k.val % 8 = 0 then 0 else 1 := by decide +kernel

theorem keep_apply (k : Fin k0_t1_loop.trips) : k0_pay13 (F := Ideal) 0#32 1#32 k = if k.val % 8 = 0 then (0 : EReal) else 1 := by
  pointwise [k0_pay13]
  rw [pay13_eq]; split <;> norm_num

theorem pay14_eq : ∀ k : Fin k0_t1_loop.trips, Scalar.andi (Scf.iv 0#32 1#32 k) 7#32 = BitVec.ofNat 32 (k.val % 8) := by decide +kernel

theorem row_apply (k : Fin k0_t1_loop.trips) (i : Fin 8) (l : Fin 128) :
    k0_pay14 (F := Ideal) (iota .tc S8x128 32 [0] iota_S8x128_d0_w32) 0#32 1#32 k (ix2 i l) = if i.val = k.val % 8 then (1 : EReal) else 0 := by
  pointwise [k0_pay14]
  rw [pay14_eq]
  have : IntOp.cmpi CmpIPredicate.eq (BitVec.ofNat 32 i.val) (BitVec.ofNat 32 (k.val % 8)) = BitVec.ofBool (decide (i.val = k.val % 8)) := by
    have h : k.val % 8 < 8 := Nat.mod_lt _ (by decide)
    generalize k.val % 8 = j at h
    revert i j; decide
  rw [this, float_bit]

theorem pay15_apply (v1 v7 : FVec Ideal S512x128 .f32) (v8 : IVec S8x128 32) (k : Fin k0_t1_loop.trips) (a : FVec Ideal S1x128 .f32) (o : FVec Ideal S8x128 .f32)
    (i : Fin 8) (l : Fin 128) : k0_pay15 v1 v7 v8 0#32 1#32 k a o (ix2 i l)
      = o (ix2 i l) * k0_pay13 (F := Ideal) 0#32 1#32 k + k0_pay10 v1 v7 a (ix2 0 l) * k0_pay14 (F := Ideal) v8 0#32 1#32 k (ix2 i l) := by
  pointwise [k0_pay15]
theorem pay17_apply (o : FVec Ideal S8x128 .f32) (v : FVec Ideal S1x128 .f32) (w u : FVec Ideal S8x128 .f32) (i : Fin 8) (l : Fin 128) :
    k0_pay17 o v w u (ix2 i l) = o (ix2 i l) * u (ix2 i l) + v (ix2 0 l) * w (ix2 i l) := by
  pointwise [k0_pay17]
theorem pay16_apply (k : Fin k0_t1_loop.trips) (i : Fin 8) (l : Fin 128) :
    k0_pay16 (F := Ideal) 0#32 1#32 k (ix2 i l) = k0_pay13 (F := Ideal) 0#32 1#32 k := by
  pointwise [k0_pay16]
theorem pay18_apply (o : FVec Ideal S8x128 .f32) (v : FVec Ideal S1x128 .f32) (u : EReal) (w : FVec Ideal S8x128 .f32) (i : Fin 8) (l : Fin 128) :
    k0_pay18 o v u w (ix2 i l) = o (ix2 i l) * u + v (ix2 0 l) * w (ix2 i l) := by
  pointwise [k0_pay18]

end Cert.Kernel2Ideal.Fps

end
-- ==== Proof.FpsBodyIdeal.lean ====
/-
  The sampling kernel's body: the loop by its invariant, and what the three result blocks hold after it.
-/
module

public import proofs.«01_k».proof.Proof.FpsLoopIdeal
public import Idealize.ShloMosaic.Lib.Pointwise

@[expose] public section

noncomputable section

namespace Cert.Kernel2Ideal.Fps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen

variable {F : FTy → Type} [FloatOps F]

local notation "𝕄" => MT nD τ sig Unit (Elt F) ℕ (UR sig nD τ) ℕ

/-- A trip writes exactly when its number is seven modulo eight. -/
theorem writes_iff : ∀ k : Fin k0_t1_loop.trips, k0_cond1 k = 1#1 ↔ k.val % 8 = 7 := by decide +kernel

/-- The rows it then writes are the eight up to its own. -/
theorem writes_at : ∀ k : Fin k0_t1_loop.trips, k0_cond1 k = 1#1 → k0_off1 k = ![k.val - 7, 0] := by decide +kernel

theorem trips_eq : k0_t1_loop.trips = 1024 := by decide +kernel

/-- The block a family of register rows makes: row `r` is row `r % 8` of what is carried after the eight trips
    that hold `r`. -/
def block (rows : ℕ → FVec F S8x128 .f32) : Vec F S1024x128 .f32 := fun x =>
  rows (8 * ((x 0).val / 8) + 8) (ix2 (n0 := 8) (n1 := 128) ⟨(x 0).val % 8, Nat.mod_lt _ (by decide)⟩ (x 1))

/-- The rows below the last full eight are as the block says. -/
def Done (rows : ℕ → FVec F S8x128 .f32) (v : View sig .tc .vmem S1024x128 .f32) (k : ℕ) (f : BufTy.Contents (Elt F) v.ty) : Prop :=
  ∀ x : S1024x128.Idx, (x 0).val < 8 * (k / 8) → v.read (Elt F) f x = block rows x

theorem done_zero (rows : ℕ → FVec F S8x128 .f32) (v : View sig .tc .vmem S1024x128 .f32) (f : BufTy.Contents (Elt F) v.ty) :
    Done rows v 0 f := fun x h => absurd h (Nat.not_lt_zero _)

theorem done_succ (rows : ℕ → FVec F S8x128 .f32) (v : View sig .tc .vmem S1024x128 .f32) (k : Fin k0_t1_loop.trips)
    (f : BufTy.Contents (Elt F) v.ty) (h : Done rows v k.val f) (w : FVec F S8x128 .f32) (hw : rows (k.val + 1) = w) :
    Done rows v (k.val + 1) (v.writes (Elt F) f (piece k w)) := by
  intro x hx
  unfold piece
  by_cases hc : k0_cond1 k = 1#1
  · have h7 := (writes_iff k).1 hc
    rw [dif_pos hc]
    by_cases hr : (x 0).val < k.val - 7
    · rw [View.read_writes_cons_rows_of_not_mem v f _ _ _ x (writes_at k hc) (W := 8) rfl (.inl hr)]
      exact h x (by omega)
    · have hlt : (x 0).val < k.val + 1 := by omega
      rw [View.read_writes_cons_rows_of_mem v f (k0_off1_inb k hc) w [] x
        (show (Rect.unit (s := S1024x128) (k0_off1 k) S8x128.size (k0_off1_inb k hc)).shape.Idx from
          ix2 (n0 := 8) (n1 := 128) ⟨(x 0).val - (k.val - 7), by omega⟩ (x 1)) (writes_at k hc)
        (by show (x 0).val = k.val - 7 + ((x 0).val - (k.val - 7)); omega) rfl]
      unfold block
      rw [show 8 * ((x 0).val / 8) + 8 = k.val + 1 by omega, hw]
      congr 1
      funext a
      match a with
      | ⟨0, _⟩ => exact Fin.ext (by show (x 0).val - (k.val - 7) = (x 0).val % 8; omega)
      | ⟨1, _⟩ => rfl
  · rw [dif_neg hc]
    have h7 : ¬ k.val % 8 = 7 := fun e => hc ((writes_iff k).2 e)
    exact h x (by omega)

theorem done_all (rows : ℕ → FVec F S8x128 .f32) (v : View sig .tc .vmem S1024x128 .f32) (f : BufTy.Contents (Elt F) v.ty)
    (h : Done rows v k0_t1_loop.trips f) : v.read (Elt F) f = block rows := by
  funext x
  have hx : (x 0).val < 1024 := (x 0).isLt
  exact h x (by rw [trips_eq]; omega)

/-- The pieces written before trip `k`, last first. -/
def pieces (rows : ℕ → FVec F S8x128 .f32) : ℕ → List (View.Piece (Elt F) S1024x128 .f32)
  | 0 => []
  | k + 1 => if h : k < k0_t1_loop.trips then piece ⟨k, h⟩ (rows (k + 1)) ++ pieces rows k else pieces rows k

theorem pieces_succ (rows : ℕ → FVec F S8x128 .f32) (k : Fin k0_t1_loop.trips) :
    pieces rows (k.val + 1) = piece k (rows (k.val + 1)) ++ pieces rows k.val := by
  rw [pieces, dif_pos k.isLt]

theorem done_pieces (rows : ℕ → FVec F S8x128 .f32) (v : View sig .tc .vmem S1024x128 .f32) (f : BufTy.Contents (Elt F) v.ty) :
    ∀ k, k ≤ k0_t1_loop.trips → Done rows v k (v.writes (Elt F) f (pieces rows k))
  | 0, _ => done_zero _ _ _
  | k + 1, h => by
    rw [pieces_succ rows ⟨k, h⟩, View.writes_append]
    exact done_succ rows v ⟨k, h⟩ _ (done_pieces rows v f k (Nat.le_of_succ_le h)) _ rfl

/-- All pieces written, the buffer reads the block, whatever it held. -/
theorem read_pieces (rows : ℕ → FVec F S8x128 .f32) (v : View sig .tc .vmem S1024x128 .f32) (f : BufTy.Contents (Elt F) v.ty) :
    v.read (Elt F) (v.writes (Elt F) f (pieces rows k0_t1_loop.trips)) = block rows :=
  done_all rows v _ (done_pieces rows v f _ le_rfl)

/-- Before trip `k` the results hold the pieces of the trips before, and what is carried is `carry k`. -/
abbrev inv (c : Dev nD)
    (arg2 arg3 arg4 : Memref sig .tc .vmem S1024x128 .f32)
    (v0 v2 v4 : Vec F S1x512x128 .f32) (v6 : Vec F S512x128 .f32) (v8 : IVec S8x128 32)
    (g2 : BufTy.Contents (Elt F) arg2.view.ty) (g3 : BufTy.Contents (Elt F) arg3.view.ty) (g4 : BufTy.Contents (Elt F) arg4.view.ty)
    (k : ℕ) (a : Carry F) : sProp 𝕄 :=
  iprop((∃ f, (arg2.view.loc (c : Thread nD τ) ↦[arg2.view.set]{fullShare} f) ∗ ⌜f = arg2.view.writes (Elt F) g2 (pieces (fun j => (carry v0 v2 v4 v6 v8 j).2.2.1) k)⌝)
    ∗ (∃ f, (arg3.view.loc (c : Thread nD τ) ↦[arg3.view.set]{fullShare} f) ∗ ⌜f = arg3.view.writes (Elt F) g3 (pieces (fun j => (carry v0 v2 v4 v6 v8 j).2.2.2.1) k)⌝)
    ∗ (∃ f, (arg4.view.loc (c : Thread nD τ) ↦[arg4.view.set]{fullShare} f) ∗ ⌜f = arg4.view.writes (Elt F) g4 (pieces (fun j => (carry v0 v2 v4 v6 v8 j).2.2.2.2) k)⌝)
    ∗ ⌜a = carry v0 v2 v4 v6 v8 k⌝)

set_option warn.classDefReducibility false in
/-- The loop by its invariant. -/
@[sl_loop] def loopInv (𝒱 : Variants) (c : Dev nD) (bd : Option 𝒱.V) (E : Set ℕ)
    (arg0 : Memref sig .tc .vmem S3x512x128 .f32) (harg0 : arg0.IsWhole) (arg1 : Memref sig .tc .vmem S512x128 .f32) (harg1 : arg1.IsWhole)
    (arg2 : Memref sig .tc .vmem S1024x128 .f32) (harg2 : arg2.IsWhole) (arg3 : Memref sig .tc .vmem S1024x128 .f32) (harg3 : arg3.IsWhole)
    (arg4 : Memref sig .tc .vmem S1024x128 .f32) (harg4 : arg4.IsWhole)
    (v0 v2 v4 : Vec F S1x512x128 .f32) (v6 : Vec F S512x128 .f32) (v8 : IVec S8x128 32)
    (g2 : BufTy.Contents (Elt F) arg2.view.ty) (g3 : BufTy.Contents (Elt F) arg3.view.ty) (g4 : BufTy.Contents (Elt F) arg4.view.ty)
    (init : Carry F) :
    LoopInv (M := 𝕄) frame (wpE (defs₀ (F := F)) 𝒱 (c : Thread nD τ) bd) E
      k0_t1_loop.lb k0_t1_loop.ub k0_t1_loop.st k0_t1_ok init
      (k0_t1_body (F := F) arg0 harg0 arg1 harg1 arg2 harg2 arg3 harg3 arg4 harg4 v0 v2 v4 v6 v8) where
  inv := inv c arg2 arg3 arg4 v0 v2 v4 v6 v8 g2 g3 g4
  step k a := by
    iintro ⟨⟨%f2, H2, %h2⟩, ⟨%f3, H3, %h3⟩, ⟨%f4, H4, %h4⟩, %ha⟩
    subst ha
    iapply (wp_wand_r frame (wpE (defs₀ (F := F)) 𝒱 (c : Thread nD τ) bd) E)
    isplitl [H2 H3 H4]
    · iapply (trip v0 v2 v4 v6 v8 𝒱 c bd E arg0 harg0 arg1 harg1 arg2 harg2 arg3 harg3 arg4 harg4 k (carry v0 v2 v4 v6 v8 k.val) f2 f3 f4)
      isplitl [H2]; · iexact H2
      isplitl [H3]; · iexact H3
      iexact H4
    · iintro %b ⟨%hb, H2, H3, H4⟩
      unfold inv
      isplitl [H2]
      · iexists _; isplitl [H2]; · iexact H2
        ipureintro; rw [h2, pieces_succ, View.writes_append, carry_succ]
      isplitl [H3]
      · iexists _; isplitl [H3]; · iexact H3
        ipureintro; rw [h3, pieces_succ, View.writes_append, carry_succ]
      isplitl [H4]
      · iexists _; isplitl [H4]; · iexact H4
        ipureintro; rw [h4, pieces_succ, View.writes_append, carry_succ]
      ipureintro; rw [hb, carry_succ]

end Cert.Kernel2Ideal.Fps

end
-- ==== Proof.FpsRunIdeal.lean ====
/-
  The sampling kernel's run: its body on the staging blocks, the region, and the operations after it.
-/
module

public import proofs.«01_k».proof.Proof.FpsBodyIdeal
public import proofs.«01_k».proof.Proof.Gen.Kernel2Ideal.Frame
public import Idealize.ShloMosaic.Lib.Quiescent

@[expose] public section

set_option maxRecDepth 16384

noncomputable section

namespace Cert.Kernel2Ideal.Fps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.Kernel2Ideal Cert.Kernel2Ideal.Gen

variable {F : FTy → Type} [FloatOps F]

local notation "𝕄" => MT nD τ sig Unit (Elt F) ℕ (UR sig nD τ) ℕ

/-- What is carried before trip `k`, of the two input blocks: the coordinates and the points' numbers. -/
def after (x0 : Vec F S3x512x128 .f32) (x1 : Vec F S512x128 .f32) (k : ℕ) : Carry F :=
  carry (View.ld x0 (Rect.unit (s := S3x512x128) ![0, 0, 0] S1x512x128.size inb_S3x512x128_S1x512x128_0_0_0))
    (View.ld x0 (Rect.unit (s := S3x512x128) ![1, 0, 0] S1x512x128.size inb_S3x512x128_S1x512x128_1_0_0))
    (View.ld x0 (Rect.unit (s := S3x512x128) ![2, 0, 0] S1x512x128.size inb_S3x512x128_S1x512x128_2_0_0))
    (View.ld x1 (Rect.unit (s := S512x128) ![0, 0] S512x128.size inb_S512x128_S512x128_0_0))
    (iota .tc S8x128 32 [0] iota_S8x128_d0_w32) k

/-- The three result blocks. -/
def outX (x0 : Vec F S3x512x128 .f32) (x1 : Vec F S512x128 .f32) : Vec F S1024x128 .f32 := block fun j => (after x0 x1 j).2.2.1
def outY (x0 : Vec F S3x512x128 .f32) (x1 : Vec F S512x128 .f32) : Vec F S1024x128 .f32 := block fun j => (after x0 x1 j).2.2.2.1
def outZ (x0 : Vec F S3x512x128 .f32) (x1 : Vec F S512x128 .f32) : Vec F S1024x128 .f32 := block fun j => (after x0 x1 j).2.2.2.2

/-- The body on whole blocks: the inputs stay, the results end at the three blocks. -/
theorem sound_kernel (c : Dev nD) (E : Set ℕ)
    (arg0 : Memref sig .tc .vmem S3x512x128 .f32) (harg0 : arg0.IsWhole) (arg1 : Memref sig .tc .vmem S512x128 .f32) (harg1 : arg1.IsWhole)
    (arg2 : Memref sig .tc .vmem S1024x128 .f32) (harg2 : arg2.IsWhole) (arg3 : Memref sig .tc .vmem S1024x128 .f32) (harg3 : arg3.IsWhole)
    (arg4 : Memref sig .tc .vmem S1024x128 .f32) (harg4 : arg4.IsWhole)
    (x0 : Vec F S3x512x128 .f32) (x1 : Vec F S512x128 .f32) (K : PUnit → sProp 𝕄) :
    iprop(owns (c : Thread nD τ) arg0 fullShare x0 ∗ owns (c : Thread nD τ) arg1 fullShare x1
        ∗ (∃ d, owns (c : Thread nD τ) arg2 fullShare d) ∗ (∃ d, owns (c : Thread nD τ) arg3 fullShare d)
        ∗ (∃ d, owns (c : Thread nD τ) arg4 fullShare d)
        ∗ (iprop(owns (c : Thread nD τ) arg0 fullShare x0 ∗ owns (c : Thread nD τ) arg1 fullShare x1
            ∗ owns (c : Thread nD τ) arg2 fullShare (outX x0 x1) ∗ owns (c : Thread nD τ) arg3 fullShare (outY x0 x1)
            ∗ owns (c : Thread nD τ) arg4 fullShare (outZ x0 x1)) -∗ K ⟨⟩))
      ⊢ wp frame (wpE (defs₀ (F := F)) Variants.none c none) E
          (cc0__fps_body arg0 harg0 arg1 harg1 arg2 harg2 arg3 harg3 arg4 harg4) K := by
  simp only [cc0__fps_body_eq_skeleton]; unfold cc0__fps_body_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr; swap; · iexact H2
    ipureintro; exact read_pieces _ _ _
  isplitl [H3]
  · iexists _; isplitr; swap; · iexact H3
    ipureintro; exact read_pieces _ _ _
  iexists _; isplitr; swap; · iexact H4
  ipureintro; exact read_pieces _ _ _

section Region
variable (m : (ℓ : Loc nD τ sig) → Buf (Elt F) ℓ) (ρ : Dev nD → PrngReg)

/-- The proof data: the arrays as the region finds them, each input left in place, each result at its block. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outX (iblk m c 0 t) (iblk m c 1 t)
    | ⟨3, _⟩ => outY (iblk m c 0 t) (iblk m c 1 t)
    | ⟨4, _⟩ => outZ (iblk m c 0 t) (iblk m c 1 t)
  Φ _ := Pipeline.ΦA spec0 c
  q _ := fullShare
  owed _ := 0

theorem dat_A (c : Dev nD) (w : Fin cfg0.W) : (dat m c).A w = V m c (Pipeline.arrRef spec0 w) := by dsimp only [dat]
theorem dat_after0 (c : Dev nD) (t : Fin cfg0.N) : (dat m c).after 0 t = iblk m c 0 t := by dsimp only [dat]
theorem dat_after1 (c : Dev nD) (t : Fin cfg0.N) : (dat m c).after 1 t = iblk m c 1 t := by dsimp only [dat]
theorem dat_after2 (c : Dev nD) (t : Fin cfg0.N) : (dat m c).after 2 t = outX (iblk m c 0 t) (iblk m c 1 t) := by dsimp only [dat]
theorem dat_after3 (c : Dev nD) (t : Fin cfg0.N) : (dat m c).after 3 t = outY (iblk m c 0 t) (iblk m c 1 t) := by dsimp only [dat]
theorem dat_after4 (c : Dev nD) (t : Fin cfg0.N) : (dat m c).after 4 t = outZ (iblk m c 0 t) (iblk m c 1 t) := by dsimp only [dat]

theorem dat_before0 (c : Dev nD) (t : Fin cfg0.N) (d) : (dat m c).before 0 t d = iblk m c 0 t :=
  before0_0_of m (dat m c) (dat_A m c 0) (dat_after0 m c) t d
theorem dat_before1 (c : Dev nD) (t : Fin cfg0.N) (d) : (dat m c).before 1 t d = iblk m c 1 t :=
  before0_1_of m (dat m c) (dat_A m c 1) (dat_after1 m c) t d

/-- The body's precondition, window by window. -/
def held (c : Dev nD) (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ d, owns (c : Thread nD τ) (st0_3 t) fullShare ((dat m c).before 3 t d))
    ∗ (∃ d, owns (c : Thread nD τ) (st0_4 t) fullShare ((dat m c).before 4 t d)))

/-- What it gives back. -/
def given (c : Dev nD) (t : Fin cfg0.N) : sProp 𝕄 :=
  iprop((dat m c).Φ t.succ ∗ (dat m c).owesAt () t.succ
    ∗ owns (c : Thread nD τ) (st0_0 t) fullShare ((dat m c).after 0 t)
    ∗ owns (c : Thread nD τ) (st0_1 t) fullShare ((dat m c).after 1 t)
    ∗ owns (c : Thread nD τ) (st0_2 t) fullShare ((dat m c).after 2 t)
    ∗ owns (c : Thread nD τ) (st0_3 t) fullShare ((dat m c).after 3 t)
    ∗ owns (c : Thread nD τ) (st0_4 t) fullShare ((dat m c).after 4 t))

theorem held_given (c : Dev nD) (t : Fin cfg0.N) :
    held m c t ⊢ wp frame (wpE (defs₀ (F := F)) Variants.none c none) Set.univ (bodyAt0 t) (fun _ => given m c t) := by
  unfold held given bodyAt0
  simp only [dat_before0, dat_before1]
  rw [show (dat m c).Φ t.succ = (dat m c).Φ t.castSucc from rfl,
    show (dat m c).owesAt () t.succ = (dat m c).owesAt () t.castSucc from rfl,
    dat_after0, dat_after1, dat_after2, dat_after3, dat_after4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ (iblk m c 0 t) (iblk m c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_row (t : Fin cfg0.N) : defs₀ (F := F) .tc cfg0.body (cfg0.bodyArgs t (cfg0.slots t)) = bodyAt0 t := by
  unfold defs₀; rw [Defs.onTc_tc]

theorem obligation (c : Dev nD) : BodyObligation (dat (F := F) m c) (defs₀ (F := F)) Variants.none () Set.univ := fun t => by
  rw [bigSep_W0, bigSep_W0, body_row]
  exact triple_restated (held_given m c t) rfl .rfl fun _ => .rfl

/-- The one region's data. -/
def dats (p : Fin 1) (c : Dev nD) : Dat τ (Elt F) Unit ℕ (UR sig nD τ) ℕ (cfgs p) c :=
  match p with
  | 0 => dat m c
  | ⟨_ + 1, h⟩ => absurd h (Nat.not_lt.2 (Nat.le_add_left _ _))

/-- What the run leaves: the region's arrays and the other buffers, and every counter at zero. -/
theorem run : θ_run defs (onTc (τ := τ) (main (F := F))) (s₀ m ρ) (fun r =>
    Pipeline.FramePost cfgs (dats m) 0 (Pipeline.afterTail₀ cfgs (dats m) 0 (V0 m) [hostOps1]) r ∧ r.2.sem = (fun _ => 0)) :=
  Pipeline.θ_run_frame_around cfgs (dats m) 0 launch0 defs₀ Variants.none m ρ main
    (hbody := fun c => (obligation m c).loose) (hshare := fun c w => (dat m c).share_full (fun _ => rfl) w)
    (howed := fun _ _ => rfl) (V₀ := V0 m) (opss := [hostOps1]) sfx_sub sfx_fresh sfx_keeps (hmain m Variants.none)
    (hA := fun c w => dat_A m c w) (hΦ := fun _ _ => rfl)
    (Q' := fun r => Pipeline.FramePost cfgs (dats m) 0 (Pipeline.afterTail₀ cfgs (dats m) 0 (V0 m) [hostOps1]) r ∧ r.2.sem = (fun _ => 0))
    (hQ' := fun _ h => h)

/-- The argument ends as launched and every counter at zero. -/
theorem frame_sem : θ_run defs (onTc (τ := τ) (main (F := F))) ⟨m, fun _ => 0, ρ⟩ (fun r =>
    (∀ c : Dev nD, r.2.mem ((c.tc : Thread nD τ).loc main_arg0) = m ((c.tc : Thread nD τ).loc main_arg0))
      ∧ r.2.sem = (fun _ => 0)) :=
  (θ_run defs _ _).mono (fun _ h => ⟨fun c => ((h.1 c).2 main_arg0 (Pipeline.mem_restRefs_of main_arg0 (by decide) (by decide))).trans
    (W_main_arg0 m (dats m) c), h.2⟩) (run m ρ)

/-- The result too, by the operations after the region. -/
theorem run_result : θ_run defs (onTc (τ := τ) (main (F := F))) ⟨m, fun _ => 0, ρ⟩ (fun r => ∀ c : Dev nD,
    r.2.mem ((c.tc : Thread nD τ).loc main_v18) = Pipeline.afterTail₀ cfgs (dats m) 0 (V0 m) [hostOps1] c main_v18
      ∧ r.2.mem ((c.tc : Thread nD τ).loc main_arg0) = m ((c.tc : Thread nD τ).loc main_arg0)) :=
  (θ_run defs _ _).mono (fun _ h c => ⟨(h.1 c).2 main_v18 (Pipeline.mem_restRefs_of main_v18 (by decide) (by decide)),
    ((h.1 c).2 main_arg0 (Pipeline.mem_restRefs_of main_arg0 (by decide) (by decide))).trans (W_main_arg0 m (dats m) c)⟩) (run m ρ)

end Region

end Cert.Kernel2Ideal.Fps

end
-- ==== Proof.FpsInv.lean ====
/-
  What the sampling loop carries before trip `k`, over the extended reals, is the model's distances and choice, and the
  rows of the coordinates chosen since the last full eight; so the three result blocks hold the chosen points' coordinates.
-/
module

public import proofs.«01_k».proof.Proof.FpsPay
public import proofs.«01_k».proof.Proof.FpsRunIdeal

@[expose] public section

set_option maxRecDepth 16384

noncomputable section

namespace Cert.Kernel2Ideal.Fps

open Idealize.ShloMosaic Idealize.ShloMosaic.TcCoe Idealize.ShloMosaic.Tactic
open Cert.Kernel2Ideal Cert.Kernel2Ideal.Gen
open Cert.Fps

/-- The register row `i` before trip `k`: a chosen point's coordinate if it was chosen since the last full eight. -/
def rowOf (x y z c : Fin 4096 → EReal) (k i : ℕ) : EReal :=
  if 8 * ((k - 1) / 8) + i < k then c (pick x y z (8 * ((k - 1) / 8) + i)) else 0

/-- A row kept or cleared, with the new coordinate in its place. -/
theorem rowOf_succ (x y z c : Fin 4096 → EReal) (k i : ℕ) (hi : i < 8) :
    rowOf x y z c k i * (if k % 8 = 0 then 0 else 1) + c (pick x y z k) * (if i = k % 8 then 1 else 0) = rowOf x y z c (k + 1) i := by
  unfold rowOf
  rw [Nat.add_sub_cancel]
  by_cases hk : k % 8 = 0
  · rw [if_pos hk, mul_zero, zero_add, hk]
    by_cases h0 : i = 0
    · rw [if_pos h0, mul_one, if_pos (by omega), show 8 * (k / 8) + i = k by omega]
    · rw [if_neg h0, mul_zero, if_neg (by omega)]
  · rw [if_neg hk, mul_one, show (k - 1) / 8 = k / 8 by omega]
    by_cases hik : i = k % 8
    · rw [if_pos hik, mul_one, if_neg (by omega), zero_add, if_pos (by omega), show 8 * (k / 8) + i = k by omega]
    · rw [if_neg hik, mul_zero, add_zero]
      by_cases hl : 8 * (k / 8) + i < k
      · rw [if_pos hl, if_pos (by omega)]
      · rw [if_neg hl, if_neg (by omega)]

/-- What is carried before trip `k` reads, on the lanes of cloud `b`, as the model says. -/
def Carried (x y z : Fin 4096 → EReal) (b : Fin 16) (k : ℕ) (a : Carry Ideal) : Prop :=
  (∀ r t, a.1 (ix2 r (lane t b)) = dist x y z k (point r t))
  ∧ (∀ t, a.2.1 (ix2 0 (lane t b)) = num (pick x y z k))
  ∧ (∀ (i : Fin 8) t, a.2.2.1 (ix2 i (lane t b)) = rowOf x y z x k i.val)
  ∧ (∀ (i : Fin 8) t, a.2.2.2.1 (ix2 i (lane t b)) = rowOf x y z y k i.val)
  ∧ (∀ (i : Fin 8) t, a.2.2.2.2 (ix2 i (lane t b)) = rowOf x y z z k i.val)

section
variable (v0 v2 v4 : Vec Ideal S1x512x128 .f32) (v6 : Vec Ideal S512x128 .f32) (x y z : Fin 4096 → EReal) (b : Fin 16)

theorem carried_start : Carried x y z b 0 (start (F := Ideal)) := by
  refine ⟨fun r t => ?_, fun t => ?_, fun i t => ?_, fun i t => ?_, fun i t => ?_⟩
  · rfl
  · show k0_pay7 (F := Ideal) (ix2 0 (lane t b)) = num 0
    pointwise [k0_pay7]
    simp [num]
  all_goals
    show k0_pay5 (F := Ideal) (ix2 i (lane t b)) = _
    pointwise [k0_pay5]
    rw [rowOf, if_neg (Nat.not_lt_zero _)]

variable (h0 : ∀ r t, k0_pay1 v0 (ix2 r (lane t b)) = x (point r t)) (h2 : ∀ r t, k0_pay2 v2 (ix2 r (lane t b)) = y (point r t))
  (h4 : ∀ r t, k0_pay3 v4 (ix2 r (lane t b)) = z (point r t)) (h6 : ∀ r t, k0_pay4 v6 (ix2 r (lane t b)) = num (point r t))

include h0 h2 h4 h6

theorem carried_next (k : Fin k0_t1_loop.trips) (a : Carry Ideal) (h : Carried x y z b k.val a) :
    Carried x y z b (k.val + 1) (next v0 v2 v4 v6 (iota .tc S8x128 32 [0] iota_S8x128_d0_w32) k a) := by
  obtain ⟨hd, hp, hx, hy, hz⟩ := h
  have cx : ∀ t, k0_pay10 (k0_pay1 v0) (k0_pay4 v6) a.2.1 (ix2 0 (lane t b)) = x (pick x y z k.val) := fun t => by
    rw [pay10_ring]; exact coord _ _ _ x _ b t h0 h6 hp
  have cy : ∀ t, k0_pay11 (k0_pay2 v2) (k0_pay4 v6) a.2.1 (ix2 0 (lane t b)) = y (pick x y z k.val) := fun t => by
    rw [pay11_ring]; exact coord _ _ _ y _ b t h2 h6 hp
  have cz : ∀ t, k0_pay12 (k0_pay3 v4) (k0_pay4 v6) a.2.1 (ix2 0 (lane t b)) = z (pick x y z k.val) := fun t => by
    rw [pay12_ring]; exact coord _ _ _ z _ b t h4 h6 hp
  have hD : ∀ r t, k0_pay19 (k0_pay1 v0) (k0_pay2 v2) (k0_pay3 v4) a.1 (k0_pay10 (k0_pay1 v0) (k0_pay4 v6) a.2.1)
      (k0_pay11 (k0_pay2 v2) (k0_pay4 v6) a.2.1) (k0_pay12 (k0_pay3 v4) (k0_pay4 v6) a.2.1) (ix2 r (lane t b))
      = dist x y z (k.val + 1) (point r t) := fun r t => by
    rw [pay19_apply, cx, cy, cz, h0, h2, h4, hd, dist_succ, Cert.Fps.sq]
  refine ⟨hD, fun t => ?_, fun i t => ?_, fun i t => ?_, fun i t => ?_⟩
  · show k0_pay8 (k0_pay20 _ _ _ _ _ _ _ _) _ = _
    rw [pay20_eq, choose _ _ _ b t h6 hD, pick_succ]
  · show k0_pay15 _ _ _ _ _ _ _ _ _ = _
    rw [pay15_apply, hx, cx, keep_apply, row_apply, rowOf_succ _ _ _ _ _ _ i.isLt]
  · show k0_pay17 _ _ _ _ _ = _
    rw [pay17_apply, hy, cy, pay16_apply, keep_apply, row_apply, rowOf_succ _ _ _ _ _ _ i.isLt]
  · show k0_pay18 _ _ _ _ _ = _
    rw [pay18_apply, hz, cz, keep_apply, row_apply, rowOf_succ _ _ _ _ _ _ i.isLt]

theorem carried (k : ℕ) (hk : k ≤ k0_t1_loop.trips) :
    Carried x y z b k (carry v0 v2 v4 v6 (iota .tc S8x128 32 [0] iota_S8x128_d0_w32) k) := by
  induction k with
  | zero => exact carried_start x y z b
  | succ k ih =>
    rw [carry_succ v0 v2 v4 v6 _ ⟨k, hk⟩]
    exact carried_next v0 v2 v4 v6 x y z b h0 h2 h4 h6 ⟨k, hk⟩ _ (ih (Nat.le_of_succ_le hk))

end

theorem rowOf_full (x y z c : Fin 4096 → EReal) (r : ℕ) : rowOf x y z c (8 * (r / 8) + 8) (r % 8) = c (pick x y z r) := by
  unfold rowOf
  rw [if_pos (by omega), show 8 * ((8 * (r / 8) + 8 - 1) / 8) + r % 8 = r by omega]

/-- A block of rows that read as carried holds the chosen points' coordinates. -/
theorem block_apply (rows : ℕ → FVec Ideal S8x128 .f32) (x y z c : Fin 4096 → EReal) (b : Fin 16)
    (h : ∀ k, k ≤ k0_t1_loop.trips → ∀ (i : Fin 8) t, rows k (ix2 i (lane t b)) = rowOf x y z c k i.val) (r : Fin 1024) (t : Fin 8) :
    block rows (ix2 r (lane t b)) = c (pick x y z r.val) := by
  show rows (8 * (r.val / 8) + 8) (ix2 (n0 := 8) (n1 := 128) ⟨r.val % 8, _⟩ (lane t b)) = _
  rw [h _ (by rw [trips_eq]; omega), rowOf_full]

end Cert.Kernel2Ideal.Fps

end
-- ==== Proof.FpsKernel.lean ====
/-
  The sampling kernel's result as a function of its argument: the host lays the clouds on the lanes, the loop chooses,
  and the host reads the three result blocks back.
-/
module

public import proofs.«01_k».proof.Proof.FpsInv
public import Idealize.ShloMosaic.Lib.Pipeline.ValueKit

@[expose] public section

set_option maxRecDepth 16384

noncomputable section

namespace Cert.Kernel2Ideal.Fps

open Idealize.ShloMosaic Idealize.ShloMosaic.TcCoe Idealize.ShloMosaic.Tactic Idealize.SL.Sem
open Cert.Kernel2Ideal Cert.Kernel2Ideal.Gen
open Cert.Fps

variable (m : (ℓ : Loc nD τ sig) → Buf (Elt Ideal) ℓ) (ρ : Dev nD → PrngReg) (c : Dev nD)

/-- The clouds. -/
abbrev pts : FVec Ideal S16x4096x3 .f32 := m ((c : Thread nD τ).loc main_arg0)

theorem laid (i : Fin 3) (r : Fin 512) (t : Fin 8) (b : Fin 16) :
    (V m c main_v2 : FVec Ideal S3x512x128 .f32) (ix3 i r (lane t b)) = ax (pts m c) b i (point r t) := by
  have h : (⟨(lane t b).val % 16, Nat.mod_lt _ (by decide)⟩ : Fin 16) = b := Fin.ext (by simp only [lane]; omega)
  have h' : (lane t b).val / 16 = t.val := by simp only [lane]; omega
  show StableHlo.after hostOps0 (fun b => m (c, b)) (Proc.devRef .tc main_v2) (ix3 i r (lane t b)) = _
  after_results
  pointwise
  refine (congrArg (fun x : S16x4096x3.Idx => pts m c x) (?_ : _ = ix3 b (point r t) i)).trans rfl
  funext a
  match a with
  | ⟨0, _⟩ => exact h
  | ⟨1, _⟩ => exact Fin.ext (by show r.val * 8 + (lane t b).val / 16 = 8 * r.val + t.val; rw [h']; omega)
  | ⟨2, _⟩ => rfl

theorem numbered (r : Fin 512) (t : Fin 8) (b : Fin 16) :
    (V m c main_v7 : FVec Ideal S512x128 .f32) (ix2 r (lane t b)) = num (point r t) := by
  have h' : (lane t b).val / 16 = t.val := by simp only [lane]; omega
  show StableHlo.after hostOps0 (fun b => m (c, b)) (Proc.devRef .tc main_v7) (ix2 r (lane t b)) = _
  after_results
  pointwise
  show ((((BitVec.ofNat 32 (r.val * 8 + (lane t b).val / 16)).toInt : ℤ) : ℝ) : EReal) = ((((8 * r.val + t.val : ℕ) : ℝ)) : EReal)
  rw [h', show (BitVec.ofNat 32 (r.val * 8 + t.val)).toInt = ((8 * r.val + t.val : ℕ) : ℤ) by
    rw [BitVec.toInt_eq_toNat_of_lt (by rw [BitVec.toNat_ofNat]; omega), BitVec.toNat_ofNat]; omega]
  norm_num

theorem whole0 (t : Fin cfg0.N) : iblk m c 0 t = V m c main_v2 := by
  funext y
  unfold iblk
  blk_simp
  blk_ext [idx t] <;> exact Pipeline.Window.rect_emb_val_of_index_zero win0_0 t _ rfl y
theorem whole1 (t : Fin cfg0.N) : iblk m c 1 t = V m c main_v7 := by
  funext y
  unfold iblk
  blk_simp
  blk_ext [idx t] <;> exact Pipeline.Window.rect_emb_val_of_index_zero win0_1 t _ rfl y

/-- The result arrays as the region leaves them. -/
theorem left2 : (dat m c).arrAt 2 cfg0.N = outX (V m c main_v2) (V m c main_v7) := by
  refine (dat m c).arrAt_eq_of_covers 2 _ (by decide +kernel) fun t hf y => ?_
  blk_simp
  rw [dat_after2, whole0, whole1]
  congr 1
  blk_ext [idx t] <;> exact (Pipeline.Window.rect_emb_val_of_index_zero win0_2 t _ rfl y).symm
theorem left3 : (dat m c).arrAt 3 cfg0.N = outY (V m c main_v2) (V m c main_v7) := by
  refine (dat m c).arrAt_eq_of_covers 3 _ (by decide +kernel) fun t hf y => ?_
  blk_simp
  rw [dat_after3, whole0, whole1]
  congr 1
  blk_ext [idx t] <;> exact (Pipeline.Window.rect_emb_val_of_index_zero win0_3 t _ rfl y).symm
theorem left4 : (dat m c).arrAt 4 cfg0.N = outZ (V m c main_v2) (V m c main_v7) := by
  refine (dat m c).arrAt_eq_of_covers 4 _ (by decide +kernel) fun t hf y => ?_
  blk_simp
  rw [dat_after4, whole0, whole1]
  congr 1
  blk_ext [idx t] <;> exact (Pipeline.Window.rect_emb_val_of_index_zero win0_4 t _ rfl y).symm

/-- The last operations put the three blocks' first sixteen lanes side by side. -/
theorem tail_apply (W : Valuation τ sig (Elt Ideal)) (b : Fin 16) (r : Fin 1024) :
    (StableHlo.after hostOps1 W (Proc.devRef .tc main_v18) : FVec Ideal S16x1024x3 .f32) (ix3 b r 0)
        = (W (Proc.devRef .tc main_v8_0) : FVec Ideal S1024x128 .f32) (ix2 r (lane 0 b))
      ∧ (StableHlo.after hostOps1 W (Proc.devRef .tc main_v18) : FVec Ideal S16x1024x3 .f32) (ix3 b r 1)
        = (W (Proc.devRef .tc main_v8_1) : FVec Ideal S1024x128 .f32) (ix2 r (lane 0 b))
      ∧ (StableHlo.after hostOps1 W (Proc.devRef .tc main_v18) : FVec Ideal S16x1024x3 .f32) (ix3 b r 2)
        = (W (Proc.devRef .tc main_v8_2) : FVec Ideal S1024x128 .f32) (ix2 r (lane 0 b)) := by
  have hl : ∀ h : b.val < 128, (⟨b.val, h⟩ : Fin 128) = lane 0 b := fun h => Fin.ext (by simp only [lane]; show b.val = 16 * 0 + b.val; omega)
  refine ⟨?_, ?_, ?_⟩ <;>
  · after_results
    pointwise
    after_region_results
    pointwise
    rw [hl]

theorem arrays_inj : Function.Injective (Pipeline.arrRef spec0) := by decide

section
variable (b : Fin 16)

/-- The loop's contents read as the chosen points of the clouds. -/
theorem after_apply (k : ℕ) (hk : k ≤ k0_t1_loop.trips) :
    Carried (ax (pts m c) b 0) (ax (pts m c) b 1) (ax (pts m c) b 2) b k (after (V m c main_v2) (V m c main_v7) k) := by
  unfold after
  refine carried _ _ _ _ _ _ _ b ?_ ?_ ?_ ?_ k hk <;> intro r t
  · rw [← laid m c 0 r t b]
    pointwise [k0_pay1]
  · rw [← laid m c 1 r t b]
    pointwise [k0_pay2]
  · rw [← laid m c 2 r t b]
    pointwise [k0_pay3]
  · rw [← numbered m c r t b]
    pointwise [k0_pay4]

/-- The kernel's result: row `r` of a cloud is the point chosen before step `r`. -/
theorem result (r : Fin 1024) (i : Fin 3) :
    (Pipeline.afterTail₀ cfgs (dats m) 0 (V0 m) [hostOps1] c main_v18 : FVec Ideal S16x1024x3 .f32) (ix3 b r i)
      = ax (pts m c) b i (pick (ax (pts m c) b 0) (ax (pts m c) b 1) (ax (pts m c) b 2) r.val) := by
  show (StableHlo.after hostOps1 (Pipeline.withArrays spec0 c (V0 m c) fun w => (dat m c).arrAt w cfg0.N) (Proc.devRef .tc main_v18)
    : FVec Ideal S16x1024x3 .f32) (ix3 b r i) = _
  obtain ⟨e0, e1, e2⟩ := tail_apply (Pipeline.withArrays spec0 c (V0 m c) fun w => (dat m c).arrAt w cfg0.N) b r
  match i with
  | 0 =>
    refine e0.trans ?_
    refine (congrFun ((Pipeline.withArrays_arr spec0 arrays_inj c (V0 m c) _ 2).trans (left2 m c)) (ix2 r (lane 0 b))).trans ?_
    exact block_apply _ _ _ _ (ax (pts m c) b 0) b (fun k hk => (after_apply m c b k hk).2.2.1) r 0
  | 1 =>
    refine e1.trans ?_
    refine (congrFun ((Pipeline.withArrays_arr spec0 arrays_inj c (V0 m c) _ 3).trans (left3 m c)) (ix2 r (lane 0 b))).trans ?_
    exact block_apply _ _ _ _ (ax (pts m c) b 1) b (fun k hk => (after_apply m c b k hk).2.2.2.1) r 0
  | 2 =>
    refine e2.trans ?_
    refine (congrFun ((Pipeline.withArrays_arr spec0 arrays_inj c (V0 m c) _ 4).trans (left4 m c)) (ix2 r (lane 0 b))).trans ?_
    exact block_apply _ _ _ _ (ax (pts m c) b 2) b (fun k hk => (after_apply m c b k hk).2.2.2.2) r 0

end

end Cert.Kernel2Ideal.Fps

end
-- ==== Proof.FpsRef.lean ====
/-
  The reference's loop, one operation at a time: what a trip makes of its state, at an index.
-/
module

public import proofs.«01_k».proof.Proof.FpsModel
public import proofs.«01_k».proof.Proof.Gen.Reference2Ideal
public import proofs.«01_k».proof.Proof.Gen.Reference2Ideal.Step

@[expose] public section

set_option maxRecDepth 16384

noncomputable section

namespace Cert.Reference2Ideal.Fps

open Idealize.ShloMosaic Idealize.ShloMosaic.TcCoe Idealize.ShloMosaic.Tactic Idealize.SL.Sem
open Cert.Reference2Ideal Cert.Reference2Ideal.Gen Cert.Reference2Ideal.Step
open Cert.Fps

/-- A point's number as a word reads back as itself. -/
theorem word_toInt (n : ℕ) (h : n < 4096) : (BitVec.ofNat 32 n).toInt = (n : ℤ) := by
  rw [BitVec.toInt_eq_toNat_of_lt (by rw [BitVec.toNat_ofNat]; omega), BitVec.toNat_ofNat]; omega

/-- One point of each cloud, by its number. -/
theorem gather_one (x : FVec Ideal S16x4096x3 .f32) (idx : IVec S16x1x1 32) (b : Fin 16) (i : Fin 3) (f : Fin 4096)
    (h : idx (ix3 b 0 0) = BitVec.ofNat 32 f.val) :
    Host.gather gather_S16x4096x3_S16x1x1_S16x1x3_2_1_0_0_1_2_113 x idx (ix3 b 0 i) = x (ix3 b f i) := by
  unfold Host.gather
  refine congrArg x (funext fun a => Fin.ext ?_)
  match a with
  | ⟨0, _⟩ =>
    show 0 + b.val + 0 = b.val
    omega
  | ⟨1, _⟩ =>
    show min (idx _).toInt.toNat (4096 - 1) + 0 + 0 = f.val
    have e : ∀ q : S16x1x1.Idx, (q 0).val = b.val → idx q = BitVec.ofNat 32 f.val := fun q hq => by
      rw [← h]
      refine congrArg idx (funext fun a => ?_)
      match a with
      | ⟨0, _⟩ => exact Fin.ext hq
      | ⟨1, _⟩ => exact Subsingleton.elim (α := Fin 1) _ _
      | ⟨2, _⟩ => exact Subsingleton.elim (α := Fin 1) _ _
    rw [e _ rfl, word_toInt _ f.isLt]
    omega
  | ⟨2, _⟩ =>
    show 0 + 0 + i.val = i.val
    omega

/-- The points of each cloud, by their numbers. -/
theorem gather_rows (x : FVec Ideal S16x4096x3 .f32) (idx : IVec S16x1024x1 32) (b : Fin 16) (r : Fin 1024) (i : Fin 3) (f : Fin 4096)
    (h : idx (ix3 b r 0) = BitVec.ofNat 32 f.val) :
    Host.gather gather_S16x4096x3_S16x1024x1_S16x1024x3_2_1_0_0_1_2_113 x idx (ix3 b r i) = x (ix3 b f i) := by
  unfold Host.gather
  refine congrArg x (funext fun a => Fin.ext ?_)
  match a with
  | ⟨0, _⟩ =>
    show 0 + b.val + 0 = b.val
    omega
  | ⟨1, _⟩ =>
    show min (idx _).toInt.toNat (4096 - 1) + 0 + 0 = f.val
    have e : ∀ q : S16x1024x1.Idx, (q 0).val = b.val → (q 1).val = r.val → idx q = BitVec.ofNat 32 f.val := fun q hq hq' => by
      rw [← h]
      refine congrArg idx (funext fun a => ?_)
      match a with
      | ⟨0, _⟩ => exact Fin.ext hq
      | ⟨1, _⟩ => exact Fin.ext hq'
      | ⟨2, _⟩ => exact Subsingleton.elim (α := Fin 1) _ _
    rw [e _ rfl rfl, word_toInt _ f.isLt]
    omega
  | ⟨2, _⟩ =>
    show 0 + 0 + i.val = i.val
    omega

/-- A point's number is not below zero and not above the last. -/
theorem word_range (n : ℕ) (h : n < 4096) : IntOp.cmpi .slt (BitVec.ofNat 32 n) 0#32 = 0#1 ∧ IntOp.cmpi .sge (BitVec.ofNat 32 n) 0#32 = 1#1
    ∧ IntOp.cmpi .sle (BitVec.ofNat 32 n) 4095#32 = 1#1 := by
  have e := word_toInt n h
  refine ⟨?_, ?_, ?_⟩
  · show BitVec.ofBool (BitVec.slt _ _) = _
    rw [BitVec.slt_eq_decide, e, decide_eq_false (by simp)]; rfl
  · show BitVec.ofBool (BitVec.sle _ _) = _
    rw [BitVec.sle_eq_decide, e, decide_eq_true (by simp)]; rfl
  · show BitVec.ofBool (BitVec.sle _ _) = _
    rw [BitVec.sle_eq_decide, e, decide_eq_true (by rw [show (4095#32).toInt = 4095 by decide]; omega)]; rfl

/-- A number that is never below zero stays as it is. -/
theorem unwrap (n : ℕ) (h : n < 4096) (a : BitVec 32) : Scalar.select (IntOp.cmpi .slt (BitVec.ofNat 32 n) 0#32) a (BitVec.ofNat 32 n) = BitVec.ofNat 32 n := by
  rw [(word_range n h).1]; rfl

theorem maxsi_toInt (a b : BitVec 32) : (IntOp.maxsi a b).toInt = max a.toInt b.toInt := by
  unfold IntOp.maxsi
  simp only [BitVec.slt_eq_decide, BitVec.sle_eq_decide, decide_eq_true_eq]
  split <;> omega

/-- The greatest of the distances left to a hit: the first hit's. -/
theorem fold_first (d : Fin 4096 → EReal) (w : Fin 4096 → BitVec 32)
    (hw : ∀ n, w n = if d n = ⨆ j, d j then IntOp.subi 4096#32 (BitVec.ofNat 32 n.val) else 0#32) :
    IntOp.subi 4096#32 (Finset.fold IntOp.maxsi (2147483648#32) w Finset.univ) = BitVec.ofNat 32 (first d).val := by
  have hv : ∀ n, (w n).toInt = if d n = ⨆ j, d j then (4096 : ℤ) - n.val else 0 := fun n => by
    rw [hw]
    split
    · show (4096#32 - BitVec.ofNat 32 n.val).toInt = _
      have := n.isLt
      have e : (4096#32 - BitVec.ofNat 32 n.val) = BitVec.ofNat 32 (4096 - n.val) := by
        apply BitVec.eq_of_toNat_eq; simp only [BitVec.toNat_sub, BitVec.toNat_ofNat]; omega
      rw [e, BitVec.toInt_eq_toNat_of_lt (by rw [BitVec.toNat_ofNat]; omega), BitVec.toNat_ofNat]; omega
    · rfl
  have hm : (Finset.fold IntOp.maxsi (2147483648#32) w Finset.univ).toInt = (4096 : ℤ) - (first d).val := by
    rw [← Finset.fold_hom (op' := max) maxsi_toInt]
    refine eq_of_forall_ge_iff fun T => ?_
    rw [Finset.fold_max_le]
    have hf := (first d).isLt
    constructor
    · intro h
      have := h.2 (first d) (Finset.mem_univ _)
      rwa [hv, if_pos (first_spec d)] at this
    · intro h
      refine ⟨by rw [show (2147483648#32).toInt = -2147483648 by decide]; omega, fun n _ => ?_⟩
      rw [hv]
      split
      · have := Fin.le_def.1 (first_le d n (by assumption))
        omega
      · omega
  have hf := (first d).isLt
  have e : Finset.fold IntOp.maxsi (2147483648#32) w Finset.univ = BitVec.ofNat 32 (4096 - (first d).val) := by
    apply BitVec.eq_of_toInt_eq
    rw [hm, BitVec.toInt_eq_toNat_of_lt (by rw [BitVec.toNat_ofNat]; omega), BitVec.toNat_ofNat]; omega
  rw [e]
  show 4096#32 - BitVec.ofNat 32 (4096 - (first d).val) = _
  apply BitVec.eq_of_toNat_eq; simp only [BitVec.toNat_sub, BitVec.toNat_ofNat]; omega

section
variable (j : ℕ) (s : State Ideal) (b : Fin 16)

section
variable (f : Fin 4096) (h : s.main_v3_5 (ix1 b) = BitVec.ofNat 32 f.val)
include h

theorem b21_apply : b21 j s (ix3 b 0 0) = BitVec.ofNat 32 f.val := by
  pointwise [b21, b17, b20, b14, b16, b15, b19, b18]
  rw [h, unwrap _ f.isLt]

theorem b31_apply : b31 j s (ix2 b 0) = 1#1 := by
  pointwise [b31, b30]
  rw [show (Finset.univ : Finset (Fin 1)) = {0} from rfl, Finset.fold_singleton]
  have e : b29 j s (ix3 b 0 0) = 1#1 := by
    pointwise [b29, b25, b28, b24, b23, b27, b26, b22]
    rw [b21_apply j s b f h, (word_range _ f.isLt).2.1, (word_range _ f.isLt).2.2]; rfl
  show IntOp.andi (b29 j s (ix3 b 0 0)) 1#1 = 1#1
  rw [e]; rfl

theorem b13_apply (r : Fin 1024) (hj : j < 1024) :
    b13 j s (ix2 b r) = s.main_v3_3 (ix2 b r) + (if r.val = j then BitVec.ofNat 32 f.val else 0#32) := by
  pointwise [b13, b12, b9, b10, b11, b5, b6, b8, b7, b2, b4, b3]
  rw [h]
  show _ + Scalar.select (BitVec.ofBool (BitVec.ofNat 32 r.val == BitVec.ofNat 32 j)) (BitVec.ofNat 32 f.val) 0#32 = _
  congr 1
  by_cases e : r.val = j
  · rw [if_pos e, e, beq_self_eq_true]; rfl
  · have hr := r.isLt
    rw [if_neg e, beq_eq_false_iff_ne.2 fun h' => e (by
      have := congrArg BitVec.toNat h'
      rw [BitVec.toNat_ofNat, BitVec.toNat_ofNat] at this
      omega)]
    rfl

theorem b42_apply (n : Fin 4096) : b42 j s (ix2 b n) = min (s.main_v3_4 (ix2 b n))
    (Cert.Fps.sq (fun n => s.main_v3_0 (ix3 b n 0)) (fun n => s.main_v3_0 (ix3 b n 1)) (fun n => s.main_v3_0 (ix3 b n 2)) f n) := by
  have e : ∀ i : Fin 3, b32 j s (ix3 b 0 i) = s.main_v3_0 (ix3 b f i) := fun i => gather_one _ _ b i f (b21_apply j s b f h)
  pointwise [b42, b41, b40, b39, b38, b37, b36, b35, b34, b33]
  rw [b31_apply j s b f h, Fin.sum_univ_three]
  simp only [e]
  rfl

end

theorem b44_apply : b44 j s (ix1 b) = ⨆ n : Fin 4096, b42 j s (ix2 b n) := by
  pointwise [b44, b43]
  refine eq_of_forall_ge_iff fun T => ?_
  rw [Finset.fold_max_le, iSup_le_iff, low_eq]
  simp only [bot_le, true_and, Finset.mem_univ, true_implies]

theorem b61_apply : b61 j s (ix1 b) = BitVec.ofNat 32 (first fun n => b42 j s (ix2 b n)).val := by
  pointwise [b61, b60, b59, b58, b57]
  refine fold_first _ _ fun n => ?_
  pointwise [b56, b54, b55, b53, b52, b51, b50, b49, b48, b47, b46, b45]
  rw [b44_apply]

end

/-! ## The loop -/

/-- The state before trip `k`. -/
def stateAt (A : FVec Ideal S16x4096x3 .f32) : ℕ → State Ideal
  | 0 => init A
  | k + 1 => step k (stateAt A k)

/-- The point of cloud `b` chosen before trip `k`. -/
abbrev chosen (A : FVec Ideal S16x4096x3 .f32) (b : Fin 16) (k : ℕ) : Fin 4096 := pick (ax A b 0) (ax A b 1) (ax A b 2) k

theorem iter (A : FVec Ideal S16x4096x3 .f32) (b : Fin 16) (k : ℕ) (hk : k ≤ 1024) :
    (stateAt A k).main_v3_0 = A
      ∧ (∀ n, (stateAt A k).main_v3_4 (ix2 b n) = dist (ax A b 0) (ax A b 1) (ax A b 2) k n)
      ∧ (stateAt A k).main_v3_5 (ix1 b) = BitVec.ofNat 32 (chosen A b k).val
      ∧ ∀ r : Fin 1024, (stateAt A k).main_v3_3 (ix2 b r) = if r.val < k then BitVec.ofNat 32 (chosen A b r.val).val else 0#32 := by
  induction k with
  | zero =>
    refine ⟨rfl, fun n => rfl, rfl, fun r => ?_⟩
    rw [if_neg (Nat.not_lt_zero _)]; rfl
  | succ k ih =>
    obtain ⟨h0, h4, h5, h3⟩ := ih (Nat.le_of_succ_le hk)
    have hd : ∀ n, b42 k (stateAt A k) (ix2 b n) = dist (ax A b 0) (ax A b 1) (ax A b 2) (k + 1) n := fun n => by
      rw [b42_apply k _ b _ h5, h4, h0, dist_succ]; rfl
    refine ⟨h0, hd, ?_, fun r => ?_⟩
    · show b61 k (stateAt A k) (ix1 b) = _
      rw [b61_apply, chosen, pick_succ]
      exact congrArg (fun d => BitVec.ofNat 32 (first d).val) (funext hd)
    · show b13 k (stateAt A k) (ix2 b r) = _
      rw [b13_apply k _ b _ h5 r hk, h3]
      by_cases hr : r.val = k
      · rw [if_neg (by omega), if_pos hr, if_pos (by omega), hr, BitVec.zero_add]
      · rw [if_neg hr, BitVec.add_zero]
        by_cases hl : r.val < k
        · rw [if_pos hl, if_pos (by omega)]
        · rw [if_neg hl, if_neg (by omega)]

/-- The reference's result: row `r` of a cloud is the point chosen before trip `r`. -/
theorem result (A : FVec Ideal S16x4096x3 .f32) (b : Fin 16) (r : Fin 1024) (i : Fin 3) :
    R_main_v10 (stateAt A 1024) A (ix3 b r i) = ax A b i (chosen A b r.val) := by
  unfold R_main_v10
  refine gather_rows _ _ b r i _ ?_
  have e := (iter A b 1024 le_rfl).2.2.2 r
  rw [if_pos r.isLt] at e
  pointwise
  rw [e, unwrap _ (chosen A b r.val).isLt]

end Cert.Reference2Ideal.Fps

end
-- ==== Proof.FpsValue.lean ====
/- The sampling kernel's result is its reference's. -/
module

public import proofs.«01_k».proof.Proof.FpsKernel
public import proofs.«01_k».proof.Proof.FpsRef

@[expose] public section

set_option maxRecDepth 16384

noncomputable section

namespace Cert.Fps

open Idealize.ShloMosaic Cert.Kernel2Ideal Cert.Kernel2Ideal.Gen

variable (m : (ℓ : Loc nD τ sig) → Buf (Elt Ideal) ℓ) (c : Dev nD)

/-- Both results hold the same chosen points. -/
theorem results_eq : (Cert.Reference2Ideal.Step.R_main_v10 (Cert.Reference2Ideal.Fps.stateAt (Cert.Kernel2Ideal.Fps.pts m c) 1024)
      (Cert.Kernel2Ideal.Fps.pts m c) : FVec Ideal S16x1024x3 .f32)
    = Pipeline.afterTail₀ cfgs (Cert.Kernel2Ideal.Fps.dats m) 0 (V0 m) [hostOps1] c main_v18 := by
  funext j
  obtain ⟨b, r, i, rfl⟩ : ∃ (b : Fin 16) (r : Fin 1024) (i : Fin 3), j = ix3 b r i :=
    ⟨j 0, j 1, j 2, by funext x; fin_cases x <;> rfl⟩
  exact (Cert.Reference2Ideal.Fps.result _ b r i).trans (Cert.Kernel2Ideal.Fps.result m c b r i).symm

end Cert.Fps

end
-- ==== Proof.KnnRoundIdeal.lean ====
/-
  One round of the neighbour search: the smallest remaining distance of each of the 128 lanes is taken out of the
  distance buffer, and the 32 best so far are chosen anew from the old 32 and these 128.
-/
module

public import proofs.«01_k».proof.Kernel3Ideal
public import proofs.«01_k».proof.Proof.Gen.Kernel3Ideal
public import proofs.«01_k».proof.Proof.Gen.Kernel3Ideal.Skeleton
public import proofs.«01_k».proof.Proof.Gen.Kernel3Ideal.Launch
public import Idealize.ShloMosaic.Lib.Pipeline.FrameBody
public import Idealize.ShloMosaic.Lib.Tactic

@[expose] public section

set_option maxRecDepth 16384

noncomputable section

namespace Cert.Kernel3Ideal.Knn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen

variable {F : FTy → Type} [FloatOps F]

local notation "𝕄" => MT nD τ sig Unit (Elt F) ℕ (UR sig nD τ) ℕ

/-- A group of 128 columns of the distance buffer: its first column, and that as a number. -/
structure Grp where
  o : ℕ
  inb : ∀ a : Fin S256x128.rank, (![0, o] : Fin S256x4096.rank → ℕ) a + S256x128.size a ≤ S256x4096.size a
  b : BitVec 32

/-- Its columns in the buffer. -/
abbrev Grp.rect (p : Grp) : Rect S256x4096 := Rect.unit (s := S256x4096) ![0, p.o] S256x128.size p.inb

/-- What the buffer holds there. -/
def grp (D : FVec F S256x4096 .f32) (p : Grp) : FVec F S256x128 .f32 :=
  (View.ld (e' := .f32) (show S256x4096.Idx → Elt F .f32 from D) p.rect : Vec F S256x128 .f32)

/-- Zero or one for a truth value. -/
def ind {s : Shape} (b : IVec s 1) : FVec F s .f32 := sitofp .f32 (extui 32 b natLt_1_32)

/-- Keep `a` where the mark is zero, else the constant. -/
def mix {s : Shape} (a k : FVec F s .f32) (big : BitVec 32) : FVec F s .f32 :=
  addf (mulf a (subf (broadcast s (Scalar.ofBits .f32 0x3F800000#32)) k)) (mulf (broadcast s (Scalar.ofBits .f32 big)) k)

/-- Keep `a` where the mark is one, else the constant. -/
def pick {s : Shape} (a k : FVec F s .f32) (big : BitVec 32) : FVec F s .f32 :=
  addf (mulf a k) (mulf (broadcast s (Scalar.ofBits .f32 big)) (subf (broadcast s (Scalar.ofBits .f32 0x3F800000#32)) k))

/-- The 32 groups. -/
def groups : List Grp :=
  [⟨0, inb_S256x4096_S256x128_0_0, 0x00000000#32⟩, ⟨128, inb_S256x4096_S256x128_0_128, 0x43000000#32⟩,
   ⟨256, inb_S256x4096_S256x128_0_256, 0x43800000#32⟩, ⟨384, inb_S256x4096_S256x128_0_384, 0x43C00000#32⟩,
   ⟨512, inb_S256x4096_S256x128_0_512, 0x44000000#32⟩, ⟨640, inb_S256x4096_S256x128_0_640, 0x44200000#32⟩,
   ⟨768, inb_S256x4096_S256x128_0_768, 0x44400000#32⟩, ⟨896, inb_S256x4096_S256x128_0_896, 0x44600000#32⟩,
   ⟨1024, inb_S256x4096_S256x128_0_1024, 0x44800000#32⟩, ⟨1152, inb_S256x4096_S256x128_0_1152, 0x44900000#32⟩,
   ⟨1280, inb_S256x4096_S256x128_0_1280, 0x44A00000#32⟩, ⟨1408, inb_S256x4096_S256x128_0_1408, 0x44B00000#32⟩,
   ⟨1536, inb_S256x4096_S256x128_0_1536, 0x44C00000#32⟩, ⟨1664, inb_S256x4096_S256x128_0_1664, 0x44D00000#32⟩,
   ⟨1792, inb_S256x4096_S256x128_0_1792, 0x44E00000#32⟩, ⟨1920, inb_S256x4096_S256x128_0_1920, 0x44F00000#32⟩,
   ⟨2048, inb_S256x4096_S256x128_0_2048, 0x45000000#32⟩, ⟨2176, inb_S256x4096_S256x128_0_2176, 0x45080000#32⟩,
   ⟨2304, inb_S256x4096_S256x128_0_2304, 0x45100000#32⟩, ⟨2432, inb_S256x4096_S256x128_0_2432, 0x45180000#32⟩,
   ⟨2560, inb_S256x4096_S256x128_0_2560, 0x45200000#32⟩, ⟨2688, inb_S256x4096_S256x128_0_2688, 0x45280000#32⟩,
   ⟨2816, inb_S256x4096_S256x128_0_2816, 0x45300000#32⟩, ⟨2944, inb_S256x4096_S256x128_0_2944, 0x45380000#32⟩,
   ⟨3072, inb_S256x4096_S256x128_0_3072, 0x45400000#32⟩, ⟨3200, inb_S256x4096_S256x128_0_3200, 0x45480000#32⟩,
   ⟨3328, inb_S256x4096_S256x128_0_3328, 0x45500000#32⟩, ⟨3456, inb_S256x4096_S256x128_0_3456, 0x45580000#32⟩,
   ⟨3584, inb_S256x4096_S256x128_0_3584, 0x45600000#32⟩, ⟨3712, inb_S256x4096_S256x128_0_3712, 0x45680000#32⟩,
   ⟨3840, inb_S256x4096_S256x128_0_3840, 0x45700000#32⟩, ⟨3968, inb_S256x4096_S256x128_0_3968, 0x45780000#32⟩]

/-- The smallest distance of each lane. -/
def lmin (D : FVec F S256x4096 .f32) : FVec F S256x128 .f32 :=
  groups.tail.foldl (fun a p => minimumf a (grp D p)) (grp D ⟨0, inb_S256x4096_S256x128_0_0, 0x00000000#32⟩)

/-- The numbers of a group's points. -/
def nums (n : FVec F S1x128 .f32) (b : BitVec 32) : FVec F S256x128 .f32 :=
  broadcastTo S256x128 (addf n (broadcast S1x128 (Scalar.ofBits .f32 b))) broadcasts_S1x128_S256x128

/-- The smallest number of a point of each lane at the lane's smallest distance. -/
def nmin (n : FVec F S1x128 .f32) (D : FVec F S256x4096 .f32) (L : FVec F S256x128 .f32) : FVec F S256x128 .f32 :=
  groups.foldl (fun a p => minimumf a (pick (nums n p.b) (ind (cmpf .oeq (grp D p) L)) 0x4E6E6B28#32))
    (broadcast S256x128 (Scalar.ofBits .f32 0x4E6E6B28#32))

/-- A group with the lanes' points taken out. -/
def kill (n : FVec F S1x128 .f32) (L N : FVec F S256x128 .f32) (b : BitVec 32) (d : FVec F S256x128 .f32) : FVec F S256x128 .f32 :=
  shapeCast S256x128 (mix d (ind (andi (cmpf .oeq d L) (cmpf .oeq (nums n b) N))) 0x7F61B1E6#32) shapeCasts_S256x128_S256x128

/-- A row's smallest. -/
def rmin (v : FVec F S256x160 .f32) : FVec F S256x1 .f32 :=
  shapeCast S256x1 (multiReduction .minimumf [1] S256 v 0x7F800000#32 reduces_S256x160_S256 (.inl rfl) rfl) shapeCasts_S256_S256x1

/-- Where the values are the row's smallest. -/
def eqm (v : FVec F S256x160 .f32) : FVec F S256x160 .f32 :=
  ind (cmpf .oeq v (broadcastTo S256x160 (rmin v) broadcasts_S256x1_S256x160))

/-- The smallest number at the row's smallest value. -/
def nsel (cn v : FVec F S256x160 .f32) : FVec F S256x1 .f32 := rmin (pick cn (eqm v) 0x4E6E6B28#32)

/-- The values with the chosen one taken out. -/
def nextv (cn v : FVec F S256x160 .f32) : FVec F S256x160 .f32 :=
  mix v (mulf (eqm v) (ind (cmpf .oeq cn (broadcastTo S256x160 (nsel cn v) broadcasts_S256x1_S256x160)))) 0x7F61B1E6#32

/-- The values after `j` choices. -/
def chosen (cn v : FVec F S256x160 .f32) : ℕ → FVec F S256x160 .f32
  | 0 => v
  | j + 1 => nextv cn (chosen cn v j)

/-- 32 columns side by side. -/
def cols (g : ℕ → FVec F S256x1 .f32) : FVec F S256x32 .f32 :=
  k0_pay5 (g 0) (g 1) (g 2) (g 3) (g 4) (g 5) (g 6) (g 7) (g 8) (g 9) (g 10) (g 11) (g 12) (g 13) (g 14) (g 15)
    (g 16) (g 17) (g 18) (g 19) (g 20) (g 21) (g 22) (g 23) (g 24) (g 25) (g 26) (g 27) (g 28) (g 29) (g 30) (g 31)

/-- The 160 candidates: the old best and the lanes'. -/
def cand (b : FVec F S256x32 .f32) (l : FVec F S256x128 .f32) : FVec F S256x160 .f32 :=
  concatenate S256x160 1 [⟨S256x32, b⟩, ⟨S256x128, l⟩] concatenates_S256x32_S256x128_S256x160_d1

/-- The new best, of candidate values and numbers. -/
def bestV (cv cn : FVec F S256x160 .f32) : FVec F S256x32 .f32 := cols fun j => rmin (chosen cn cv j)
def bestN (cv cn : FVec F S256x160 .f32) : FVec F S256x32 .f32 := cols fun j => nsel cn (chosen cn cv j)

/-- A row's smallest of a lane vector. -/
def lrow (v : FVec F S256x128 .f32) : FVec F S256x1 .f32 :=
  shapeCast S256x1 (multiReduction .minimumf [1] S256 v 0x7F800000#32 reduces_S256x128_S256 (.inl rfl) rfl) shapeCasts_S256_S256x1

/-- A row's largest of the best. -/
def brow (v : FVec F S256x32 .f32) : FVec F S256x1 .f32 :=
  shapeCast S256x1 (multiReduction .maximumf [1] S256 v 0xFF800000#32 reduces_S256x32_S256 (.inl rfl) rfl) shapeCasts_S256_S256x1

/-- The largest number among the best at the largest value. -/
def blast (bv bn : FVec F S256x32 .f32) : FVec F S256x1 .f32 :=
  brow (subf (mulf bn (ind (cmpf .oeq bv (broadcastTo S256x32 (brow bv) broadcasts_S256x1_S256x32))))
    (subf (broadcast S256x32 (Scalar.ofBits .f32 0x3F800000#32)) (ind (cmpf .oeq bv (broadcastTo S256x32 (brow bv) broadcasts_S256x1_S256x32)))))

/-- The smallest number among the lanes' at the row's smallest value. -/
def lfirst (L N : FVec F S256x128 .f32) : FVec F S256x1 .f32 :=
  lrow (pick N (ind (cmpf .oeq L (broadcastTo S256x128 (lrow L) broadcasts_S256x1_S256x128))) 0x4E6E6B28#32)

/-- Which rows are done: nothing remaining comes before their last best. -/
def rowDone (bv bn : FVec F S256x32 .f32) (L N : FVec F S256x128 .f32) : IVec S256x1 1 :=
  ori (cmpf .ogt (lrow L) (brow bv)) (andi (cmpf .oeq (lrow L) (brow bv)) (cmpf .ogt (lfirst L N) (blast bv bn)))

/-- Whether every row is done. -/
def allDone (bv bn : FVec F S256x32 .f32) (L N : FVec F S256x128 .f32) : BitVec 1 :=
  Scalar.cmpf .ogt (k0_pay47 (F := F) (select (rowDone bv bn L N) (broadcast S256x1 (Scalar.ofBits .f32 0x3F800000#32))
    (broadcast S256x1 (Scalar.ofBits .f32 0x00000000#32)))) (Scalar.ofBits .f32 0x00000000#32)

/-- What the round writes into the buffer, last first. -/
def pieces (n : FVec F S1x128 .f32) (L N : FVec F S256x128 .f32) (D : FVec F S256x4096 .f32) : List (View.Piece (Elt F) S256x4096 .f32) :=
  groups.foldl (fun l p => ⟨p.rect, kill n L N p.b (grp D p)⟩ :: l) []

set_option maxHeartbeats 400000 in
theorem round (v13 : FVec F S1x128 .f32) (𝒱 : Variants) (c : Dev nD) (bd : Option 𝒱.V) (E : Set ℕ) (i : grid0.Coords)
    (arg8 : Memref sig .tc .vmem S256x4096 .f32) (harg8 : arg8.IsWhole)
    (arg9 : BitVec 1) (arg10 arg11 : FVec F S256x32 .f32) (arg12 : BitVec 32)
    (f8 : BufTy.Contents (Elt F) arg8.view.ty) (D : FVec F S256x4096 .f32) (hD : D = arg8.view.read (Elt F) f8)
    (L N : FVec F S256x128 .f32) (hL : L = lmin D) (hN : N = nmin v13 D L) :
    (arg8.view.loc (c : Thread nD τ) ↦[arg8.view.set]{fullShare} f8)
      ⊢ wp frame (wpE (defs₀ (F := F)) 𝒱 (c : Thread nD τ) bd) E
          (k0_part45 (F := F) i arg8 harg8 v13 arg9 arg10 arg11 arg12)
          (fun ⟨v613, v1191, v1193, v1205, v1218, v1230, v1243, v1255, v1268, v1280, v1293, v1305, v1318, v1330, v1343, v1355, v1368, v1380, v1393, v1405, v1418, v1430, v1443, v1455, v1468, v1480, v1493, v1505, v1518, v1530, v1543, v1555, v1568, v1580, v1593, v1605, v1618, v1630, v1643, v1655, v1668, v1680, v1693, v1705, v1718, v1730, v1743, v1755, v1768, v1780, v1793, v1805, v1818, v1830, v1843, v1855, v1868, v1880, v1893, v1905, v1918, v1930, v1943, v1955, v1966, v1968, v1972, v1978⟩ => (iprop(⌜v613 = allDone arg10 arg11 L N⌝
            ∗ ⌜k0_pay5 v1193 v1218 v1243 v1268 v1293 v1318 v1343 v1368 v1393 v1418 v1443 v1468 v1493 v1518 v1543 v1568 v1593 v1618 v1643 v1668 v1693 v1718 v1743 v1768 v1793 v1818 v1843 v1868 v1893 v1918 v1943 v1968 = bestV (cand arg10 L) (cand arg11 N)⌝
            ∗ ⌜k0_pay6 v1205 v1230 v1255 v1280 v1305 v1330 v1355 v1380 v1405 v1430 v1455 v1480 v1505 v1530 v1555 v1580 v1605 v1630 v1655 v1680 v1705 v1730 v1755 v1780 v1805 v1830 v1855 v1880 v1905 v1930 v1955 v1978 = bestN (cand arg10 L) (cand arg11 N)⌝
            ∗ (arg8.view.loc (c : Thread nD τ) ↦[arg8.view.set]{fullShare} arg8.view.writes (Elt F) f8 (pieces v13 L N D)))
            : sProp 𝕄)) := by
  simp only [k0_part45_eq_skeleton]
  unfold k0_part45_skel
  simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton]
  iintro H
  sl_exec
  sl_step
  dsimp only
  subst hD hL hN
  isplitr; · ipureintro; rfl
  isplitr; · ipureintro; rfl
  isplitr; · ipureintro; rfl
  iexact H

end Cert.Kernel3Ideal.Knn

end
-- ==== Proof.KnnBodyIdeal.lean ====
/-
  The rounds of the neighbour search: the loop by induction on the rounds that may still follow.
-/
module

public import proofs.«01_k».proof.Proof.KnnRoundIdeal
public import Idealize.ShloMosaic.Lib.WordCmp

@[expose] public section

set_option maxRecDepth 16384

noncomputable section

namespace Cert.Kernel3Ideal.Knn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen

variable {F : FTy → Type} [FloatOps F]

local notation "𝕄" => MT nD τ sig Unit (Elt F) ℕ (UR sig nD τ) ℕ

theorem groups_o : groups.map (·.o) = (List.range 32).map (128 * ·) := rfl

/-- Some group starts at each multiple of 128. -/
theorem exists_grp (g : ℕ) (h : g < 32) : ∃ p ∈ groups, p.o = 128 * g := by
  have : 128 * g ∈ groups.map (·.o) := by
    rw [groups_o]; exact List.mem_map.2 ⟨g, List.mem_range.2 h, rfl⟩
  obtain ⟨p, hp, e⟩ := List.mem_map.1 this
  exact ⟨p, hp, e⟩

theorem pieces_eq (n : FVec F S1x128 .f32) (L N : FVec F S256x128 .f32) (D : FVec F S256x4096 .f32) :
    pieces n L N D = (groups.map fun p => (⟨p.rect, kill n L N p.b (grp D p)⟩ : View.Piece (Elt F) S256x4096 .f32)).reverse := rfl

theorem mem_pieces (n : FVec F S1x128 .f32) (L N : FVec F S256x128 .f32) (D : FVec F S256x4096 .f32)
    (q : View.Piece (Elt F) S256x4096 .f32) :
    q ∈ pieces n L N D ↔ ∃ p ∈ groups, (⟨p.rect, kill n L N p.b (grp D p)⟩ : View.Piece (Elt F) S256x4096 .f32) = q := by
  rw [pieces_eq, List.mem_reverse, List.mem_map]

/-- Every place of the buffer is written. -/
theorem pieces_cover (n : FVec F S1x128 .f32) (L N : FVec F S256x128 .f32) (D : FVec F S256x4096 .f32) (y : S256x4096.Idx) :
    ∃ q ∈ pieces n L N D, y ∈ q.1.set := by
  have h0 : (y 0).val < 256 := (y 0).isLt
  have h1 : (y 1).val < 4096 := (y 1).isLt
  obtain ⟨p, hp, ho⟩ := exists_grp ((y 1).val / 128) (by omega)
  refine ⟨_, (mem_pieces n L N D _).2 ⟨p, hp, rfl⟩, ?_⟩
  show y ∈ (Rect.unit (s := S256x4096) ![0, p.o] S256x128.size p.inb).set
  rw [Rect.mem_set_unit]
  intro a
  match a with
  | ⟨0, _⟩ => show 0 ≤ (y 0).val ∧ (y 0).val < 0 + 256; omega
  | ⟨1, _⟩ => show p.o ≤ (y 1).val ∧ (y 1).val < p.o + 128; omega

/-- The buffer after a round. -/
def nextD (n : FVec F S1x128 .f32) (L N : FVec F S256x128 .f32) (D : FVec F S256x4096 .f32) : FVec F S256x4096 .f32 :=
  (View.canon (pieces n L N D) : S256x4096.Idx → Elt F .f32)

/-- What the loop carries, and the buffer. -/
structure St (F : FTy → Type) where
  done : BitVec 1
  bv : FVec F S256x32 .f32
  bn : FVec F S256x32 .f32
  D : FVec F S256x4096 .f32

/-- One round. -/
def step (n : FVec F S1x128 .f32) (s : St F) : St F where
  done := allDone s.bv s.bn (lmin s.D) (nmin n s.D (lmin s.D))
  bv := bestV (cand s.bv (lmin s.D)) (cand s.bn (nmin n s.D (lmin s.D)))
  bn := bestN (cand s.bv (lmin s.D)) (cand s.bn (nmin n s.D (lmin s.D)))
  D := nextD n (lmin s.D) (nmin n s.D (lmin s.D)) s.D

/-- Rounds until done, at most `k`. -/
def go (n : FVec F S1x128 .f32) : ℕ → St F → St F
  | 0, s => s
  | k + 1, s => if s.done = 1#1 then s else go n k (step n s)

theorem test_eq : ∀ (d : Fin 2) (r : Fin 41),
    (Scalar.andi (Scalar.xori (BitVec.ofNat 1 d.val) 1#1) (Scalar.cmpi .slt (BitVec.ofNat 32 r.val) 40#32) = 1#1)
      ↔ (¬ BitVec.ofNat 1 d.val = 1#1 ∧ r.val < 40) := by decide +kernel

theorem test (d : BitVec 1) (r : ℕ) (hr : r ≤ 40) :
    (Scalar.andi (Scalar.xori d 1#1) (Scalar.cmpi .slt (BitVec.ofNat 32 r) 40#32) = 1#1) ↔ (¬ d = 1#1 ∧ r < 40) := by
  have h := test_eq d.toFin ⟨r, by omega⟩
  have e : BitVec.ofNat 1 d.toFin.val = d := by simp
  rwa [e] at h

/-- The kernel's variants: the rounds that may still follow. -/
abbrev 𝒱₀ : Variants := Variants.nat

section Loop
variable (c : Dev nD) (i : grid0.Coords) (arg8 : Memref sig .tc .vmem S256x4096 .f32) (harg8 : arg8.IsWhole) (n : FVec F S1x128 .f32)

/-- The loop with at most `k` more rounds. -/
def spec (k : ℕ) (d : BitVec 1) (bv bn : FVec F S256x32 .f32) (f8 : BufTy.Contents (Elt F) arg8.view.ty) :
    sWPT 𝕄 (BitVec 1 × FVec F S256x32 .f32 × FVec F S256x32 .f32 × BitVec 32) := do
  sWPT.consume (arg8.view.loc (c : Thread nD τ) ↦[arg8.view.set]{fullShare} f8)
  let r ← sWPT.arbitrary
  sWPT.assume (r.2.2.1 = (go n k ⟨d, bv, bn, arg8.view.read (Elt F) f8⟩).bn)
  sWPT.produce iprop(∃ f, (arg8.view.loc (c : Thread nD τ) ↦[arg8.view.set]{fullShare} f))
  pure r

theorem spec_apply (k : ℕ) (d : BitVec 1) (bv bn : FVec F S256x32 .f32) (f8 : BufTy.Contents (Elt F) arg8.view.ty)
    (K : BitVec 1 × FVec F S256x32 .f32 × FVec F S256x32 .f32 × BitVec 32 → sProp 𝕄) :
    spec c arg8 n k d bv bn f8 K
      = iprop((arg8.view.loc (c : Thread nD τ) ↦[arg8.view.set]{fullShare} f8)
          ∗ ∀ r : BitVec 1 × FVec F S256x32 .f32 × FVec F S256x32 .f32 × BitVec 32,
            ⌜r.2.2.1 = (go n k ⟨d, bv, bn, arg8.view.read (Elt F) f8⟩).bn⌝
              -∗ (iprop(∃ f, (arg8.view.loc (c : Thread nD τ) ↦[arg8.view.set]{fullShare} f)) -∗ K r)) := rfl

theorem addi_one (r : ℕ) : Scalar.addi (BitVec.ofNat 32 r) 1#32 = BitVec.ofNat 32 (r + 1) := by
  show BitVec.ofNat 32 r + 1#32 = _
  rw [BitVec.ofNat_add]

set_option maxHeartbeats 1000000 in
theorem spec_le (E : Set ℕ) : ∀ k r, r + k = 40 → ∀ d bv bn f8 K, spec c arg8 n k d bv bn f8 K
      ⊢ wp frame (wpE (defs₀ (F := F)) 𝒱₀ (c : Thread nD τ) (some k)) E
          (defs₀ (F := F) .tc 1 ⟨i, arg8, harg8, n, d, bv, bn, BitVec.ofNat 32 r⟩) K := by
  intro k
  induction k with
  | zero =>
    intro r hr d bv bn f8 K
    rw [spec_apply]
    show _ ⊢ wp frame (wpE (defs₀ (F := F)) 𝒱₀ (c : Thread nD τ) (some 0)) E (cc0_while1 i arg8 harg8 n d bv bn (BitVec.ofNat 32 r)) K
    simp only [cc0_while1_eq_skeleton]; unfold cc0_while1_skel
    have ht : ¬ Scalar.andi (Scalar.xori d 1#1) (Scalar.cmpi .slt (BitVec.ofNat 32 r) 40#32) = 1#1 := by
      rw [test d r (by omega)]; omega
    simp only [ht, ↓reduceIte, Prog.pure_eq_ret]
    iintro ⟨H, Hk⟩
    rw [wp_ret]; imodintro
    iapply Hk
    · ipureintro; rfl
    · iexists f8; iexact H
  | succ k ih =>
    intro r hr d bv bn f8 K
    rw [spec_apply]
    show _ ⊢ wp frame (wpE (defs₀ (F := F)) 𝒱₀ (c : Thread nD τ) (some (k + 1))) E (cc0_while1 i arg8 harg8 n d bv bn (BitVec.ofNat 32 r)) K
    simp only [cc0_while1_eq_skeleton]; unfold cc0_while1_skel
    by_cases hd : d = 1#1
    · have ht : ¬ Scalar.andi (Scalar.xori d 1#1) (Scalar.cmpi .slt (BitVec.ofNat 32 r) 40#32) = 1#1 := by
        rw [test d r (by omega)]; exact fun h => h.1 hd
      simp only [ht, ↓reduceIte, Prog.pure_eq_ret]
      iintro ⟨H, Hk⟩
      rw [wp_ret]; imodintro
      iapply Hk
      · ipureintro; rw [go, if_pos hd]
      · iexists f8; iexact H
    · have ht : Scalar.andi (Scalar.xori d 1#1) (Scalar.cmpi .slt (BitVec.ofNat 32 r) 40#32) = 1#1 := by
        rw [test d r (by omega)]; exact ⟨hd, by omega⟩
      simp only [ht, ↓reduceIte]
      rw [wp_bind]
      iintro ⟨H, Hk⟩
      iapply (wp_wand_r frame (wpE (defs₀ (F := F)) 𝒱₀ (c : Thread nD τ) (some (k + 1))) E)
      isplitl [H]
      · iapply (round n 𝒱₀ c (some (k + 1)) E i arg8 harg8 d bv bn (BitVec.ofNat 32 r) f8 _ rfl _ _ rfl rfl)
        iexact H
      · iintro %b ⟨%h1, %h2, %h3, H⟩
        obtain ⟨v613, v1191, v1193, v1205, v1218, v1230, v1243, v1255, v1268, v1280, v1293, v1305, v1318, v1330, v1343, v1355, v1368, v1380, v1393, v1405, v1418, v1430, v1443, v1455, v1468, v1480, v1493, v1505, v1518, v1530, v1543, v1555, v1568, v1580, v1593, v1605, v1618, v1630, v1643, v1655, v1668, v1680, v1693, v1705, v1718, v1730, v1743, v1755, v1768, v1780, v1793, v1805, v1818, v1830, v1843, v1855, v1868, v1880, v1893, v1905, v1918, v1930, v1943, v1955, v1966, v1968, v1972, v1978⟩ := b
        dsimp only at h1 h2 h3 ⊢
        rw [h1, h2, h3, addi_one]
        simp only [Prog.lift, Prog.bind_op, Prog.bind_ret, Prog.pure_eq_ret]
        iapply (wp_call_spec 𝒱₀ (c : Thread nD τ) (some (k + 1)) E (spec c arg8 n k _ _ _ _) k
          (fun u hu => by cases hu; exact Nat.lt_succ_self k) (ih (r + 1) (by omega) _ _ _ _))
        rw [spec_apply]
        isplitl [H]; · iexact H
        iintro %q %hq H
        rw [wp_ret]; imodintro
        iapply Hk
        · ipureintro
          rw [go, if_neg hd, hq]
          unfold step nextD
          rw [View.read_writes_eq_canon _ _ _ (pieces_cover _ _ _ _)]
        · iexact H

end Loop

end Cert.Kernel3Ideal.Knn

end
-- ==== Proof.KnnFrameIdeal.lean ====
/-
  The neighbour search's program around its one region: what the region finds, what the operations around it leave alone.
-/
module

public import proofs.«01_k».proof.Proof.Gen.Kernel3Ideal.Launch
public import proofs.«01_k».proof.Proof.Gen.Kernel3Ideal.Points
public import Idealize.ShloMosaic.Lib.Pipeline.FrameBody
public import Idealize.ShloMosaic.Lib.Pipeline.FrameSuffix
public import Idealize.ShloMosaic.Lib.Tactic

@[expose] public section

set_option maxRecDepth 16384

noncomputable section

namespace Cert.Kernel3Ideal.Knn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.Kernel3Ideal Cert.Kernel3Ideal.Gen

variable {F : FTy → Type} [FloatOps F]

variable (m : (ℓ : Loc nD τ sig) → Buf (Elt F) ℓ)

/-- A core's buffers when the region is entered. -/
abbrev entry (c : Dev nD) : Valuation τ sig (Elt F) := StableHlo.after (List.flatten [hostOps0]) (fun b => m (c, b))
abbrev entryAt (c : Dev nD) (b : Ref sig .tc) : Buf (Elt F) ((c : Thread nD τ).loc b) := entry m c (Proc.devRef .tc b)

theorem ops0_fresh : (hostOps0 : List (HloOp τ sig (Elt F))).Forall fun op => op.fresh = ∅ := by
  simp only [List.Forall]; repeat' constructor
theorem ops1_fresh : (hostOps1 : List (HloOp τ sig (Elt F))).Forall fun op => op.fresh = ∅ := by
  simp only [List.Forall]; repeat' constructor

set_option maxHeartbeats 800000 in
/-- The program is the operations before the region, the region, and the operations after it. -/
theorem around (𝒱 : Variants) : Pipeline.HMainK (Ix := Unit) (Name := ℕ) (U := UR sig nD τ) (Lvl := ℕ) cfgs 0 defs₀ 𝒱 m (main (F := F)) (entryAt m)
      (fun _ => Pipeline.chain ([hostOps1].map StableHlo.seq)) :=
  Pipeline.hmain_around cfgs 0 defs₀ 𝒱 m main [hostOps0] [hostOps1] (by simp only [List.Forall]; exact hostOps0_sub)
    (by simp only [List.Forall]; exact ops0_fresh) main_chain

theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 (launch0 (F := F)).win.arr_unscoped]
  intro ops hops op hop
  obtain rfl := List.mem_singleton.1 hops
  exact Pipeline.sub_ucRefs op ((List.forall_iff_forall_mem.mp hostOps1_sub) op hop)

theorem tail_fresh : ∀ ops ∈ ([hostOps1] : List (List (HloOp τ sig (Elt F)))), ∀ op ∈ ops, op.fresh = ∅ := by
  intro ops hops op hop
  obtain rfl := List.mem_singleton.1 hops
  exact (List.forall_iff_forall_mem.mp ops1_fresh) op hop

/-- An operation after the region writes none of these buffers: the windows' arrays and the arguments. -/
theorem tail_writes : ∀ b : Ref sig .tc, (b = main_arg0 ∨ b = main_arg1 ∨ ∃ w, b = Pipeline.arrRef spec0 w) →
    (hostOps1 : List (HloOp τ sig (Elt F))).Forall fun op => Proc.devRef .tc b ∉ op.writes := by
  intro b hb
  have hne : ∀ r ∈ [main_c, main_v12, main_v13, main_c_0, main_v14, main_v15, main_v16, main_v17, main_v18, main_v19, main_v20,
      main_v21, main_c_1, main_v22, main_v23, main_c_2, main_v24, main_v25, main_v26, main_v27, main_v28, main_v29], b ≠ r := by
    rcases hb with rfl | rfl | ⟨w, rfl⟩
    · decide
    · decide
    · revert w; decide
  simp only [hostOps1, List.Forall, StableHlo.nullary_writes, StableHlo.unary_writes, StableHlo.binary_writes, StableHlo.ternary_writes,
    StableHlo.reshape_writes, Finset.mem_singleton]
  repeat' apply And.intro
  all_goals exact StableHlo.devRef_ne_of_ne (hne _ (by decide))

theorem tail_keeps : ∀ ops ∈ ([hostOps1] : List (List (HloOp τ sig (Elt F)))), ∀ op ∈ ops,
    ∀ w, Proc.devRef .tc (Pipeline.arrRef spec0 w) ∉ op.writes := by
  intro ops hops op hop w
  obtain rfl := List.mem_singleton.1 hops
  exact (List.forall_iff_forall_mem.mp (tail_writes _ (.inr (.inr ⟨w, rfl⟩)))) op hop

/-- The region finds the arguments as launched. -/
theorem entry_arg (b : Ref sig .tc) (hb : b = main_arg0 ∨ b = main_arg1 ∨ b = main_arg2) (c : Dev nD) :
    entryAt m c b = m ((c : Thread nD τ).loc b) := by
  have hne : ∀ r ∈ [main_v0, main_v1, main_v2, main_v3, main_v4, main_v5, main_v6, main_v7, main_v8, main_v9, main_v10], b ≠ r := by
    rcases hb with rfl | rfl | rfl <;> decide
  refine StableHlo.after_of_forall_not_mem (b := Proc.devRef .tc b) _ _ (List.forall_iff_forall_mem.mp ?_)
  simp only [hostOps0, List.flatten_cons, List.flatten_nil, List.append_nil, List.Forall, StableHlo.nullary_writes,
    StableHlo.unary_writes, StableHlo.reshape_writes, Finset.mem_singleton]
  repeat' apply And.intro
  all_goals exact StableHlo.devRef_ne_of_ne (hne _ (by decide))

/-- The two arguments no window stages end as launched. -/
theorem tail_arg (b : Ref sig .tc) (hb : b = main_arg0 ∨ b = main_arg1)
    (dats : (p : Fin 1) → (c : Dev nD) → Dat τ (Elt F) Unit ℕ (UR sig nD τ) ℕ (cfgs (F := F) p) c) (c : Dev nD) :
    Pipeline.afterTail₀ (cfgs (F := F)) dats 0 (entry m) [hostOps1] c b = m ((c : Thread nD τ).loc b) := by
  unfold Pipeline.afterTail₀
  rw [StableHlo.after_of_forall_not_mem (b := Proc.devRef .tc b) _ _ (List.forall_iff_forall_mem.mp (by
      simp only [List.flatten_cons, List.flatten_nil, List.append_nil]
      exact tail_writes b (hb.imp_right .inl))),
    Pipeline.withArrays_of_ne _ c (entry m c) _ b (by
      have : ∀ w, Pipeline.arrRef spec0 w ≠ b := by rcases hb with rfl | rfl <;> decide
      exact this)]
  exact entry_arg m b (hb.imp_right .inl) c

/-- A window's block at a point. -/
def blk (c : Dev nD) (w : Fin (cfg0 (F := F)).W) (t : Fin (cfg0 (F := F)).N) :
    (((cfg0 (F := F)).win w).xblock ((cfg0 (F := F)).grid.coords t)).Idx → Elt F ((cfg0 (F := F)).win w).elt :=
  (((cfg0 (F := F)).win w).blk t).view.read (Elt F) (entryAt m c (Pipeline.arrRef spec0 w))

end Cert.Kernel3Ideal.Knn

end
-- ==== Proof.KnnRunIdeal.lean ====
/-
  The neighbour search's run: its body on the staging blocks, the region, and the operations after it.
-/
module

public import proofs.«01_k».proof.Proof.KnnBodyIdeal
public import proofs.«01_k».proof.Proof.KnnFrameIdeal
public import Idealize.ShloMosaic.Lib.Quiescent
public import Idealize.ShloMosaic.Lib.WritesUnit

@[expose] public section

set_option maxRecDepth 16384

noncomputable section

namespace Cert.Kernel3Ideal.Knn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.Kernel3Ideal Cert.Kernel3Ideal.Gen

variable {F : FTy → Type} [FloatOps F]

local notation "𝕄" => MT nD τ sig Unit (Elt F) ℕ (UR sig nD τ) ℕ

/-- A column of the block of centres. -/
def cen0 (x : Vec F S1x256x3 .f32) : Vec F S1x256x1 .f32 := View.ld x (Rect.unit (s := S1x256x3) ![0, 0, 0] S1x256x1.size inb_S1x256x3_S1x256x1_0_0_0)
def cen1 (x : Vec F S1x256x3 .f32) : Vec F S1x256x1 .f32 := View.ld x (Rect.unit (s := S1x256x3) ![0, 0, 1] S1x256x1.size inb_S1x256x3_S1x256x1_0_0_1)
def cen2 (x : Vec F S1x256x3 .f32) : Vec F S1x256x1 .f32 := View.ld x (Rect.unit (s := S1x256x3) ![0, 0, 2] S1x256x1.size inb_S1x256x3_S1x256x1_0_0_2)

/-- A row of coordinates, whole. -/
def row (x : Vec F S1x1x4096 .f32) : Vec F S1x1x4096 .f32 := View.ld x (Rect.unit (s := S1x1x4096) ![0, 0, 0] S1x1x4096.size inb_S1x1x4096_S1x1x4096_0_0_0)

/-- The distances of the block's centres to all points. -/
def dist (x0 : Vec F S1x256x3 .f32) (x1 x2 x3 : Vec F S1x1x4096 .f32) : FVec F S256x4096 .f32 :=
  k0_pay1 (k0_pay8 (cen1 x0)) (k0_pay9 (cen2 x0)) (k0_pay10 (row x1)) (k0_pay11 (row x2)) (k0_pay12 (row x3))
    (k0_pay14 (cen0 x0) (cen1 x0) (cen2 x0) (row x1) (row x2) (row x3)) (k0_pay15 (cen0 x0))

/-- The numbers of the 128 lanes. -/
def lane (x4 : Vec F S1x128 .f32) : FVec F S1x128 .f32 :=
  k0_pay13 (View.ld x4 (Rect.unit (s := S1x128) ![0, 0] S1x128.size inb_S1x128_S1x128_0_0))

/-- The loop's start. -/
def start (D : FVec F S256x4096 .f32) : St F := ⟨0#1, k0_pay2, k0_pay3, D⟩

/-- The result block. -/
def outI (x0 : Vec F S1x256x3 .f32) (x1 x2 x3 : Vec F S1x1x4096 .f32) (x4 : Vec F S1x128 .f32) : IVec S1x256x32 32 :=
  k0_pay4 (go (lane x4) 40 (start (dist x0 x1 x2 x3))).bn

/-- A buffer written whole reads what was written. -/
theorem read_all (v : View sig .tc .vmem S256x4096 .f32) (f : BufTy.Contents (Elt F) v.ty)
    (inb : ∀ a : Fin S256x4096.rank, (![0, 0] : Fin S256x4096.rank → ℕ) a + S256x4096.size a ≤ S256x4096.size a)
    (w : FVec F S256x4096 .f32) :
    v.read (Elt F) (v.writes (Elt F) f [⟨Rect.unit (s := S256x4096) ![0, 0] S256x4096.size inb, w⟩]) = w :=
  funext fun y => View.read_writes_cons_unit_of_mem v f inb w [] y
    (show (Rect.unit (s := S256x4096) ![0, 0] S256x4096.size inb).shape.Idx from y) rfl
    (fun a => by match a with | ⟨0, _⟩ => exact (Nat.zero_add _).symm | ⟨1, _⟩ => exact (Nat.zero_add _).symm)
theorem write_out (v : View sig .tc .vmem S1x256x32 .i32) (f : BufTy.Contents (Elt F) v.ty)
    (inb : ∀ a : Fin S1x256x32.rank, (![0, 0, 0] : Fin S1x256x32.rank → ℕ) a + S1x256x32.size a ≤ S1x256x32.size a)
    (w : IVec S1x256x32 32) :
    v.read (Elt F) (v.writes (Elt F) f [⟨Rect.unit (s := S1x256x32) ![0, 0, 0] S1x256x32.size inb, w⟩]) = w :=
  funext fun y => View.read_writes_cons_unit_of_mem v f inb w [] y
    (show (Rect.unit (s := S1x256x32) ![0, 0, 0] S1x256x32.size inb).shape.Idx from y) rfl
    (fun a => by
      match a with
      | ⟨0, _⟩ => exact (Nat.zero_add _).symm
      | ⟨1, _⟩ => exact (Nat.zero_add _).symm
      | ⟨2, _⟩ => exact (Nat.zero_add _).symm)

/-- The body on whole blocks: the inputs stay, the result ends at its block. -/
theorem sound_kernel (c : Dev nD) (i : grid0.Coords)
    (arg2 : Memref sig .tc .vmem S1x256x3 .f32) (harg2 : arg2.IsWhole) (arg3 : Memref sig .tc .vmem S1x1x4096 .f32) (harg3 : arg3.IsWhole)
    (arg4 : Memref sig .tc .vmem S1x1x4096 .f32) (harg4 : arg4.IsWhole) (arg5 : Memref sig .tc .vmem S1x1x4096 .f32) (harg5 : arg5.IsWhole)
    (arg6 : Memref sig .tc .vmem S1x128 .f32) (harg6 : arg6.IsWhole) (arg7 : Memref sig .tc .vmem S1x256x32 .i32) (harg7 : arg7.IsWhole)
    (arg8 : Memref sig .tc .vmem S256x4096 .f32) (harg8 : arg8.IsWhole)
    (x0 : Vec F S1x256x3 .f32) (x1 x2 x3 : Vec F S1x1x4096 .f32) (x4 : Vec F S1x128 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ (∃ d, owns (c : Thread nD τ) arg7 fullShare d)
        ∗ (∃ f, (arg8.view.loc (c : Thread nD τ) ↦[arg8.view.set]{fullShare} f))
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare (outI x0 x1 x2 x3 x4)
            ∗ (∃ f, (arg8.view.loc (c : Thread nD τ) ↦[arg8.view.set]{fullShare} f))) -∗ K ⟨⟩))
      ⊢ wp frame (wpE (defs₀ (F := F)) 𝒱₀ c none) Set.univ
          (cc0__knn_body i arg2 harg2 arg3 harg3 arg4 harg4 arg5 harg5 arg6 harg6 arg7 harg7 arg8 harg8) K := by
  simp only [cc0__knn_body_eq_skeleton]; unfold cc0__knn_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f8, H8⟩, Hk⟩
  subst hf0 hf1 hf2 hf3 hf4
  sl_exec
  iapply (wp_call_spec 𝒱₀ (c : Thread nD τ) none Set.univ (spec c arg8 _ 40 _ _ _ _) 40 (fun u hu => nomatch hu)
    (spec_le c i arg8 harg8 _ Set.univ 40 0 rfl _ _ _ _))
  rw [spec_apply]
  isplitl [H8]; · iexact H8
  iintro %r %hr H8
  rw [read_all arg8.view f8 inb_S256x4096_S256x4096_0_0] at hr
  rw [hr]
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr; swap; · iexact H5
    ipureintro; exact write_out arg7.view f5 inb_S1x256x32_S1x256x32_0_0_0 _
  iexact H8

section Region
variable (m : (ℓ : Loc nD τ sig) → Buf (Elt F) ℓ) (ρ : Dev nD → PrngReg)

/-- The result block at a point. -/
def outAt (c : Dev nD) (t : Fin (cfg0 (F := F)).N) : IVec S1x256x32 32 :=
  outI (blk m c 0 t) (blk m c 1 t) (blk m c 2 t) (blk m c 3 t) (blk m c 4 t)

/-- The proof data: the arrays as the region finds them, each input left in place, the result at its block. -/
def dat (c : Dev nD) : Dat τ (Elt F) Unit ℕ (UR sig nD τ) ℕ (cfg0 (F := F)) c where
  A w := entryAt m c (Pipeline.arrRef spec0 w)
  after w t := match w with
    | ⟨0, _⟩ => blk m c 0 t
    | ⟨1, _⟩ => blk m c 1 t
    | ⟨2, _⟩ => blk m c 2 t
    | ⟨3, _⟩ => blk m c 3 t
    | ⟨4, _⟩ => blk m c 4 t
    | ⟨5, _⟩ => outAt m c t
  Φ _ := Pipeline.ΦA spec0 c
  q _ := fullShare
  owed _ := 0

theorem dat_A (c : Dev nD) (w : Fin (cfg0 (F := F)).W) : (dat m c).A w = entryAt m c (Pipeline.arrRef spec0 w) := by dsimp only [dat]
theorem dat_after0 (c : Dev nD) (t : Fin (cfg0 (F := F)).N) : (dat m c).after 0 t = blk m c 0 t := rfl
theorem dat_after1 (c : Dev nD) (t : Fin (cfg0 (F := F)).N) : (dat m c).after 1 t = blk m c 1 t := rfl
theorem dat_after2 (c : Dev nD) (t : Fin (cfg0 (F := F)).N) : (dat m c).after 2 t = blk m c 2 t := rfl
theorem dat_after3 (c : Dev nD) (t : Fin (cfg0 (F := F)).N) : (dat m c).after 3 t = blk m c 3 t := rfl
theorem dat_after4 (c : Dev nD) (t : Fin (cfg0 (F := F)).N) : (dat m c).after 4 t = blk m c 4 t := rfl
theorem dat_after5 (c : Dev nD) (t : Fin (cfg0 (F := F)).N) : (dat m c).after 5 t = outAt m c t := rfl

theorem dat_before0 (c : Dev nD) (t : Fin (cfg0 (F := F)).N) (d) : (dat m c).before 0 t d = blk m c 0 t :=
  ((dat m c).before_in_eq_fetched 0 rfl (fun _ => rfl) (fun _ _ _ => rfl) (fun _ => rfl) t d).trans rfl
theorem dat_before1 (c : Dev nD) (t : Fin (cfg0 (F := F)).N) (d) : (dat m c).before 1 t d = blk m c 1 t :=
  ((dat m c).before_in_eq_fetched 1 rfl (fun _ => rfl) (fun _ _ _ => rfl) (fun _ => rfl) t d).trans rfl
theorem dat_before2 (c : Dev nD) (t : Fin (cfg0 (F := F)).N) (d) : (dat m c).before 2 t d = blk m c 2 t :=
  ((dat m c).before_in_eq_fetched 2 rfl (fun _ => rfl) (fun _ _ _ => rfl) (fun _ => rfl) t d).trans rfl
theorem dat_before3 (c : Dev nD) (t : Fin (cfg0 (F := F)).N) (d) : (dat m c).before 3 t d = blk m c 3 t :=
  ((dat m c).before_in_eq_fetched 3 rfl (fun _ => rfl) (fun _ _ _ => rfl) (fun _ => rfl) t d).trans rfl
theorem dat_before4 (c : Dev nD) (t : Fin (cfg0 (F := F)).N) (d) : (dat m c).before 4 t d = blk m c 4 t :=
  ((dat m c).before_in_eq_fetched 4 rfl (fun _ => rfl) (fun _ _ _ => rfl) (fun _ => rfl) t d).trans rfl

/-- The body's precondition, window by window. -/
def held (c : Dev nD) (t : Fin (cfg0 (F := F)).N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ d, owns (c : Thread nD τ) (st0_3 t) fullShare ((dat m c).before 3 t d))
    ∗ (∃ d, owns (c : Thread nD τ) (st0_4 t) fullShare ((dat m c).before 4 t d))
    ∗ (∃ d, owns (c : Thread nD τ) (st0_5 t) fullShare ((dat m c).before 5 t d)))

/-- What it gives back. -/
def given (c : Dev nD) (t : Fin (cfg0 (F := F)).N) : sProp 𝕄 :=
  iprop((dat m c).Φ t.succ ∗ (dat m c).owesAt () t.succ
    ∗ owns (c : Thread nD τ) (st0_0 t) fullShare ((dat m c).after 0 t)
    ∗ owns (c : Thread nD τ) (st0_1 t) fullShare ((dat m c).after 1 t)
    ∗ owns (c : Thread nD τ) (st0_2 t) fullShare ((dat m c).after 2 t)
    ∗ owns (c : Thread nD τ) (st0_3 t) fullShare ((dat m c).after 3 t)
    ∗ owns (c : Thread nD τ) (st0_4 t) fullShare ((dat m c).after 4 t)
    ∗ owns (c : Thread nD τ) (st0_5 t) fullShare ((dat m c).after 5 t))

/-- The distance buffer is the region's only scratch. -/
theorem scratch (c : Dev nD) : (Pipeline.ΦA spec0 c : sProp 𝕄)
    = iprop((∃ f, ((Memref.whole cc0_scratch0).view.loc (c : Thread nD τ) ↦[(Memref.whole cc0_scratch0).view.set]{fullShare} f))
        ∗ (∃ r, prngReg c r)) := by
  unfold Pipeline.ΦA
  rw [scopedRest0_eq]
  show _ = iprop((∃ f, ((View.whole cc0_scratch0).loc (c : Thread nD τ) ↦[(View.whole cc0_scratch0).set]{fullShare} f)) ∗ _)
  rw [View.set_whole cc0_scratch0]

theorem held_given (c : Dev nD) (t : Fin (cfg0 (F := F)).N) :
    held m c t ⊢ wp frame (wpE (defs₀ (F := F)) 𝒱₀ c none) Set.univ (bodyAt0 t) (fun _ => given m c t) := by
  unfold held given bodyAt0
  simp only [dat_before0, dat_before1, dat_before2, dat_before3, dat_before4]
  rw [show (dat m c).owesAt () t.succ = (dat m c).owesAt () t.castSucc from rfl,
    show (dat m c).Φ t.succ = Pipeline.ΦA spec0 c from rfl, show (dat m c).Φ t.castSucc = Pipeline.ΦA spec0 c from rfl, scratch,
    dat_after0, dat_after1, dat_after2, dat_after3, dat_after4, dat_after5]
  iintro ⟨⟨H8, Hp⟩, Ho, ⟨%d0, H0⟩, ⟨%d1, H1⟩, ⟨%d2, H2⟩, ⟨%d3, H3⟩, ⟨%d4, H4⟩, ⟨%d5, H5⟩⟩
  iapply (sound_kernel c _ _ _ _ _ _ _ _ _ _ _ _ _ _ _ (blk m c 0 t) (blk m c 1 t) (blk m c 2 t) (blk m c 3 t) (blk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H8]; · iexact H8
  iintro ⟨H0, H1, H2, H3, H4, H5, H8⟩
  isplitl [H8 Hp]
  · isplitl [H8]; · iexact H8
    iexact Hp
  isplitl [Ho]; · iexact Ho
  isplitl [H0]; · iexact H0
  isplitl [H1]; · iexact H1
  isplitl [H2]; · iexact H2
  isplitl [H3]; · iexact H3
  isplitl [H4]; · iexact H4
  iexact H5

theorem body_row (t : Fin (cfg0 (F := F)).N) : defs₀ (F := F) .tc (cfg0 (F := F)).body ((cfg0 (F := F)).bodyArgs t ((cfg0 (F := F)).slots t)) = bodyAt0 t := by
  unfold defs₀; rw [Defs.onTc_tc]

theorem obligation (c : Dev nD) : BodyObligation (dat (F := F) m c) (defs₀ (F := F)) 𝒱₀ () Set.univ := fun t => by
  rw [bigSep_W0, bigSep_W0, body_row]
  exact triple_restated (held_given m c t) rfl .rfl fun _ => .rfl

/-- The one region's data. -/
def dats (p : Fin 1) (c : Dev nD) : Dat τ (Elt F) Unit ℕ (UR sig nD τ) ℕ (cfgs (F := F) p) c :=
  match p with
  | 0 => dat m c
  | ⟨_ + 1, h⟩ => absurd h (Nat.not_lt.2 (Nat.le_add_left _ _))

/-- What the run leaves: the region's arrays and the other buffers, and every counter at zero. -/
theorem run : θ_run defs (onTc (τ := τ) (main (F := F))) (s₀ m ρ) (fun r =>
    Pipeline.FramePost cfgs (dats m) 0 (Pipeline.afterTail₀ cfgs (dats m) 0 (entry m) [hostOps1]) r ∧ r.2.sem = (fun _ => 0)) :=
  Pipeline.θ_run_frame_around cfgs (dats m) 0 launch0 defs₀ 𝒱₀ m ρ main
    (hbody := fun c => (obligation m c).loose) (hshare := fun c w => (dat m c).share_full (fun _ => rfl) w)
    (howed := fun _ _ => rfl) (V₀ := entry m) (opss := [hostOps1]) tail_sub tail_fresh tail_keeps (around m 𝒱₀)
    (hA := fun c w => dat_A m c w) (hΦ := fun _ _ => rfl)
    (Q' := fun r => Pipeline.FramePost cfgs (dats m) 0 (Pipeline.afterTail₀ cfgs (dats m) 0 (entry m) [hostOps1]) r ∧ r.2.sem = (fun _ => 0))
    (hQ' := fun _ h => h)

/-- The arguments end as launched. -/
theorem args_kept (r : PUnit × MemSt nD τ sig (Elt F))
    (h : Pipeline.FramePost cfgs (dats m) 0 (Pipeline.afterTail₀ cfgs (dats m) 0 (entry m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (Pipeline.mem_restRefs_of main_arg0 (by decide) (by exact (by decide : ∀ w, Pipeline.arrRef spec0 w ≠ main_arg0)))).trans (tail_arg m main_arg0 (.inl rfl) (dats m) c),
    ((h c).2 main_arg1 (Pipeline.mem_restRefs_of main_arg1 (by decide) (by exact (by decide : ∀ w, Pipeline.arrRef spec0 w ≠ main_arg1)))).trans (tail_arg m main_arg1 (.inr rfl) (dats m) c),
    ((h c).1 (0 : Fin 6)).trans (((dat m c).arrAt_in (0 : Fin 6) rfl _).trans (entry_arg m main_arg2 (.inr (.inr rfl)) c))⟩

/-- The arguments end as launched and every counter at zero. -/
theorem frame_sem : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = (fun _ => 0)) :=
  (θ_run defs _ _).mono (fun r h => ⟨args_kept m r h.1, h.2⟩) (run m ρ)

/-- The result too, by the operations after the region. -/
theorem run_result : θ_run defs (onTc (τ := τ) (main (F := F))) ⟨m, fun _ => 0, ρ⟩ (fun r => ∀ c : Dev nD,
    r.2.mem ((c.tc : Thread nD τ).loc main_v29) = Pipeline.afterTail₀ cfgs (dats m) 0 (entry m) [hostOps1] c main_v29
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h.1 c).2 main_v29 (Pipeline.mem_restRefs_of main_v29 (by decide) (by exact (by decide : ∀ w, Pipeline.arrRef spec0 w ≠ main_v29))), args_kept m r h.1 c⟩) (run m ρ)

end Region

end Cert.Kernel3Ideal.Knn

end
-- ==== Proof.KnnRank.lean ====
/-
  Points in order of distance, ties by number: the point of a given rank in a set, and how ranks in one set and in a
  larger one compare.
-/
module

public import Mathlib.Data.EReal.Basic
public import Mathlib.Data.Prod.Lex
public import Mathlib.Data.Fintype.Card
public import Mathlib.Data.Finset.Card
public import Mathlib.Order.Preorder.Finite
public import Mathlib.Data.Finset.Max

@[expose] public section

noncomputable section

namespace Cert.Knn

variable {n : ℕ} (D : Fin n → EReal)

/-- A point's place in the order: its distance, then its number. -/
def key (s : Fin n) : EReal ×ₗ ℕ := toLex (D s, s.val)

theorem key_lt (s t : Fin n) : key D s < key D t ↔ D s < D t ∨ (D s = D t ∧ s.val < t.val) := Prod.Lex.toLex_lt_toLex

theorem key_inj {s t : Fin n} (h : key D s = key D t) : s = t :=
  Fin.ext (congrArg (fun x => (ofLex x).2) h)

theorem key_lt_or {s t : Fin n} (h : s ≠ t) : key D s < key D t ∨ key D t < key D s :=
  lt_or_gt_of_ne fun e => h (key_inj D e)

theorem le_of_key {s t : Fin n} (h : key D s ≤ key D t) : D s ≤ D t := by
  rcases h.lt_or_eq with h | h
  · rcases (key_lt D s t).1 h with h | h
    · exact h.le
    · exact h.1.le
  · rw [key_inj D h]

/-- The points of `T` before `t`. -/
def before (T : Finset (Fin n)) (t : Fin n) : Finset (Fin n) := T.filter fun s => key D s < key D t

theorem mem_before {T : Finset (Fin n)} {s t : Fin n} : s ∈ before D T t ↔ s ∈ T ∧ key D s < key D t := Finset.mem_filter

/-- `t` has rank `j` in `T`. -/
def IsNth (T : Finset (Fin n)) (j : ℕ) (t : Fin n) : Prop := t ∈ T ∧ (before D T t).card = j

theorem card_before_lt {T : Finset (Fin n)} {s t : Fin n} (hs : s ∈ T) (h : key D s < key D t) :
    (before D T s).card < (before D T t).card := by
  refine Finset.card_lt_card ⟨fun x hx => ?_, fun hsub => ?_⟩
  · exact (mem_before D).2 ⟨((mem_before D).1 hx).1, ((mem_before D).1 hx).2.trans h⟩
  · exact lt_irrefl _ ((mem_before D).1 (hsub ((mem_before D).2 ⟨hs, h⟩))).2

theorem IsNth.lt_iff {T : Finset (Fin n)} {i j : ℕ} {s t : Fin n} (hs : IsNth D T i s) (ht : IsNth D T j t) :
    key D s < key D t ↔ i < j := by
  refine ⟨fun h => hs.2 ▸ ht.2 ▸ card_before_lt D hs.1 h, fun h => ?_⟩
  by_contra hn
  rcases (not_lt.1 hn).lt_or_eq with e | e
  · have := card_before_lt D ht.1 e
    rw [hs.2, ht.2] at this; omega
  · have := key_inj D e
    subst this
    have := hs.2.symm.trans ht.2; omega

theorem IsNth.unique {T : Finset (Fin n)} {j : ℕ} {s t : Fin n} (hs : IsNth D T j s) (ht : IsNth D T j t) : s = t := by
  by_contra hne
  rcases key_lt_or D hne with h | h
  · exact lt_irrefl _ ((IsNth.lt_iff D hs ht).1 h)
  · exact lt_irrefl _ ((IsNth.lt_iff D ht hs).1 h)

/-- A rank in a set is the rank in a larger one whose further points all come later. -/
theorem IsNth.mono {T S : Finset (Fin n)} {j : ℕ} {t : Fin n} (h : IsNth D T j t) (hsub : T ⊆ S)
    (hlate : ∀ s ∈ S, s ∉ T → key D t < key D s) : IsNth D S j t := by
  refine ⟨hsub h.1, ?_⟩
  rw [← h.2]
  congr 1
  ext s
  rw [mem_before, mem_before]
  constructor
  · rintro ⟨hs, hlt⟩
    refine ⟨?_, hlt⟩
    by_contra hT
    exact lt_asymm hlt (hlate s hs hT)
  · rintro ⟨hs, hlt⟩
    exact ⟨hsub hs, hlt⟩

/-- The first `k` of a set, rank by rank. -/
def First (T : Finset (Fin n)) {k : ℕ} (a : Fin k → Fin n) : Prop := ∀ j, IsNth D T j.val (a j)

theorem First.injective {T : Finset (Fin n)} {k : ℕ} {a : Fin k → Fin n} (h : First D T a) : Function.Injective a := by
  intro i j e
  have h1 := (h i).2
  rw [e, (h j).2] at h1
  exact Fin.ext h1.symm

/-- A point of the set that is none of the first comes after all of them. -/
theorem First.lt_of_not_mem {T : Finset (Fin n)} {k : ℕ} {a : Fin k → Fin n} (h : First D T a) {s : Fin n} (hs : s ∈ T)
    (hn : ∀ j, a j ≠ s) (j : Fin k) : key D (a j) < key D s := by
  by_contra hlt
  have hlt' : key D s < key D (a j) := (key_lt_or D (hn j)).resolve_left hlt
  have hc := card_before_lt D hs hlt'
  rw [(h j).2] at hc
  exact hn ⟨(before D T s).card, hc.trans j.isLt⟩ (IsNth.unique D (h _) ⟨hs, rfl⟩)

/-- What is first among `T`, where `T` holds the first of `S` and some more of a larger set, is first in the union. -/
theorem First.union {S M : Finset (Fin n)} {k : ℕ} {a b : Fin k → Fin n} (h : First D S a)
    (hb : First D (Finset.univ.image a ∪ M) b) : First D (S ∪ M) b := by
  intro j
  refine IsNth.mono D (hb j) (Finset.union_subset_union_left (fun x hx => ?_)) fun s hs hn => ?_
  · obtain ⟨i, -, rfl⟩ := Finset.mem_image.1 hx
    exact (h i).1
  · have hsS : s ∈ S := by
      rcases Finset.mem_union.1 hs with h' | h'
      · exact h'
      · exact absurd (Finset.mem_union_right _ h') hn
    have hna : ∀ i, a i ≠ s := fun i e => hn (Finset.mem_union_left _ (Finset.mem_image.2 ⟨i, Finset.mem_univ _, e⟩))
    by_contra hlt
    have hle : key D s ≤ key D (b j) := not_lt.1 hlt
    have hsub : Finset.univ.image a ⊆ before D (Finset.univ.image a ∪ M) (b j) := fun x hx => by
      obtain ⟨i, -, rfl⟩ := Finset.mem_image.1 hx
      exact (mem_before D).2 ⟨Finset.mem_union_left _ hx, (First.lt_of_not_mem D h hsS hna i).trans_le hle⟩
    have hc := Finset.card_le_card hsub
    rw [Finset.card_image_of_injective _ (First.injective D h), Finset.card_univ, Fintype.card_fin, (hb j).2] at hc
    exact absurd j.isLt (by omega)

/-- Where everything outside a set comes after its first, these are the first of all. -/
theorem First.all {S : Finset (Fin n)} {k : ℕ} {a : Fin k → Fin n} (h : First D S a)
    (hout : ∀ u, u ∉ S → ∀ j, key D (a j) < key D u) : First D Finset.univ a :=
  fun j => IsNth.mono D (h j) (Finset.subset_univ _) fun s _ hs => hout s hs j

theorem First.restrict {S S' : Finset (Fin n)} {k : ℕ} {a : Fin k → Fin n} (h : First D S a) (hsub : S ⊆ S')
    (hout : ∀ u, u ∉ S → ∀ j, key D (a j) < key D u) : First D S' a :=
  fun j => IsNth.mono D (h j) hsub fun s _ hs => hout s hs j

/-- The first point of a nonempty set. -/
theorem exists_min (T : Finset (Fin n)) (h : T.Nonempty) : ∃ t ∈ T, ∀ s ∈ T, key D t ≤ key D s :=
  Finset.exists_min_image T (key D) h

/-- Taking the first point away shifts the ranks by one. -/
theorem IsNth.of_erase {T : Finset (Fin n)} {t s : Fin n} {j : ℕ} (ht : t ∈ T) (hmin : ∀ s ∈ T, key D t ≤ key D s)
    (h : IsNth D (T.erase t) j s) : IsNth D T (j + 1) s := by
  have hs := Finset.mem_of_mem_erase h.1
  refine ⟨hs, ?_⟩
  have hlt : key D t < key D s := (hmin s hs).lt_of_ne fun e => Finset.ne_of_mem_erase h.1 (key_inj D e).symm
  have : before D T s = insert t (before D (T.erase t) s) := by
    ext x
    rw [Finset.mem_insert, mem_before, mem_before, Finset.mem_erase]
    constructor
    · rintro ⟨hx, hxs⟩
      by_cases e : x = t
      · exact .inl e
      · exact .inr ⟨⟨e, hx⟩, hxs⟩
    · rintro (rfl | ⟨⟨_, hx⟩, hxs⟩)
      · exact ⟨ht, hlt⟩
      · exact ⟨hx, hxs⟩
  rw [this, Finset.card_insert_of_notMem, h.2]
  intro hm
  exact (Finset.mem_erase.1 ((mem_before D).1 hm).1).1 rfl

theorem IsNth.zero {T : Finset (Fin n)} {t : Fin n} (ht : t ∈ T) (hmin : ∀ s ∈ T, key D t ≤ key D s) : IsNth D T 0 t := by
  refine ⟨ht, Finset.card_eq_zero.2 (Finset.eq_empty_of_forall_notMem fun s hs => ?_)⟩
  exact absurd ((mem_before D).1 hs).2 (not_lt.2 (hmin s ((mem_before D).1 hs).1))

end Cert.Knn

end
-- ==== Proof.KnnSelect.lean ====
/-
  Choosing the smallest again and again, in one row: the candidates hold a set of points, each choice is the set's first
  point, and what is left holds the rest.  And one round of the search in one row.
-/
module

public import proofs.«01_k».proof.Proof.KnnRank
public import Mathlib.Data.Finset.Lattice.Fold
public import Mathlib.Logic.Function.Iterate
public import Mathlib.Data.Nat.Cast.Order.Basic

@[expose] public section

noncomputable section

namespace Cert.Knn

/-- A number as a float. -/
def num (k : ℕ) : EReal := ((k : ℝ) : EReal)

theorem num_le {i j : ℕ} : num i ≤ num j ↔ i ≤ j := by unfold num; rw [EReal.coe_le_coe_iff, Nat.cast_le]
theorem num_lt {i j : ℕ} : num i < num j ↔ i < j := by unfold num; rw [EReal.coe_lt_coe_iff, Nat.cast_lt]
theorem num_inj {i j : ℕ} (h : num i = num j) : i = j := le_antisymm (num_le.1 h.le) (num_le.1 h.ge)

section Select
variable {ι : Type} [Fintype ι] (big bign : EReal)

/-- The smallest value. -/
def low (v : ι → EReal) : EReal := Finset.univ.inf v

/-- The smallest number at the smallest value. -/
def sel (cn v : ι → EReal) : EReal := low fun i => if v i = low v then cn i else bign

/-- The values with the chosen one taken out. -/
def nxt (cn v : ι → EReal) : ι → EReal := fun i => if v i = low v ∧ cn i = sel bign cn v then big else v i

theorem low_le (v : ι → EReal) (i : ι) : low v ≤ v i := Finset.inf_le (Finset.mem_univ i)

theorem low_eq (v : ι → EReal) (x : EReal) (h : ∀ i, x ≤ v i) (he : ∃ i, v i = x) : low v = x := by
  obtain ⟨i, hi⟩ := he
  exact le_antisymm (hi ▸ low_le v i) (Finset.le_inf fun j _ => h j)

variable {n : ℕ} (D : Fin n → EReal)

/-- The candidates hold the points of `T`, and nothing else but the sentinel. -/
def Rep (cv cn : ι → EReal) (T : Finset (Fin n)) : Prop :=
  (∀ i, cv i = big ∨ ∃ t ∈ T, cv i = D t ∧ cn i = num t.val) ∧ ∀ t ∈ T, ∃ i, cv i = D t ∧ cn i = num t.val

variable (hbig : ∀ t, D t < big) (hbign : ∀ t : Fin n, num t.val < bign)
include hbig hbign

/-- One choice. -/
theorem Rep.choose {cv cn : ι → EReal} {T : Finset (Fin n)} (h : Rep big D cv cn T) {t : Fin n} (ht : t ∈ T)
    (hmin : ∀ s ∈ T, key D t ≤ key D s) :
    low cv = D t ∧ sel bign cn cv = num t.val ∧ Rep big D (nxt big bign cn cv) cn (T.erase t) := by
  obtain ⟨i₀, hv₀, hn₀⟩ := h.2 t ht
  have hlow : low cv = D t := low_eq cv _ (fun i => by
    rcases h.1 i with e | ⟨s, hs, e, -⟩
    · rw [e]; exact (hbig t).le
    · rw [e]; exact le_of_key D (hmin s hs)) ⟨i₀, hv₀⟩
  have hsel : sel bign cn cv = num t.val := low_eq _ _ (fun i => by
    by_cases e : cv i = low cv
    · rw [if_pos e]
      rcases h.1 i with e' | ⟨s, hs, e', en⟩
      · exact absurd (hlow.symm.trans (e.symm.trans e')) (hbig t).ne
      · rw [en, num_le]
        have hD : D t = D s := hlow.symm.trans (e.symm.trans e')
        rcases (hmin s hs).lt_or_eq with hl | hl
        · rcases (key_lt D t s).1 hl with hl | hl
          · exact absurd hD hl.ne
          · exact hl.2.le
        · exact (congrArg Fin.val (key_inj D hl)).le
    · rw [if_neg e]; exact (hbign t).le) ⟨i₀, by rw [hv₀, hlow, if_pos rfl, hn₀]⟩
  refine ⟨hlow, hsel, fun i => ?_, fun s hs => ?_⟩
  · unfold nxt
    rw [hlow, hsel]
    by_cases e : cv i = D t ∧ cn i = num t.val
    · exact .inl (if_pos e)
    · rw [if_neg e]
      rcases h.1 i with e' | ⟨s, hs, ev, en⟩
      · exact .inl e'
      · refine .inr ⟨s, Finset.mem_erase.2 ⟨fun est => e ?_, hs⟩, ev, en⟩
        subst est; exact ⟨ev, en⟩
  · obtain ⟨hne, hsT⟩ := Finset.mem_erase.1 hs
    obtain ⟨i, ev, en⟩ := h.2 s hsT
    refine ⟨i, ?_, en⟩
    unfold nxt
    rw [if_neg, ev]
    rintro ⟨-, e⟩
    rw [hsel, en] at e
    exact hne (Fin.ext (num_inj e))

/-- As many choices as there are points, or fewer. -/
theorem Rep.choices {cn : ι → EReal} : ∀ (k : ℕ) (cv : ι → EReal) (T : Finset (Fin n)), Rep big D cv cn T → k ≤ T.card →
    ∃ b : Fin k → Fin n, First D T b ∧ ∀ j : Fin k, low ((nxt big bign cn)^[j.val] cv) = D (b j)
      ∧ sel bign cn ((nxt big bign cn)^[j.val] cv) = num (b j).val
  | 0, _, _, _, _ => ⟨fun j => j.elim0, fun j => j.elim0, fun j => j.elim0⟩
  | k + 1, cv, T, h, hk => by
    obtain ⟨t, ht, hmin⟩ := exists_min D T (Finset.card_pos.1 (by omega))
    obtain ⟨h1, h2, h3⟩ := Rep.choose big bign D hbig hbign h ht hmin
    obtain ⟨b, hb, hv⟩ := Rep.choices k _ _ h3 (by rw [Finset.card_erase_of_mem ht]; omega)
    refine ⟨Fin.cons t b, fun j => ?_, fun j => ?_⟩
    · refine Fin.cases ?_ (fun j => ?_) j
      · exact IsNth.zero D ht hmin
      · exact IsNth.of_erase D ht hmin (hb j)
    · refine Fin.cases ⟨h1, h2⟩ (fun j => ?_) j
      rw [Fin.cons_succ, Fin.val_succ, Function.iterate_succ_apply]
      exact hv j

end Select

end Cert.Knn

end
-- ==== Proof.KnnRow.lean ====
/-
  One round of the search in one row: with the first point of every lane taken out, the best are the first of what has been
  taken out, and when nothing left comes before the best, they are the first of all.
-/
module

public import proofs.«01_k».proof.Proof.KnnSelect

@[expose] public section

noncomputable section

namespace Cert.Knn

variable {n : ℕ} {lanes ι : Type} [Fintype lanes] [DecidableEq lanes] [Fintype ι]
variable (big bign : EReal) (D : Fin n → EReal) (ln : Fin n → lanes)

/-- Between rounds: `S` has been taken out of the buffer, at least `r` points of every lane that is not empty, and the best
    are the first of `S` (at the start there are none). -/
structure Inv (r : ℕ) (S : Finset (Fin n)) (B : Fin n → EReal) (bv bn : Fin 32 → EReal) : Prop where
  buf : ∀ x, B x = if x ∈ S then big else D x
  many : ∀ l, r ≤ (S.filter fun x => ln x = l).card ∨ ∀ x, ln x = l → x ∈ S
  best : (S = ∅ ∧ ∀ j, bv j = big) ∨ ∃ a : Fin 32 → Fin n, First D S a ∧ ∀ j, bv j = D (a j) ∧ bn j = num (a j).val

/-- The first point left of each lane: its distance, its number. -/
structure Least (B : Fin n → EReal) (L N : lanes → EReal) : Prop where
  le : ∀ x, L (ln x) ≤ B x
  le_num : ∀ x, B x = L (ln x) → N (ln x) ≤ num x.val
  at_point : ∀ l, ∃ x, ln x = l ∧ B x = L l ∧ N l = num x.val

/-- The candidates are the best and the lanes' first. -/
structure Both (bv bn : Fin 32 → EReal) (L N : lanes → EReal) (cv cn : ι → EReal) : Prop where
  cases : ∀ i, (∃ j, cv i = bv j ∧ cn i = bn j) ∨ ∃ l, cv i = L l ∧ cn i = N l
  best : ∀ j, ∃ i, cv i = bv j ∧ cn i = bn j
  lane : ∀ l, ∃ i, cv i = L l ∧ cn i = N l

/-- Nothing left comes before the last best. -/
def Over (bv bn : Fin 32 → EReal) (L N : lanes → EReal) : Prop :=
  ∃ wv wn, (∀ j, bv j ≤ wv) ∧ (∃ j, bv j = wv) ∧ (∀ j, bv j = wv → bn j ≤ wn)
    ∧ (wv < low L ∨ (low L = wv ∧ wn < sel bign N L))

variable (hbig : ∀ t, D t < big) (hbign : ∀ t : Fin n, num t.val < bign)
include hbig hbign

theorem Inv.round {r : ℕ} {S : Finset (Fin n)} {B B' : Fin n → EReal} {bv bn bv' bn' : Fin 32 → EReal} {L N : lanes → EReal}
    {cv cn : ι → EReal} (h : Inv big D ln r S B bv bn) (hl : Least ln B L N) (hc : Both bv bn L N cv cn)
    (hcard : 32 ≤ Fintype.card lanes)
    (hB' : ∀ x, B' x = if B x = L (ln x) ∧ num x.val = N (ln x) then big else B x)
    (hv' : ∀ j : Fin 32, bv' j = low ((nxt big bign cn)^[j.val] cv))
    (hn' : ∀ j : Fin 32, bn' j = sel bign cn ((nxt big bign cn)^[j.val] cv)) :
    (∃ S', Inv big D ln (r + 1) S' B' bv' bn')
      ∧ (Over bign bv bn L N → ∃ b : Fin 32 → Fin n, First D Finset.univ b ∧ ∀ j, bn' j = num (b j).val) := by
  classical
  let M : Finset (Fin n) := Finset.univ.filter fun x => x ∉ S ∧ B x = L (ln x) ∧ num x.val = N (ln x)
  have memM : ∀ x, x ∈ M ↔ x ∉ S ∧ B x = L (ln x) ∧ num x.val = N (ln x) := fun x => by simp [M]
  have hin : ∀ x ∈ S, B x = big := fun x hx => by rw [h.buf, if_pos hx]
  have hout : ∀ x, x ∉ S → B x = D x := fun x hx => by rw [h.buf, if_neg hx]
  -- a lane with a point left gives one up
  have hgive : ∀ l y, ln y = l → y ∉ S → ∃ x ∈ M, ln x = l := fun l y hy hyS => by
    obtain ⟨x, hx, hBx, hNx⟩ := hl.at_point l
    refine ⟨x, (memM x).2 ⟨fun hxS => ?_, by rw [hx, hBx], by rw [hx, hNx]⟩, hx⟩
    have h1 := hl.le y
    rw [hy, ← hBx, hin x hxS, hout y hyS] at h1
    exact absurd (hbig y) (not_lt.2 h1)
  have hbuf : ∀ x, B' x = if x ∈ S ∪ M then big else D x := fun x => by
    rw [hB' x]
    by_cases hx : x ∈ S
    · rw [if_pos (Finset.mem_union_left _ hx), hin x hx, ite_self]
    · by_cases hm : x ∈ M
      · rw [if_pos (Finset.mem_union_right _ hm), if_pos ((memM x).1 hm).2]
      · rw [if_neg (fun e => hm ((memM x).2 ⟨hx, e⟩)), if_neg (by rw [Finset.mem_union]; tauto), hout x hx]
  have hmany : ∀ l, r + 1 ≤ ((S ∪ M).filter fun x => ln x = l).card ∨ ∀ x, ln x = l → x ∈ S ∪ M := fun l => by
    by_cases hall : ∀ x, ln x = l → x ∈ S
    · exact .inr fun x hx => Finset.mem_union_left _ (hall x hx)
    · push Not at hall
      obtain ⟨y, hy, hyS⟩ := hall
      obtain ⟨x, hxM, hx⟩ := hgive l y hy hyS
      have hr := (h.many l).resolve_right fun hall => hyS (hall y hy)
      left
      have hsub : insert x (S.filter fun x => ln x = l) ⊆ (S ∪ M).filter fun x => ln x = l := fun z hz => by
        rcases Finset.mem_insert.1 hz with rfl | hz
        · exact Finset.mem_filter.2 ⟨Finset.mem_union_right _ hxM, hx⟩
        · exact Finset.mem_filter.2 ⟨Finset.mem_union_left _ (Finset.mem_filter.1 hz).1, (Finset.mem_filter.1 hz).2⟩
      have hc := Finset.card_le_card hsub
      rw [Finset.card_insert_of_notMem (fun hz => ((memM x).1 hxM).1 (Finset.mem_filter.1 hz).1)] at hc
      omega
  -- the candidates hold the old best and the lanes' first
  have hrep : ∀ A : Finset (Fin n), (∀ j, bv j = big ∨ ∃ t ∈ A, bv j = D t ∧ bn j = num t.val) →
      (∀ t ∈ A, ∃ j, bv j = D t ∧ bn j = num t.val) → Rep big D cv cn (A ∪ M) := fun A hA1 hA2 => by
    refine ⟨fun i => ?_, fun t ht => ?_⟩
    · rcases hc.cases i with ⟨j, e1, e2⟩ | ⟨l, e1, e2⟩
      · rw [e1, e2]
        exact (hA1 j).imp_right fun ⟨t, ht, e⟩ => ⟨t, Finset.mem_union_left _ ht, e⟩
      · obtain ⟨x, hx, hBx, hNx⟩ := hl.at_point l
        rw [e1, e2, ← hBx, hNx]
        by_cases hxS : x ∈ S
        · exact .inl (hin x hxS)
        · exact .inr ⟨x, Finset.mem_union_right _ ((memM x).2 ⟨hxS, by rw [hx, hBx], by rw [hx, hNx]⟩), hout x hxS, rfl⟩
    · rcases Finset.mem_union.1 ht with ht | ht
      · obtain ⟨j, e1, e2⟩ := hA2 t ht
        obtain ⟨i, e3, e4⟩ := hc.best j
        exact ⟨i, e3.trans e1, e4.trans e2⟩
      · obtain ⟨htS, e1, e2⟩ := (memM t).1 ht
        obtain ⟨i, e3, e4⟩ := hc.lane (ln t)
        exact ⟨i, e3.trans (e1.symm.trans (hout t htS)), e4.trans e2.symm⟩
  have hvals : ∀ b : Fin 32 → Fin n, (∀ j : Fin 32, low ((nxt big bign cn)^[j.val] cv) = D (b j)
      ∧ sel bign cn ((nxt big bign cn)^[j.val] cv) = num (b j).val) → ∀ j, bv' j = D (b j) ∧ bn' j = num (b j).val :=
    fun b hb j => ⟨(hv' j).trans (hb j).1, (hn' j).trans (hb j).2⟩
  rcases h.best with ⟨rfl, hbv⟩ | ⟨a, ha, hbest⟩
  · -- the first round
    have hM : 32 ≤ M.card := by
      have hsub : (Finset.univ : Finset lanes) ⊆ M.image ln := fun l _ => by
        obtain ⟨y, hy, -, -⟩ := hl.at_point l
        obtain ⟨x, hxM, hx⟩ := hgive l y hy (Finset.notMem_empty y)
        exact Finset.mem_image.2 ⟨x, hxM, hx⟩
      have := (Finset.card_le_card hsub).trans Finset.card_image_le
      rw [Finset.card_univ] at this
      omega
    have hr := hrep ∅ (fun j => .inl (hbv j)) fun t ht => absurd ht (Finset.notMem_empty t)
    obtain ⟨b, hb, hbj⟩ := Rep.choices big bign D hbig hbign 32 cv _ hr (by rw [Finset.empty_union]; exact hM)
    refine ⟨⟨∅ ∪ M, hbuf, hmany, .inr ⟨b, hb, hvals b hbj⟩⟩, fun hover => ?_⟩
    exfalso
    obtain ⟨wv, wn, -, ⟨j, hj⟩, -, hlt⟩ := hover
    have hwv : wv = big := hj.symm.trans (hbv j)
    obtain ⟨l⟩ : Nonempty lanes := Fintype.card_pos_iff.1 (by omega)
    obtain ⟨x, hx, hBx, -⟩ := hl.at_point l
    have : low L < big := (low_le L l).trans_lt (by rw [← hBx, hout x (Finset.notMem_empty x)]; exact hbig x)
    rw [hwv] at hlt
    rcases hlt with hlt | ⟨e, -⟩
    · exact lt_asymm hlt this
    · exact this.ne e
  · -- a later one
    have hr := hrep (Finset.univ.image a) (fun j => .inr ⟨a j, Finset.mem_image_of_mem a (Finset.mem_univ j), hbest j⟩) fun t ht => by
      obtain ⟨j, -, rfl⟩ := Finset.mem_image.1 ht
      exact ⟨j, hbest j⟩
    obtain ⟨b, hb, hbj⟩ := Rep.choices big bign D hbig hbign 32 cv _ hr (by
      refine le_trans (le_of_eq ?_) (Finset.card_le_card (Finset.subset_union_left (s₁ := Finset.univ.image a) (s₂ := M)))
      rw [Finset.card_image_of_injective _ (First.injective D ha), Finset.card_univ, Fintype.card_fin])
    have hb' : First D (S ∪ M) b := First.union D ha hb
    refine ⟨⟨S ∪ M, hbuf, hmany, .inr ⟨b, hb', hvals b hbj⟩⟩, fun hover => ?_⟩
    obtain ⟨wv, wn, hle, -, hlen, hlt⟩ := hover
    have hafter : ∀ u, u ∉ S → ∀ j, key D (a j) < key D u := fun u hu j => by
      rw [key_lt]
      have hLu : L (ln u) ≤ D u := (hout u hu) ▸ hl.le u
      have hlowu : low L ≤ D u := (low_le L _).trans hLu
      have hj : D (a j) ≤ wv := (hbest j).1 ▸ hle j
      rcases hlt with hlt | ⟨e, hlt⟩
      · exact .inl (hj.trans_lt (hlt.trans_le hlowu))
      · rcases (hj.trans (e ▸ hlowu)).lt_or_eq with h1 | h1
        · exact .inl h1
        · refine .inr ⟨h1, ?_⟩
          have hwj : bv j = wv := (hbest j).1.trans (le_antisymm hj (h1 ▸ e ▸ hlowu))
          have hLeq : L (ln u) = low L := le_antisymm (hLu.trans (h1 ▸ (hj.trans e.ge))) (low_le L _)
          have hBu : B u = L (ln u) := by
            rw [hout u hu, hLeq, e, ← h1]; exact (hbest j).1.symm.trans hwj
          have hsel : sel bign N L ≤ num u.val :=
            (low_le _ (ln u)).trans (by rw [if_pos hLeq]; exact hl.le_num u hBu)
          have := (hlen j hwj).trans_lt (hlt.trans_le hsel)
          rw [(hbest j).2] at this
          exact num_lt.1 this
    refine ⟨a, First.all D ha hafter, fun j => ?_⟩
    rw [(hvals b hbj j).2, IsNth.unique D (hb' j) (First.restrict D ha Finset.subset_union_left hafter j)]

omit hbig hbign in
/-- Once every lane must be empty, the best are the first of all. -/
theorem Inv.empty {r : ℕ} {S : Finset (Fin n)} {B : Fin n → EReal} {bv bn : Fin 32 → EReal} (h : Inv big D ln r S B bv bn)
    (hr : ∀ l, (Finset.univ.filter fun x => ln x = l).card < r) (h0 : 0 < n) :
    ∃ b : Fin 32 → Fin n, First D Finset.univ b ∧ ∀ j, bn j = num (b j).val := by
  have hS : S = Finset.univ := Finset.eq_univ_iff_forall.2 fun x => by
    rcases h.many (ln x) with hm | hm
    · exact absurd (hm.trans (Finset.card_le_card (Finset.filter_subset_filter _ (Finset.subset_univ S)))) (not_le.2 (hr _))
    · exact hm x rfl
  rcases h.best with ⟨he, -⟩ | ⟨a, ha, hb⟩
  · exact absurd (hS.symm.trans he) (Finset.Nonempty.ne_empty ⟨⟨0, h0⟩, Finset.mem_univ _⟩)
  · exact ⟨a, hS ▸ ha, fun j => (hb j).2⟩

end Cert.Knn

end
-- ==== Proof.KnnPay.lean ====
/-
  One round of the neighbour search read row by row over the extended reals: the lanes' first points, the candidates,
  the choices, the buffer after the round, and the test that ends the rounds.
-/
module

public import proofs.«01_k».proof.Proof.KnnBodyIdeal
public import proofs.«01_k».proof.Proof.KnnRow
public import proofs.«01_k».proof.Proof.FpsModel
public import Idealize.ShloMosaic.Lib.Pipeline.ValueKit

@[expose] public section

set_option maxRecDepth 16384

noncomputable section

namespace Cert.Kernel3Ideal.Knn

open Idealize.ShloMosaic Idealize.ShloMosaic.TcCoe Idealize.ShloMosaic.Tactic
open Cert.Kernel3Ideal Cert.Kernel3Ideal.Gen
open Cert.Knn
open Cert.Fps (float_bit low_eq high_eq)

/-- The value that stands for a distance taken out. -/
def big : EReal := Ideal.ofBits .f32 0x7F61B1E6#32
/-- The value that stands for no number. -/
def bign : EReal := Ideal.ofBits .f32 0x4E6E6B28#32

theorem bign_eq : bign = num 1000000000 := by
  simp [bign, num, Ideal.ofBits, Ideal.ieee, -EReal.coe_mul]; norm_num

theorem num_lt_bign (t : Fin 4096) : num t.val < bign := by
  rw [bign_eq, num_lt]; omega

/-- The groups' first columns as numbers. -/
theorem grp_num : ∀ p ∈ groups, Ideal.ofBits .f32 p.b = num p.o := by
  simp only [groups, List.forall_mem_cons, List.not_mem_nil, false_implies, implies_true, and_true]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals simp [num, Ideal.ofBits, Ideal.ieee, -EReal.coe_mul]
  all_goals norm_num

theorem grp_mod (p : Grp) (h : p ∈ groups) : p.o % 128 = 0 := by
  have : p.o ∈ groups.map (·.o) := List.mem_map.2 ⟨p, h, rfl⟩
  rw [groups_o] at this
  obtain ⟨g, -, hg⟩ := List.mem_map.1 this
  omega

theorem one_sub_one : (1 : EReal) - 1 = 0 := by
  rw [← EReal.coe_one, ← EReal.coe_sub, sub_self, EReal.coe_zero]

theorem mix_bit (p : Prop) [Decidable p] (a b : EReal) :
    a * (1 - (if p then 1 else 0)) + b * (if p then 1 else 0) = if p then b else a := by
  split
  · rw [one_sub_one, mul_zero, mul_one, zero_add]
  · rw [sub_zero, mul_one, mul_zero, add_zero]

theorem pick_bit (p : Prop) [Decidable p] (a b : EReal) :
    a * (if p then 1 else 0) + b * (1 - (if p then 1 else 0)) = if p then a else b := by
  split
  · rw [one_sub_one, mul_zero, mul_one, add_zero]
  · rw [sub_zero, mul_one, mul_zero, zero_add]

theorem andi_bit (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

/-! ## The lanes -/

/-- The lane of a point. -/
def ln (x : Fin 4096) : Fin 128 := ⟨x.val % 128, Nat.mod_lt _ (by decide)⟩

theorem grp_apply (D : FVec Ideal S256x4096 .f32) (p : Grp) (r : Fin 256) (l : Fin 128) (x : Fin 4096) (hx : x.val = p.o + l.val) :
    grp D p (ix2 r l) = D (ix2 r x) := by
  pointwise [grp]
  exact congrArg (fun y => D (ix2 r y)) (Fin.ext hx.symm)

/-- A point's group. -/
theorem exists_grp_of (x : Fin 4096) : ∃ p ∈ groups, x.val = p.o + (ln x).val := by
  obtain ⟨p, hp, ho⟩ := exists_grp (x.val / 128) (by omega)
  exact ⟨p, hp, by show x.val = p.o + x.val % 128; omega⟩

/-- A group's point on a lane. -/
theorem exists_point (p : Grp) (hp : p ∈ groups) (l : Fin 128) : ∃ x : Fin 4096, x.val = p.o + l.val ∧ ln x = l := by
  have h : p.o + 128 ≤ 4096 := p.inb 1
  have hm := grp_mod p hp
  exact ⟨⟨p.o + l.val, by omega⟩, rfl, Fin.ext (by show (p.o + l.val) % 128 = l.val; omega)⟩

theorem foldl_min_apply (f : Grp → FVec Ideal S256x128 .f32) (i : S256x128.Idx) : ∀ (L : List Grp) (a : FVec Ideal S256x128 .f32),
    (L.foldl (fun a p => minimumf a (f p)) a) i = L.foldl (fun x p => min x (f p i)) (a i)
  | [], _ => rfl
  | p :: L, a => by
    rw [List.foldl_cons, foldl_min_apply f i L, List.foldl_cons]; rfl

theorem foldl_min_le_start (f : Grp → EReal) : ∀ (L : List Grp) (a : EReal), L.foldl (fun x p => min x (f p)) a ≤ a
  | [], _ => le_rfl
  | p :: L, a => (foldl_min_le_start f L _).trans (min_le_left _ _)

theorem foldl_min_le (f : Grp → EReal) : ∀ (L : List Grp) (a : EReal), ∀ p ∈ L, L.foldl (fun x p => min x (f p)) a ≤ f p
  | q :: L, a, p, h => by
    rw [List.foldl_cons]
    rcases List.mem_cons.1 h with rfl | h
    · exact (foldl_min_le_start f L _).trans (min_le_right _ _)
    · exact foldl_min_le f L _ p h

theorem foldl_min_mem (f : Grp → EReal) : ∀ (L : List Grp) (a : EReal),
    L.foldl (fun x p => min x (f p)) a = a ∨ ∃ p ∈ L, L.foldl (fun x p => min x (f p)) a = f p
  | [], _ => .inl rfl
  | q :: L, a => by
    rw [List.foldl_cons]
    rcases foldl_min_mem f L (min a (f q)) with h | ⟨p, hp, h⟩
    · rcases min_choice a (f q) with e | e
      · exact .inl (h.trans e)
      · exact .inr ⟨q, List.mem_cons_self, h.trans e⟩
    · exact .inr ⟨p, List.mem_cons_of_mem _ hp, h⟩

section
variable (n : FVec Ideal S1x128 .f32) (hn : ∀ l, n (ix2 0 l) = num l.val) (D : FVec Ideal S256x4096 .f32) (r : Fin 256)

theorem lmin_le (p : Grp) (hp : p ∈ groups) (l : Fin 128) : lmin D (ix2 r l) ≤ grp D p (ix2 r l) := by
  unfold lmin
  rw [foldl_min_apply (grp D)]
  rcases List.mem_cons.1 (show p ∈ (⟨0, inb_S256x4096_S256x128_0_0, 0x00000000#32⟩ : Grp) :: groups.tail from hp) with rfl | h
  · exact foldl_min_le_start _ _ _
  · exact foldl_min_le _ _ _ p h

theorem lmin_mem (l : Fin 128) : ∃ p ∈ groups, lmin D (ix2 r l) = grp D p (ix2 r l) := by
  unfold lmin
  rw [foldl_min_apply (grp D)]
  rcases foldl_min_mem (fun p => grp D p (ix2 r l)) groups.tail (grp D ⟨0, inb_S256x4096_S256x128_0_0, 0x00000000#32⟩ (ix2 r l)) with h | ⟨p, hp, h⟩
  · exact ⟨_, List.mem_cons_self, h⟩
  · exact ⟨p, List.mem_of_mem_tail hp, h⟩

include hn in
theorem nums_apply (p : Grp) (hp : p ∈ groups) (l : Fin 128) (x : Fin 4096) (hx : x.val = p.o + l.val) :
    nums n p.b (ix2 r l) = num x.val := by
  pointwise [nums]
  rw [hn, grp_num p hp, hx]
  unfold num
  rw [← EReal.coe_add]
  push_cast
  rw [add_comm]

/-- A group's number at a lane, if the distance is the given one. -/
def cho (L : FVec Ideal S256x128 .f32) (l : Fin 128) (p : Grp) : EReal :=
  if grp D p (ix2 r l) = L (ix2 r l) then nums n p.b (ix2 r l) else bign

theorem nmin_apply (L : FVec Ideal S256x128 .f32) (l : Fin 128) :
    nmin n D L (ix2 r l) = groups.foldl (fun x p => min x (cho n D r L l p)) bign := by
  unfold nmin
  rw [foldl_min_apply fun p => pick (nums n p.b) (ind (cmpf .oeq (grp D p) L)) 0x4E6E6B28#32]
  have : (fun (x : EReal) (p : Grp) => min x (pick (nums n p.b) (ind (cmpf .oeq (grp D p) L)) 0x4E6E6B28#32 (ix2 r l)))
      = fun x p => min x (cho n D r L l p) := by
    funext x p
    refine congrArg (min x) ?_
    unfold cho
    generalize nums n p.b = a
    generalize grp D p = g
    pointwise [pick, ind]
    rw [float_bit]
    exact pick_bit (g (ix2 r l) = L (ix2 r l)) _ _
  rw [this]
  rfl

include hn in
/-- The lanes' smallest distances and numbers are the first points'. -/
theorem least : Least ln (fun x => D (ix2 r x)) (fun l => lmin D (ix2 r l)) (fun l => nmin n D (lmin D) (ix2 r l)) where
  le x := by
    obtain ⟨p, hp, hx⟩ := exists_grp_of x
    exact (lmin_le D r p hp (ln x)).trans_eq (grp_apply D p r (ln x) x hx)
  le_num x h := by
    obtain ⟨p, hp, hx⟩ := exists_grp_of x
    rw [nmin_apply]
    refine (foldl_min_le _ _ _ p hp).trans_eq ?_
    unfold cho
    rw [grp_apply D p r (ln x) x hx, if_pos h, nums_apply n hn r p hp _ x hx]
  at_point l := by
    obtain ⟨q, hq, hL⟩ := lmin_mem D r l
    obtain ⟨y, hy, -⟩ := exists_point q hq l
    have hle : nmin n D (lmin D) (ix2 r l) < bign := by
      rw [nmin_apply]
      refine (foldl_min_le _ _ _ q hq).trans_lt ?_
      unfold cho
      rw [if_pos hL.symm, nums_apply n hn r q hq _ y hy]
      exact num_lt_bign y
    rcases foldl_min_mem (cho n D r (lmin D) l) groups bign with h | ⟨p, hp, h⟩
    · rw [nmin_apply, h] at hle; exact absurd hle (lt_irrefl _)
    · obtain ⟨x, hx, hl⟩ := exists_point p hp l
      refine ⟨x, hl, ?_⟩
      rw [nmin_apply, h] at hle
      simp only [nmin_apply]
      rw [h]
      unfold cho at hle ⊢
      split at hle
      · rename_i e
        rw [if_pos e, nums_apply n hn r p hp _ x hx]
        exact ⟨(grp_apply D p r l x hx).symm.trans e, rfl⟩
      · exact absurd hle (lt_irrefl _)
end

end Cert.Kernel3Ideal.Knn

end
-- ==== Proof.KnnStep.lean ====
/-
  One round of the neighbour search is a round of each row: the buffer after it, the candidates and the 32 choices,
  and the test that ends the rounds.
-/
module

public import proofs.«01_k».proof.Proof.KnnPay

@[expose] public section

set_option maxRecDepth 16384

noncomputable section

namespace Cert.Kernel3Ideal.Knn

open Idealize.ShloMosaic Idealize.ShloMosaic.TcCoe Idealize.ShloMosaic.Tactic
open Cert.Kernel3Ideal Cert.Kernel3Ideal.Gen
open Cert.Knn
open Cert.Fps (float_bit low_eq high_eq)

section
variable (n : FVec Ideal S1x128 .f32) (hn : ∀ l, n (ix2 0 l) = num l.val) (D : FVec Ideal S256x4096 .f32) (r : Fin 256)
  (L N : FVec Ideal S256x128 .f32)

theorem kill_apply (b : BitVec 32) (d : FVec Ideal S256x128 .f32) (l : Fin 128) : kill n L N b d (ix2 r l)
    = if d (ix2 r l) = L (ix2 r l) ∧ nums n b (ix2 r l) = N (ix2 r l) then big else d (ix2 r l) := by
  unfold kill
  generalize nums n b = a
  pointwise [mix, ind]
  rw [andi_bit, float_bit]
  exact mix_bit (d (ix2 r l) = L (ix2 r l) ∧ a (ix2 r l) = N (ix2 r l)) _ _

include hn in
/-- The buffer after a round. -/
theorem nextD_apply (x : Fin 4096) : nextD n L N D (ix2 r x)
    = if D (ix2 r x) = L (ix2 r (ln x)) ∧ num x.val = N (ix2 r (ln x)) then big else D (ix2 r x) := by
  let G : S256x4096.Idx → Elt Ideal .f32 := fun y =>
    if D y = L (ix2 (y 0) (ln (y 1))) ∧ num (y 1).val = N (ix2 (y 0) (ln (y 1))) then big else D y
  refine View.canon_apply_of_pieces G (pieces n L N D) (fun q hq x => ?_) (ix2 r x) (pieces_cover n L N D _)
  obtain ⟨p, hp, rfl⟩ := (mem_pieces n L N D q).1 hq
  have key : ∀ (r' : Fin 256) (l : Fin 128), kill n L N p.b (grp D p) (ix2 r' l) = G (p.rect.emb (ix2 r' l)) := fun r' l => by
    obtain ⟨y, hy, hl⟩ := exists_point p hp l
    have he : p.rect.emb (ix2 r' l) = ix2 r' y := by
      funext a
      match a with
      | ⟨0, _⟩ => exact Fin.ext (by show 0 + 1 * r'.val = r'.val; omega)
      | ⟨1, _⟩ => exact Fin.ext (by show p.o + 1 * l.val = y.val; omega)
    rw [he, kill_apply, grp_apply D p _ _ y hy, nums_apply n hn _ p hp _ y hy]
    show _ = if D (ix2 r' y) = L (ix2 r' (ln y)) ∧ num y.val = N (ix2 r' (ln y)) then big else D (ix2 r' y)
    rw [hl]
  have key' : ∀ z : S256x128.Idx, kill n L N p.b (grp D p) z = G (p.rect.emb z) := fun z => by
    have hz : z = ix2 (z 0) (z 1) := by funext a; match a with | ⟨0, _⟩ => rfl | ⟨1, _⟩ => rfl
    rw [hz]; exact key _ _
  exact key' x
end

section
variable (cn v : FVec Ideal S256x160 .f32) (r : Fin 256)

/-- A row of the candidates. -/
abbrev rowOf (v : FVec Ideal S256x160 .f32) (r : Fin 256) : Fin 160 → EReal := fun i => v (ix2 r i)

theorem rmin_apply : rmin v (ix2 r 0) = low (rowOf v r) := by
  pointwise [rmin]
  rw [high_eq]
  rfl

theorem eqm_apply (i : Fin 160) : eqm v (ix2 r i) = if v (ix2 r i) = low (rowOf v r) then 1 else 0 := by
  rw [← rmin_apply]
  pointwise [eqm, ind]
  exact float_bit _

theorem nsel_apply : nsel cn v (ix2 r 0) = sel bign (rowOf cn r) (rowOf v r) := by
  unfold nsel
  rw [rmin_apply]
  refine congrArg low (funext fun i => ?_)
  show pick cn (eqm v) 0x4E6E6B28#32 (ix2 r i) = _
  have h := eqm_apply v r i
  generalize eqm v = e at h ⊢
  pointwise [pick]
  rw [h]
  exact pick_bit (v (ix2 r i) = low (rowOf v r)) _ _

theorem nextv_apply : rowOf (nextv cn v) r = nxt big bign (rowOf cn r) (rowOf v r) := by
  funext i
  show nextv cn v (ix2 r i) = _
  unfold nextv
  have h := eqm_apply v r i
  have hs := nsel_apply cn v r
  generalize eqm v = e at h ⊢
  generalize nsel cn v = s at hs ⊢
  pointwise [mix, ind]
  rw [h, hs, float_bit, show ∀ (p q : Prop) [Decidable p] [Decidable q], (if p then (1 : EReal) else 0) * (if q then 1 else 0) = if p ∧ q then 1 else 0 from
    fun p q _ _ => by by_cases hp : p <;> by_cases hq : q <;> simp [hp, hq]]
  exact mix_bit (v (ix2 r i) = low (rowOf v r) ∧ cn (ix2 r i) = sel bign (rowOf cn r) (rowOf v r)) _ _

theorem chosen_apply : ∀ j, rowOf (chosen cn v j) r = (nxt big bign (rowOf cn r))^[j] (rowOf v r)
  | 0 => rfl
  | j + 1 => by
    rw [Function.iterate_succ_apply', ← chosen_apply j]
    exact nextv_apply cn _ r
end

theorem cols_apply (g : ℕ → FVec Ideal S256x1 .f32) (r : Fin 256) (j : Fin 32) : cols g (ix2 r j) = g j.val (ix2 r 0) := by
  have : cols g = concatenate S256x32 1 (List.ofFn fun k : Fin 32 => (⟨S256x1, g k.val⟩ : (s : Shape) × (s.Idx → EReal)))
      (by exact (by decide : Shape.Concatenates (List.replicate 32 S256x1) S256x32 1)) := rfl
  rw [this]
  refine concatenate_ofFn_unit_apply (t := S256x32) (s₁ := S256x1) 1 (fun k : Fin 32 => g k.val) _ rfl rfl (ix2 r j) j rfl (ix2 r 0) fun b hb => ?_
  match b with
  | ⟨0, _⟩ => rfl
  | ⟨1, _⟩ => exact absurd rfl hb

theorem bestV_apply (cv cn : FVec Ideal S256x160 .f32) (r : Fin 256) (j : Fin 32) :
    bestV cv cn (ix2 r j) = low ((nxt big bign (rowOf cn r))^[j.val] (rowOf cv r)) := by
  unfold bestV
  rw [cols_apply, rmin_apply, chosen_apply]

theorem bestN_apply (cv cn : FVec Ideal S256x160 .f32) (r : Fin 256) (j : Fin 32) :
    bestN cv cn (ix2 r j) = sel bign (rowOf cn r) ((nxt big bign (rowOf cn r))^[j.val] (rowOf cv r)) := by
  unfold bestN
  rw [cols_apply, nsel_apply, chosen_apply]

theorem cand_left (b : FVec Ideal S256x32 .f32) (l : FVec Ideal S256x128 .f32) (r : Fin 256) (j : Fin 32) (i : Fin 160)
    (h : i.val = j.val) : cand b l (ix2 r i) = b (ix2 r j) := by
  pointwise [cand]
  rw [dif_pos (by omega)]
  exact congrArg (fun y => b (ix2 r y)) (Fin.ext h)

theorem cand_right (b : FVec Ideal S256x32 .f32) (l : FVec Ideal S256x128 .f32) (r : Fin 256) (j : Fin 128) (i : Fin 160)
    (h : i.val = 32 + j.val) : cand b l (ix2 r i) = l (ix2 r j) := by
  pointwise [cand]
  rw [dif_neg (by omega)]
  exact congrArg (fun y => l (ix2 r y)) (Fin.ext (by show i.val - 32 = j.val; omega))

/-- The candidates are the best and the lanes' first. -/
theorem both (bv bn : FVec Ideal S256x32 .f32) (L N : FVec Ideal S256x128 .f32) (r : Fin 256) :
    Both (fun j => bv (ix2 r j)) (fun j => bn (ix2 r j)) (fun l => L (ix2 r l)) (fun l => N (ix2 r l))
      (rowOf (cand bv L) r) (rowOf (cand bn N) r) where
  cases i := by
    by_cases h : i.val < 32
    · exact .inl ⟨⟨i.val, h⟩, cand_left _ _ _ _ _ rfl, cand_left _ _ _ _ _ rfl⟩
    · exact .inr ⟨⟨i.val - 32, by omega⟩, cand_right _ _ _ _ _ (by show i.val = 32 + (i.val - 32); omega),
        cand_right _ _ _ _ _ (by show i.val = 32 + (i.val - 32); omega)⟩
  best j := ⟨⟨j.val, by omega⟩, cand_left _ _ _ _ _ rfl, cand_left _ _ _ _ _ rfl⟩
  lane l := ⟨⟨32 + l.val, by omega⟩, cand_right _ _ _ _ _ rfl, cand_right _ _ _ _ _ rfl⟩

/-! ## The test -/

section
variable (bv bn : FVec Ideal S256x32 .f32) (L N : FVec Ideal S256x128 .f32) (r : Fin 256)

theorem lrow_apply : lrow L (ix2 r 0) = low fun l => L (ix2 r l) := by
  pointwise [lrow]
  rw [high_eq]
  rfl

theorem brow_apply : brow bv (ix2 r 0) = Finset.univ.sup fun j => bv (ix2 r j) := by
  pointwise [brow]
  rw [low_eq]
  rfl

theorem lfirst_apply : lfirst L N (ix2 r 0) = sel bign (fun l => N (ix2 r l)) (fun l => L (ix2 r l)) := by
  unfold lfirst
  rw [lrow_apply]
  refine congrArg low (funext fun l => ?_)
  have h := lrow_apply L r
  generalize lrow L = e at h ⊢
  pointwise [pick, ind]
  rw [h, float_bit]
  exact pick_bit (L (ix2 r l) = low fun l => L (ix2 r l)) _ _

theorem le_blast (j : Fin 32) (h : bv (ix2 r j) = Finset.univ.sup fun j => bv (ix2 r j)) : bn (ix2 r j) ≤ blast bv bn (ix2 r 0) := by
  unfold blast
  rw [brow_apply]
  refine le_trans (le_of_eq ?_) (Finset.le_sup (f := fun j => _) (Finset.mem_univ j))
  have hb := brow_apply bv r
  generalize brow bv = e at hb ⊢
  pointwise [ind]
  rw [hb, float_bit, if_pos h, mul_one, one_sub_one, sub_zero]

theorem over_of_rowDone (h : rowDone bv bn L N (ix2 r 0) = 1#1) :
    Over bign (fun j => bv (ix2 r j)) (fun j => bn (ix2 r j)) (fun l => L (ix2 r l)) (fun l => N (ix2 r l)) := by
  refine ⟨Finset.univ.sup fun j => bv (ix2 r j), blast bv bn (ix2 r 0), fun j => Finset.le_sup (f := fun j => bv (ix2 r j)) (Finset.mem_univ j), ?_,
    fun j hj => le_blast bv bn r j hj, ?_⟩
  · obtain ⟨j, -, hj⟩ := Finset.exists_mem_eq_sup Finset.univ ⟨(0 : Fin 32), Finset.mem_univ _⟩ fun j => bv (ix2 r j)
    exact ⟨j, hj.symm⟩
  · have h1 := lrow_apply L r
    have h2 := brow_apply bv r
    have h3 := lfirst_apply L N r
    unfold rowDone at h
    generalize lrow L = e1 at h1 h
    generalize brow bv = e2 at h2 h
    generalize lfirst L N = e3 at h3 h
    generalize blast bv bn = e4 at h ⊢
    pointwise at h
    rw [h1, h2, h3, andi_bit] at h
    by_cases hp : (Finset.univ.sup fun j => bv (ix2 r j)) < low fun l => L (ix2 r l)
    · exact .inl hp
    · right
      rw [decide_eq_false hp] at h
      by_contra hq
      rw [decide_eq_false hq] at h
      exact absurd h (by decide)
end

theorem of_bit {p : Prop} [Decidable p] (h : BitVec.ofBool (decide p) = 1#1) : p := by
  by_contra hc
  rw [decide_eq_false hc] at h
  exact absurd h (by decide)

/-- The rounds end only when every row is done. -/
theorem rowDone_of_allDone (bv bn : FVec Ideal S256x32 .f32) (L N : FVec Ideal S256x128 .f32) (h : allDone bv bn L N = 1#1) (r : Fin 256) :
    rowDone bv bn L N (ix2 r 0) = 1#1 := by
  unfold allDone at h
  generalize rowDone bv bn L N = d at h ⊢
  pointwise [k0_pay47] at h
  have hr := ((Finset.lt_fold_min _).1 (of_bit h)).2 ⟨r, 0⟩ (Finset.mem_univ _)
  by_contra hd
  exact absurd (hr.trans_eq (if_neg hd)) (lt_irrefl _)

end Cert.Kernel3Ideal.Knn

end
-- ==== Proof.KnnLoop.lean ====
/-
  The rounds of the neighbour search end with the 32 nearest points of each row: while they run the best are the first of
  the points taken out; they end when nothing left comes before the last best, or when every point is taken out.
-/
module

public import proofs.«01_k».proof.Proof.KnnStep

@[expose] public section

set_option maxRecDepth 16384

noncomputable section

namespace Cert.Kernel3Ideal.Knn

open Idealize.ShloMosaic Idealize.ShloMosaic.TcCoe Idealize.ShloMosaic.Tactic
open Cert.Kernel3Ideal Cert.Kernel3Ideal.Gen
open Cert.Knn

/-- The distances of the rows' points. -/
abbrev Dist := Fin 256 → Fin 4096 → EReal

/-- What holds after `k` rounds. -/
def Going (d : Dist) (k : ℕ) (s : St Ideal) : Prop :=
  ∀ r, ∃ S, Inv big (d r) ln k S (fun x => s.D (ix2 r x)) (fun j => s.bv (ix2 r j)) (fun j => s.bn (ix2 r j))

/-- The numbers are the nearest points', in order. -/
def Found (d : Dist) (s : St Ideal) : Prop :=
  ∀ r, ∃ b : Fin 32 → Fin 4096, First (d r) Finset.univ b ∧ ∀ j, s.bn (ix2 r j) = num (b j).val

variable (n : FVec Ideal S1x128 .f32) (hn : ∀ l, n (ix2 0 l) = num l.val) (d : Dist) (hd : ∀ r x, d r x < big)

include hn hd in
theorem going_step (k : ℕ) (s : St Ideal) (h : Going d k s) :
    Going d (k + 1) (step n s) ∧ ((step n s).done = 1#1 → Found d (step n s)) := by
  have key : ∀ r, (∃ S', Inv big (d r) ln (k + 1) S' (fun x => (step n s).D (ix2 r x)) (fun j => (step n s).bv (ix2 r j)) (fun j => (step n s).bn (ix2 r j)))
      ∧ (Over bign (fun j => s.bv (ix2 r j)) (fun j => s.bn (ix2 r j)) (fun l => lmin s.D (ix2 r l)) (fun l => nmin n s.D (lmin s.D) (ix2 r l))
        → ∃ b : Fin 32 → Fin 4096, First (d r) Finset.univ b ∧ ∀ j, (step n s).bn (ix2 r j) = num (b j).val) := fun r => by
    obtain ⟨S, hS⟩ := h r
    exact Inv.round big bign (d r) ln (hd r) num_lt_bign hS (least n hn s.D r) (both s.bv s.bn (lmin s.D) (nmin n s.D (lmin s.D)) r) (by decide)
      (fun x => nextD_apply n hn s.D r (lmin s.D) (nmin n s.D (lmin s.D)) x) (fun j => bestV_apply _ _ r j) (fun j => bestN_apply _ _ r j)
  exact ⟨fun r => (key r).1, fun hdone r => (key r).2 (over_of_rowDone _ _ _ _ r (rowDone_of_allDone _ _ _ _ hdone r))⟩

/-- A lane has 32 points. -/
theorem lane_card (l : Fin 128) : (Finset.univ.filter fun x : Fin 4096 => ln x = l).card < 40 := by
  refine lt_of_le_of_lt (Finset.card_le_card_of_injOn (t := Finset.range 32) (fun x => x.val / 128) (fun x _ => ?_) fun x hx y hy e => ?_) (by simp)
  · exact Finset.mem_coe.2 (Finset.mem_range.2 (show x.val / 128 < 32 by omega))
  · have h1 : x.val % 128 = l.val := congrArg Fin.val (Finset.mem_filter.1 hx).2
    have h2 : y.val % 128 = l.val := congrArg Fin.val (Finset.mem_filter.1 hy).2
    have h3 : x.val / 128 = y.val / 128 := e
    exact Fin.ext (by omega)

include hn hd in
theorem go_found : ∀ k r (s : St Ideal), r + k = 40 → Going d r s → (s.done = 1#1 → Found d s) → Found d (go n k s)
  | 0, r, s, hr, h, _ => fun ρ => by
    obtain ⟨S, hS⟩ := h ρ
    exact Inv.empty big (d ρ) ln hS (fun l => by have := lane_card l; omega) (by decide)
  | k + 1, r, s, hr, h, hf => by
    unfold go
    split
    · rename_i e; exact hf e
    · obtain ⟨h1, h2⟩ := going_step n hn d hd r s h
      exact go_found k (r + 1) (step n s) (by omega) h1 h2

include hn hd in
/-- From the distances, the rounds find the nearest points. -/
theorem found (D : FVec Ideal S256x4096 .f32) (hD : ∀ r x, D (ix2 r x) = d r x) :
    Found d (go n 40 ⟨0#1, k0_pay2, k0_pay3, D⟩) := by
  refine go_found n hn d hd 40 0 _ rfl (fun r => ⟨∅, fun x => ?_, fun l => .inl (Nat.zero_le _), .inl ⟨rfl, fun j => rfl⟩⟩) fun h => absurd (show (0#1 : BitVec 1) = 1#1 from h) (by decide)
  rw [if_neg (Finset.notMem_empty x)]
  exact hD r x

end Cert.Kernel3Ideal.Knn

end
-- ==== Proof.KnnSort.lean ====
/-
  A stable sort of points by distance puts the point of rank `j` at place `j`.
-/
module

public import proofs.«01_k».proof.Proof.KnnRank
public import Idealize.ShloMosaic.Lib.SortFacts

@[expose] public section

noncomputable section

namespace Cert.Knn

open Idealize.ShloMosaic

variable {n : ℕ} (D : Fin n → EReal) (bef : Fin n → Fin n → Bool)

/-- A point put into an ordered list of later points leaves it ordered. -/
theorem pairwise_insert (hb : ∀ s t, bef s t = true ↔ D s < D t) (a : Fin n) (l : List (Fin n)) (ha : ∀ t ∈ l, a < t)
    (hl : l.Pairwise fun s t => key D s < key D t) : (insertBefore bef a l).Pairwise fun s t => key D s < key D t := by
  induction l with
  | nil => exact List.pairwise_singleton _ _
  | cons b l ih =>
    obtain ⟨hbl, hl'⟩ := List.pairwise_cons.1 hl
    unfold insertBefore
    split
    · rename_i h
      refine List.pairwise_cons.2 ⟨fun t ht => ?_, ih (fun t ht => ha t (List.mem_cons_of_mem _ ht)) hl'⟩
      rcases List.mem_cons.1 ((perm_insertBefore bef a l).mem_iff.1 ht) with rfl | ht
      · exact (key_lt D _ _).2 (.inl ((hb _ _).1 h))
      · exact hbl t ht
    · rename_i h
      have hab : key D a < key D b := by
        rcases (not_lt.1 fun e => h ((hb b a).2 e)).lt_or_eq with e | e
        · exact (key_lt D _ _).2 (.inl e)
        · exact (key_lt D _ _).2 (.inr ⟨e, ha b List.mem_cons_self⟩)
      refine List.pairwise_cons.2 ⟨fun t ht => ?_, hl⟩
      rcases List.mem_cons.1 ht with rfl | ht
      · exact hab
      · exact hab.trans (hbl t ht)

theorem pairwise_sort (hb : ∀ s t, bef s t = true ↔ D s < D t) (l : List (Fin n)) (hl : l.Pairwise (· < ·)) :
    (stableSort bef l).Pairwise fun s t => key D s < key D t := by
  induction l with
  | nil => exact List.Pairwise.nil
  | cons a l ih =>
    obtain ⟨ha, hl'⟩ := List.pairwise_cons.1 hl
    unfold stableSort
    exact pairwise_insert D bef hb a _ (fun t ht => ha t ((perm_stableSort bef l).mem_iff.1 ht)) (ih hl')

/-- The sorted places are in order. -/
theorem sorted_lt (hb : ∀ s t, bef s t = true ↔ D s < D t) {i j : Fin n} (h : i < j) :
    key D (sortedFrom bef i) < key D (sortedFrom bef j) :=
  List.pairwise_iff_get.1 (pairwise_sort D bef hb (List.finRange n) (List.pairwise_lt_finRange n)) _ _
    (show (i.cast (length_sortPositions n bef).symm) < (j.cast (length_sortPositions n bef).symm) from h)

/-- The point at place `j` has rank `j`. -/
theorem sorted_nth (hb : ∀ s t, bef s t = true ↔ D s < D t) (j : Fin n) : IsNth D Finset.univ j.val (sortedFrom bef j) := by
  refine ⟨Finset.mem_univ _, ?_⟩
  have e : before D Finset.univ (sortedFrom bef j) = (Finset.Iio j).image (sortedFrom bef) := by
    ext s
    rw [mem_before, Finset.mem_image]
    constructor
    · rintro ⟨-, h⟩
      obtain ⟨i, rfl⟩ := sortedFrom_surjective bef s
      refine ⟨i, Finset.mem_Iio.2 (lt_of_not_ge fun hji => ?_), rfl⟩
      rcases hji.lt_or_eq with hji | rfl
      · exact lt_irrefl _ (h.trans (sorted_lt D bef hb hji))
      · exact lt_irrefl _ h
    · rintro ⟨i, hi, rfl⟩
      exact ⟨Finset.mem_univ _, sorted_lt D bef hb (Finset.mem_Iio.1 hi)⟩
  rw [e, Finset.card_image_of_injective _ (sortedFrom_injective bef), Fin.card_Iio]

end Cert.Knn

end
-- ==== Proof.KnnModel.lean ====
/-
  The squared distance the neighbour search ranks points by, written as both programs write it; and its bound for
  coordinates of bounded size; and the 32 nearest points.
-/
module

public import proofs.«01_k».proof.Proof.KnnSelect
public import proofs.«01_k».proof.Proof.KnnSort
public import Idealize.ShloMosaic.Lib.Pointwise

@[expose] public section

noncomputable section

namespace Cert.Knn

open Idealize.ShloMosaic

/-- The bound on the coordinates. -/
def lim : EReal := Ideal.ofBits .f32 0x5D5E0B6B#32
/-- The factor of the mixed term. -/
def mtwo : EReal := Ideal.ofBits .f32 0xC0000000#32

/-- The squared distance of `q` to `p`: the mixed term, the square of `p`, the square of `q`. -/
def sqd (p q : Fin 3 → EReal) : EReal :=
  mtwo * (p 0 * q 0 + p 1 * q 1 + p 2 * q 2) + (p 0 * p 0 + p 1 * p 1 + p 2 * p 2) + (q 0 * q 0 + q 1 * q 1 + q 2 * q 2)

theorem mtwo_eq : mtwo = ((-2 : ℝ) : EReal) := by
  simp [mtwo, Ideal.ofBits, Ideal.ieee, -EReal.coe_mul]; norm_num

theorem lim_eq : lim = ((999999984306749440 : ℝ) : EReal) := by
  simp [lim, Ideal.ofBits, Ideal.ieee, -EReal.coe_mul]; norm_num

/-- A coordinate of bounded size. -/
def Small (x : EReal) : Prop := ∃ a : ℝ, x = (a : EReal) ∧ |a| ≤ 10 ^ 18

theorem small_of_abs {x : EReal} (h : Ideal.cmp .olt (max x (-x)) lim = 1#1) : Small x := by
  have hx : max x (-x) < lim := by
    by_contra hc
    simp [Ideal.cmp, hc] at h
  rw [lim_eq] at hx
  obtain ⟨h1, h2⟩ := max_lt_iff.1 hx
  induction x with
  | bot => simp at h2
  | top => simp at h1
  | coe a =>
    refine ⟨a, rfl, abs_le.2 ⟨?_, ?_⟩⟩
    · rw [← EReal.coe_neg, EReal.coe_lt_coe_iff] at h2
      linarith
    · rw [EReal.coe_lt_coe_iff] at h1
      linarith

/-- One coordinate's part of the distance. -/
theorem part_le {a b : ℝ} (ha : |a| ≤ 10 ^ 18) (hb : |b| ≤ 10 ^ 18) : (a - b) ^ 2 ≤ 4 * 10 ^ 36 := by
  obtain ⟨a1, a2⟩ := abs_le.1 ha
  obtain ⟨b1, b2⟩ := abs_le.1 hb
  have h : |a - b| ≤ 2 * 10 ^ 18 := abs_le.2 ⟨by linarith, by linarith⟩
  calc (a - b) ^ 2 = |a - b| ^ 2 := (sq_abs _).symm
    _ ≤ (2 * 10 ^ 18) ^ 2 := pow_le_pow_left₀ (abs_nonneg _) h 2
    _ = 4 * 10 ^ 36 := by norm_num

/-- Distances of bounded coordinates are bounded. -/
theorem sqd_le {p q : Fin 3 → EReal} (hp : ∀ i, Small (p i)) (hq : ∀ i, Small (q i)) :
    sqd p q ≤ ((12 * 10 ^ 36 : ℝ) : EReal) := by
  obtain ⟨a0, e0, h0⟩ := hp 0
  obtain ⟨a1, e1, h1⟩ := hp 1
  obtain ⟨a2, e2, h2⟩ := hp 2
  obtain ⟨b0, f0, g0⟩ := hq 0
  obtain ⟨b1, f1, g1⟩ := hq 1
  obtain ⟨b2, f2, g2⟩ := hq 2
  unfold sqd
  rw [e0, e1, e2, f0, f1, f2, mtwo_eq]
  simp only [← EReal.coe_mul, ← EReal.coe_add]
  rw [EReal.coe_le_coe_iff]
  have k0 := part_le h0 g0
  have k1 := part_le h1 g1
  have k2 := part_le h2 g2
  nlinarith

/-- The distances of a cloud's points to one of its centres. -/
def gap (X : FVec Ideal ⟨3, ![16, 4096, 3]⟩ .f32) (C : FVec Ideal ⟨3, ![16, 1024, 3]⟩ .f32) (b : Fin 16) (q : Fin 1024) :
    Fin 4096 → EReal :=
  fun x => sqd (fun i => C (ix3 b q i)) (fun i => X (ix3 b x i))

/-- The 32 nearest points, nearest first. -/
def near (D : Fin 4096 → EReal) (j : Fin 32) : Fin 4096 := sortedFrom (fun s t => decide (D s < D t)) (j.castLE (by decide))

theorem near_first (D : Fin 4096 → EReal) : First D Finset.univ (near D) :=
  fun j => sorted_nth D _ (fun _ _ => decide_eq_true_iff) (j.castLE (by decide))

theorem eq_near {D : Fin 4096 → EReal} {b : Fin 32 → Fin 4096} (h : First D Finset.univ b) (j : Fin 32) : b j = near D j :=
  IsNth.unique D (h j) (near_first D j)

end Cert.Knn

end
-- ==== Proof.KnnKernel.lean ====
/-
  The neighbour search's result array: the blocks a grid point reads off the arrays, the distances made of them, and the
  numbers of each centre's 32 nearest points.
-/
module

public import proofs.«01_k».proof.Proof.KnnLoop
public import proofs.«01_k».proof.Proof.KnnModel
public import proofs.«01_k».proof.Proof.KnnRunIdeal

@[expose] public section

set_option maxRecDepth 16384

noncomputable section

namespace Cert.Kernel3Ideal.Knn

open Idealize.ShloMosaic Idealize.ShloMosaic.TcCoe Idealize.ShloMosaic.Tactic
open Cert.Kernel3Ideal Cert.Kernel3Ideal.Gen
open Cert.Knn

variable (m : (ℓ : Loc nD τ sig) → Buf (Elt Ideal) ℓ) (c : Dev nD)

/-- The points and the centres. -/
abbrev pts : FVec Ideal S16x4096x3 .f32 := m ((c : Thread nD τ).loc main_arg0)
abbrev ctr : FVec Ideal S16x1024x3 .f32 := m ((c : Thread nD τ).loc main_arg2)

theorem idx : ∀ t : Fin (cfg0 (F := Ideal)).N, win0_0.index t = ![t.val / 4, t.val % 4, 0] ∧ win0_1.index t = ![t.val / 4, 0, 0]
    ∧ win0_2.index t = ![t.val / 4, 0, 0] ∧ win0_3.index t = ![t.val / 4, 0, 0] ∧ win0_4.index t = ![0, 0]
    ∧ win0_5.index t = ![t.val / 4, t.val % 4, 0] :=
  (by decide +kernel : ∀ t : Fin grid0.N, _)

theorem steps (t : Fin (cfg0 (F := Ideal)).N) : t.val < 64 := lt_of_lt_of_eq t.isLt (by decide)

/-- The cloud and the centre of a row of a grid point's block. -/
def cloudOf (t : Fin (cfg0 (F := Ideal)).N) : Fin 16 := ⟨t.val / 4, by have := steps t; omega⟩
def centreOf (t : Fin (cfg0 (F := Ideal)).N) (r : Fin 256) : Fin 1024 := ⟨t.val % 4 * 256 + r.val, by omega⟩

theorem centres (t : Fin (cfg0 (F := Ideal)).N) (r : Fin 256) (i : Fin 3) :
    (blk m c 0 t : FVec Ideal S1x256x3 .f32) (ix3 0 r i) = ctr m c (ix3 (cloudOf t) (centreOf t r) i) := by
  unfold blk
  refine Eq.trans ?_ (congrFun (entry_arg m main_arg2 (.inr (.inr rfl)) c) _)
  exact congrArg (entryAt m c main_arg2) (by blk_ext [idx t, cloudOf, centreOf])

/-- The arrays of the coordinates. -/
theorem entry_x (b : Fin 16) (x : Fin 4096) : (entryAt m c main_v2 : FVec Ideal S16x1x4096 .f32) (ix3 b 0 x) = pts m c (ix3 b x 0) := by
  show StableHlo.after hostOps0 (fun b => m (c, b)) (Proc.devRef .tc main_v2) (ix3 b 0 x) = _
  after_results
  pointwise
theorem entry_y (b : Fin 16) (x : Fin 4096) : (entryAt m c main_v5 : FVec Ideal S16x1x4096 .f32) (ix3 b 0 x) = pts m c (ix3 b x 1) := by
  show StableHlo.after hostOps0 (fun b => m (c, b)) (Proc.devRef .tc main_v5) (ix3 b 0 x) = _
  after_results
  pointwise
theorem entry_z (b : Fin 16) (x : Fin 4096) : (entryAt m c main_v8 : FVec Ideal S16x1x4096 .f32) (ix3 b 0 x) = pts m c (ix3 b x 2) := by
  show StableHlo.after hostOps0 (fun b => m (c, b)) (Proc.devRef .tc main_v8) (ix3 b 0 x) = _
  after_results
  pointwise
theorem entry_n (l : Fin 128) : (entryAt m c main_v10 : FVec Ideal S1x128 .f32) (ix2 0 l) = num l.val := by
  show StableHlo.after hostOps0 (fun b => m (c, b)) (Proc.devRef .tc main_v10) (ix2 0 l) = _
  after_results
  pointwise
  show ((((BitVec.ofNat 32 l.val).toInt : ℤ) : ℝ) : EReal) = (((l.val : ℕ) : ℝ) : EReal)
  rw [show (BitVec.ofNat 32 l.val).toInt = ((l.val : ℕ) : ℤ) by
    rw [BitVec.toInt_eq_toNat_of_lt (by rw [BitVec.toNat_ofNat]; omega), BitVec.toNat_ofNat]; omega]
  norm_num

theorem coords_x (t : Fin (cfg0 (F := Ideal)).N) (x : Fin 4096) :
    (blk m c 1 t : FVec Ideal S1x1x4096 .f32) (ix3 0 0 x) = pts m c (ix3 (cloudOf t) x 0) := by
  unfold blk
  rw [← entry_x m c]
  exact congrArg (entryAt m c main_v2) (by blk_ext [idx t, cloudOf])
theorem coords_y (t : Fin (cfg0 (F := Ideal)).N) (x : Fin 4096) :
    (blk m c 2 t : FVec Ideal S1x1x4096 .f32) (ix3 0 0 x) = pts m c (ix3 (cloudOf t) x 1) := by
  unfold blk
  rw [← entry_y m c]
  exact congrArg (entryAt m c main_v5) (by blk_ext [idx t, cloudOf])
theorem coords_z (t : Fin (cfg0 (F := Ideal)).N) (x : Fin 4096) :
    (blk m c 3 t : FVec Ideal S1x1x4096 .f32) (ix3 0 0 x) = pts m c (ix3 (cloudOf t) x 2) := by
  unfold blk
  rw [← entry_z m c]
  exact congrArg (entryAt m c main_v8) (by blk_ext [idx t, cloudOf])
theorem numbers (t : Fin (cfg0 (F := Ideal)).N) (l : Fin 128) :
    (blk m c 4 t : FVec Ideal S1x128 .f32) (ix2 0 l) = num l.val := by
  unfold blk
  rw [← entry_n m c]
  exact congrArg (entryAt m c main_v10) (by blk_ext [idx t])

/-- The distances of a block at an index. -/
theorem dist_apply (x0 : Vec Ideal S1x256x3 .f32) (x1 x2 x3 : Vec Ideal S1x1x4096 .f32) (r : Fin 256) (x : Fin 4096) :
    dist (F := Ideal) x0 x1 x2 x3 (ix2 r x)
      = sqd (fun i => x0 (ix3 0 r i)) (fun i => (![x1 (ix3 0 0 x), x2 (ix3 0 0 x), x3 (ix3 0 0 x)] : Fin 3 → EReal) i) := by
  pointwise [dist, cen0, cen1, cen2, row, k0_pay1, k0_pay8, k0_pay9, k0_pay10, k0_pay11, k0_pay12, k0_pay14, k0_pay15, k0_pay7]
  rfl

theorem lane_apply (x4 : Vec Ideal S1x128 .f32) (l : Fin 128) : lane (F := Ideal) x4 (ix2 0 l) = x4 (ix2 0 l) := by
  pointwise [lane, k0_pay13]

/-- A number below 4096 as a word. -/
theorem word_of_num (k : Fin 4096) : Ideal.fptosi 32 (num k.val) = BitVec.ofNat 32 k.val := by
  show BitVec.ofInt 32 (max (-((2 ^ (32 - 1) : ℕ) : ℤ)) (min (((2 ^ (32 - 1) : ℕ) : ℤ) - 1)
    (if (0 : ℝ) ≤ ((k.val : ℕ) : ℝ) then ⌊((k.val : ℕ) : ℝ)⌋ else ⌈((k.val : ℕ) : ℝ)⌉))) = _
  have hk := k.isLt
  rw [if_pos (Nat.cast_nonneg _), Int.floor_natCast, min_eq_right (by norm_num; omega), max_eq_right (by norm_num),
    BitVec.ofInt_natCast]

theorem out_apply (v : FVec Ideal S256x32 .f32) (r : Fin 256) (j : Fin 32) (k : Fin 4096) (h : v (ix2 r j) = num k.val) :
    k0_pay4 (F := Ideal) v (ix3 0 r j) = BitVec.ofNat 32 k.val := by
  rw [← word_of_num, ← h]
  pointwise [k0_pay4]
  rfl

theorem big_eq : big = ((300000000549775575777803994281145270272 : ℝ) : EReal) := by
  simp [big, Ideal.ofBits, Ideal.ieee, -EReal.coe_mul]; norm_num

section
variable (hx : ∀ i, Small (pts m c i)) (hc : ∀ i, Small (ctr m c i))
include hx hc

theorem gap_lt (b : Fin 16) (q : Fin 1024) (x : Fin 4096) : gap (pts m c) (ctr m c) b q x < big :=
  lt_of_le_of_lt (sqd_le (fun _ => hc _) (fun _ => hx _)) (by rw [big_eq, EReal.coe_lt_coe_iff]; norm_num)

/-- The result block of a grid point: the numbers of each row's nearest points. -/
theorem block (t : Fin (cfg0 (F := Ideal)).N) (r : Fin 256) (j : Fin 32) :
    (outAt m c t : IVec S1x256x32 32) (ix3 0 r j)
      = BitVec.ofNat 32 (near (gap (pts m c) (ctr m c) (cloudOf t) (centreOf t r)) j).val := by
  unfold outAt outI start
  obtain ⟨b, hb, hv⟩ := found (lane (blk m c 4 t)) (fun l => (lane_apply _ l).trans (numbers m c t l))
    (fun r => gap (pts m c) (ctr m c) (cloudOf t) (centreOf t r)) (fun r x => gap_lt m c hx hc _ _ x)
    (dist (blk m c 0 t) (blk m c 1 t) (blk m c 2 t) (blk m c 3 t)) (fun r x => by
      rw [dist_apply, coords_x, coords_y, coords_z]
      simp only [centres]
      rfl) r
  rw [← eq_near hb j]
  exact out_apply _ r j (b j) (hv j)

/-- The numbers of the nearest points. -/
def nearest : IVec S16x1024x32 32 := fun i => BitVec.ofNat 32 (near (gap (pts m c) (ctr m c) (i 0) (i 1)) (i 2)).val

/-- The region's result array. -/
theorem left5 : (dat m c).arrAt 5 (cfg0 (F := Ideal)).N = nearest m c := by
  refine (dat m c).arrAt_eq_of_covers 5 _ (by decide +kernel) fun t hf y => ?_
  blk_simp
  rw [dat_after5]
  have h := block m c hx hc t (y 1) (y 2)
  have e0 : (((cfg0 (F := Ideal)).win 5).blk t).view.emb y = ix3 (cloudOf t) (centreOf t (y 1)) (y 2) := by
    blk_ext [idx t, cloudOf, centreOf]
  have e1 : y = ix3 0 (y 1) (y 2) := by blk_ext
  refine (congrArg (outAt m c t) e1).trans (h.trans ?_)
  rw [show (win0_5.blk t).view.emb y = _ from e0]
  rfl

end

end Cert.Kernel3Ideal.Knn

end
-- ==== Proof.KnnRef.lean ====
/-
  The neighbour search's reference: its distances, the numbers its top-k returns, and its result as a function of them.
-/
module

public import proofs.«01_k».proof.Proof.KnnModel
public import proofs.«01_k».proof.Proof.Gen.Reference3Ideal.Read

@[expose] public section

set_option maxRecDepth 16384

noncomputable section

namespace Cert.Reference3Ideal.Knn

open Idealize.ShloMosaic Idealize.ShloMosaic.TcCoe Idealize.ShloMosaic.Tactic
open Cert.Reference3Ideal Cert.Reference3Ideal.Gen Cert.Reference3Ideal.Read
open Cert.Knn

variable (X : FVec Ideal S16x4096x3 .f32) (P : FVec Ideal S16x4096x64 .f32) (C : FVec Ideal S16x1024x3 .f32)

/-- The distances at an index. -/
theorem dist_apply (b : Fin 16) (q : Fin 1024) (x : Fin 4096) : val_main_v12 (F := Ideal) X C (ix3 b q x) = gap X C b q x := by
  have z : ∀ a : EReal, Ideal.ofBits .f32 0x00000000#32 + a = a := fun a => by
    rw [show Ideal.ofBits .f32 0x00000000#32 = 0 by simp [Ideal.ofBits, Ideal.ieee], zero_add]
  rw [val_main_v12_apply, val_main_v7_apply, val_main_v2_apply, val_main_v1_apply, val_main_v0_apply, val_main_v6_apply,
    val_main_v5_apply, val_main_v4_apply, val_main_v11_apply, val_main_v10_apply, val_main_v9_apply]
  simp only [Fin.sum_univ_three, val_main_v3_apply, val_main_v8_apply, val_main_cst_apply, val_main_cst_0_apply, val_main_cst_1_apply]
  show mtwo * _ + (Ideal.ofBits .f32 0x00000000#32 + _) + (Ideal.ofBits .f32 0x00000000#32 + _) = _
  rw [z, z]
  have l0 : ∀ k : Fin 3, lidx_main_v0 (ix3 b q x) k = ix3 b q k := fun k => by funext a; fin_cases a <;> rfl
  have r0 : ∀ k : Fin 3, ridx_main_v0 (ix3 b q x) k = ix3 b x k := fun k => by funext a; fin_cases a <;> rfl
  have l4 : ∀ k : Fin 3, idx_main_v4 (idx_main_v5 (idx_main_v6 (ix3 b q x))) k = ix3 b q k := fun k => by funext a; fin_cases a <;> rfl
  have r9 : ∀ k : Fin 3, idx_main_v9 (idx_main_v10 (idx_main_v11 (ix3 b q x))) k = ix3 b x k := fun k => by funext a; fin_cases a <;> rfl
  simp only [l0, r0, l4, r9]
  rfl

/-- Farther negated is nearer. -/
theorem gt_neg (a b : EReal) : (FloatOps.cmpfTotal (F := Ideal) (φ := .f32) .gt (-a) (-b) == 1#1) = decide (a < b) := by
  show (BitVec.ofBool (decide (-b < -a)) == 1#1) = decide (a < b)
  rw [show decide (-b < -a) = decide (a < b) from decide_eq_decide.2 EReal.neg_lt_neg_iff]
  cases decide (a < b) <;> rfl

/-- What a sort carries along, at an index. -/
theorem sort2_snd {α β : Type} (s : Shape) (d : ℕ) (hd : d < s.rank) (cmp : α × β → α × β → BitVec 1) (x : s.Idx → α)
    (y : s.Idx → β) (j : s.Idx) :
    (Host.sort2 s d cmp x y).2 j = y (j.along ⟨d, hd⟩ (sortedFrom (fun k k' =>
      cmp (x (j.along ⟨d, hd⟩ k), y (j.along ⟨d, hd⟩ k)) (x (j.along ⟨d, hd⟩ k'), y (j.along ⟨d, hd⟩ k')) == 1#1) (j ⟨d, hd⟩))) := by
  unfold Host.sort2
  rw [dif_pos hd]

/-- A position along the last axis. -/
def place (i : S16x1024x4096.Idx) : BitVec 32 := BitVec.ofNat 32 (i 2).val

theorem place_along (b : Fin 16) (q : Fin 1024) (j p : Fin 4096) :
    place (Shape.Idx.along (s := S16x1024x4096) (ix3 b q j) (2 : Fin 3) p) = BitVec.ofNat 32 p.val := rfl

/-- The numbers a sort along the last axis carries. -/
def carried (y : FVec Ideal S16x1024x4096 .f32) : IVec S16x1024x4096 32 :=
  (Host.sort2 S16x1024x4096 2 (fun l r => FloatOps.cmpfTotal (F := Ideal) (φ := .f32) .gt l.1 r.1) y
    place).2

theorem carried_apply (y : FVec Ideal S16x1024x4096 .f32) (b : Fin 16) (q : Fin 1024) (j : Fin 4096) :
    carried y (ix3 b q j) = BitVec.ofNat 32 (sortedFrom (fun k k' : Fin 4096 =>
      FloatOps.cmpfTotal (F := Ideal) (φ := .f32) .gt (y (ix3 b q k)) (y (ix3 b q k')) == 1#1) j).val := by
  have e : ∀ k : Fin 4096, Shape.Idx.along (s := S16x1024x4096) (ix3 b q j) (2 : Fin 3) k = ix3 b q k := fun k => by
    funext a
    fin_cases a <;> rfl
  have hs : (fun k k' : Fin 4096 => FloatOps.cmpfTotal (F := Ideal) (φ := .f32) .gt
        (y (Shape.Idx.along (s := S16x1024x4096) (ix3 b q j) (2 : Fin 3) k))
        (y (Shape.Idx.along (s := S16x1024x4096) (ix3 b q j) (2 : Fin 3) k')) == 1#1)
      = fun k k' : Fin 4096 => FloatOps.cmpfTotal (F := Ideal) (φ := .f32) .gt (y (ix3 b q k)) (y (ix3 b q k')) == 1#1 :=
    funext fun k => funext fun k' => congrArg₂ (fun u v : EReal => FloatOps.cmpfTotal (F := Ideal) (φ := .f32) .gt u v == 1#1)
      (congrArg y (e k)) (congrArg y (e k'))
  have hd : 2 < S16x1024x4096.rank := by exact (by decide : 2 < 3)
  refine (sort2_snd S16x1024x4096 2 hd _ y _ (ix3 b q j)).trans ?_
  refine Eq.trans (b := place (Shape.Idx.along (s := S16x1024x4096) (ix3 b q j) (2 : Fin 3) (sortedFrom _ j))) ?_ (place_along b q j _)
  exact congrArg (fun B : Fin 4096 → Fin 4096 → Bool =>
    place (Shape.Idx.along (s := S16x1024x4096) (ix3 b q j) (2 : Fin 3) (sortedFrom B j))) hs

/-- The numbers of a top-k along the last axis. -/
theorem topK_apply (y : FVec Ideal S16x1024x4096 .f32) (b : Fin 16) (q : Fin 1024) (j : Fin 32)
    (h : S16x1024x4096.Slices (fun _ => 0) S16x1024x32) :
    (Host.topK S16x1024x32 2 (FloatOps.cmpfTotal (F := Ideal) (φ := .f32) .gt) y h).2 (ix3 b q j)
      = BitVec.ofNat 32 (sortedFrom (fun k k' : Fin 4096 =>
          FloatOps.cmpfTotal (F := Ideal) (φ := .f32) .gt (y (ix3 b q k)) (y (ix3 b q k')) == 1#1) (j.castLE (by decide))).val := by
  refine Eq.trans ?_ (carried_apply y b q (j.castLE (by decide)))
  change extractStridedSlice S16x1024x32 (fun _ => 0) (carried y) h (ix3 b q j) = _
  unfold extractStridedSlice
  refine congrArg (carried y) ?_
  funext a
  apply Fin.ext
  fin_cases a <;> exact Nat.zero_add _

/-- The numbers of each centre's 32 nearest points. -/
theorem indices_eq : (val_main_indices (F := Ideal) X C : IVec S16x1024x32 32)
    = fun i => BitVec.ofNat 32 (near (gap X C (i 0) (i 1)) (i 2)).val := by
  funext i
  obtain ⟨b, q, j, rfl⟩ : ∃ (b : Fin 16) (q : Fin 1024) (j : Fin 32), i = ix3 b q j :=
    ⟨i 0, i 1, i 2, by funext x; fin_cases x <;> rfl⟩
  have e : ∀ k : Fin 4096, (val_main_v13 (F := Ideal) X C) (ix3 b q k) = -gap X C b q k := fun k => by
    rw [val_main_v13_apply, dist_apply]; rfl
  unfold val_main_indices
  generalize val_main_v13 (F := Ideal) X C = y at e
  refine (topK_apply y b q j _).trans (congrArg (fun n : Fin 4096 => BitVec.ofNat 32 n.val) ?_)
  simp only [e, gt_neg]
  rfl

end Cert.Reference3Ideal.Knn

end
-- ==== Proof.KnnValue.lean ====
/-
  The neighbour search's result is its reference's: both gather at the same numbers.
-/
module

public import proofs.«01_k».proof.Defs
public import proofs.«01_k».proof.Proof.KnnKernel
public import proofs.«01_k».proof.Proof.KnnRef
public import proofs.«01_k».proof.Proof.Gen.Pre_bounded

@[expose] public section

set_option maxRecDepth 16384

noncomputable section

namespace Cert.Knn

open Idealize.ShloMosaic Idealize.ShloMosaic.TcCoe Idealize.ShloMosaic.Tactic
open Cert.Reference3Ideal Cert.Reference3Ideal.Gen Cert.Reference3Ideal.Read

/-- Numbers as the gathers take them: one below zero counts from the end. -/
def starts (I : IVec S16x1024x32 32) : IVec S16x1024x32x1 32 :=
  broadcastInDim S16x1024x32x1 ![0, 1, 2] bcast_S16x1024x32_S16x1024x32x1_0_1_2
    (select (cmpi .slt I (broadcastInDim S16x1024x32 ![] bcast_S_S16x1024x32 (constantI S_ 32 0#32)))
      (addi I (broadcastInDim S16x1024x32 ![] bcast_S_S16x1024x32 (constantI S_ 32 4096#32))) I)

/-- The result made of the numbers: the points' coordinates less the centre's, then their features. -/
def grouped (X : FVec Ideal S16x4096x3 .f32) (P : FVec Ideal S16x4096x64 .f32) (C : FVec Ideal S16x1024x3 .f32)
    (I : IVec S16x1024x32 32) : FVec Ideal S16x1024x32x67 .f32 :=
  concatenate S16x1024x32x67 3
    [⟨S16x1024x32x3, subf (Host.gather gather_S16x4096x3_S16x1024x32x1_S16x1024x32x3_3_1_0_0_1_3_113 X (starts I))
      (broadcastInDim S16x1024x32x3 ![0, 1, 2, 3] bcast_S16x1024x1x3_S16x1024x32x3_0_1_2_3
        (broadcastInDim S16x1024x1x3 ![0, 1, 3] bcast_S16x1024x3_S16x1024x1x3_0_1_3 C))⟩,
     ⟨S16x1024x32x64, Host.gather gather_S16x4096x64_S16x1024x32x1_S16x1024x32x64_3_1_0_0_1_3_1164 P (starts I)⟩]
    concatenates_S16x1024x32x3_S16x1024x32x64_S16x1024x32x67_d3

theorem ref_grouped (X : FVec Ideal S16x4096x3 .f32) (P : FVec Ideal S16x4096x64 .f32) (C : FVec Ideal S16x1024x3 .f32) :
    val_main_v31 (F := Ideal) X P C = grouped X P C (val_main_indices (F := Ideal) X C) := rfl

/-- The kernel's last operations make the same of the region's numbers. -/
theorem tail_grouped (W : Valuation Cert.Kernel3Ideal.τ Cert.Kernel3Ideal.sig (Elt Ideal)) :
    (StableHlo.after Cert.Kernel3Ideal.Gen.hostOps1 W (Proc.devRef .tc Cert.Kernel3Ideal.main_v29) : FVec Ideal S16x1024x32x67 .f32)
      = grouped (W (Proc.devRef .tc Cert.Kernel3Ideal.main_arg0)) (W (Proc.devRef .tc Cert.Kernel3Ideal.main_arg1))
        (W (Proc.devRef .tc Cert.Kernel3Ideal.main_arg2)) (W (Proc.devRef .tc Cert.Kernel3Ideal.main_v11)) := by
  after_results
  rfl

section
open Cert.Kernel3Ideal Cert.Kernel3Ideal.Gen Cert.Kernel3Ideal.Knn

variable (m : (ℓ : Loc Cert.Kernel3Ideal.nD Cert.Kernel3Ideal.τ Cert.Kernel3Ideal.sig) → Buf (Elt Ideal) ℓ)
  (c : Dev Cert.Kernel3Ideal.nD)

/-- The features. -/
abbrev feats : FVec Ideal Cert.Kernel3Ideal.S16x4096x64 .f32 :=
  m ((c : Thread Cert.Kernel3Ideal.nD Cert.Kernel3Ideal.τ).loc Cert.Kernel3Ideal.main_arg1)

/-- Coordinates the precondition bounds. -/
theorem small_of_pre (h : Cert.Pre_Kernel3Ideal_bounded m) : (∀ i, Small (pts m c i)) ∧ ∀ i, Small (ctr m c i) := by
  obtain ⟨h0, h2⟩ := h c
  exact ⟨fun i => small_of_abs (congrFun h0 i), fun i => small_of_abs (congrFun h2 i)⟩

theorem arrays_inj : Function.Injective (Pipeline.arrRef Cert.Kernel3Ideal.spec0) := by decide

/-- The kernel's result. -/
theorem kernel_grouped (h : Cert.Pre_Kernel3Ideal_bounded m) :
    (Pipeline.afterTail₀ Cert.Kernel3Ideal.cfgs (dats m) 0 (entry m) [Cert.Kernel3Ideal.Gen.hostOps1] c Cert.Kernel3Ideal.main_v29 :
        FVec Ideal Cert.Kernel3Ideal.S16x1024x32x67 .f32)
      = grouped (pts m c) (feats m c) (ctr m c) (nearest m c) := by
  obtain ⟨hx, hc⟩ := small_of_pre m c h
  refine (tail_grouped (Pipeline.withArrays Cert.Kernel3Ideal.spec0 c (entry m c)
    fun w => (dat m c).arrAt w (Cert.Kernel3Ideal.cfg0 (F := Ideal)).N)).trans ?_
  rw [Pipeline.withArrays_of_ne _ c (entry m c) _ Cert.Kernel3Ideal.main_arg0 (by exact (by decide : ∀ w, Pipeline.arrRef Cert.Kernel3Ideal.spec0 w ≠ Cert.Kernel3Ideal.main_arg0)),
    Pipeline.withArrays_of_ne _ c (entry m c) _ Cert.Kernel3Ideal.main_arg1 (by exact (by decide : ∀ w, Pipeline.arrRef Cert.Kernel3Ideal.spec0 w ≠ Cert.Kernel3Ideal.main_arg1))]
  refine congr (congr (congr (congrArg grouped ?_) ?_) ?_) ?_
  · exact entry_arg m Cert.Kernel3Ideal.main_arg0 (.inl rfl) c
  · exact entry_arg m Cert.Kernel3Ideal.main_arg1 (.inr (.inl rfl)) c
  · exact (Pipeline.withArrays_arr Cert.Kernel3Ideal.spec0 arrays_inj c (entry m c) _ (0 : Fin 6)).trans
      (((dat m c).arrAt_in (0 : Fin 6) rfl _).trans (entry_arg m Cert.Kernel3Ideal.main_arg2 (.inr (.inr rfl)) c))
  · exact (Pipeline.withArrays_arr Cert.Kernel3Ideal.spec0 arrays_inj c (entry m c) _ (5 : Fin 6)).trans (left5 m c hx hc)

/-- Both results are made of the same numbers. -/
theorem neighbours_eq (h : Cert.Pre_Kernel3Ideal_bounded m) :
    (val_main_v31 (F := Ideal) (pts m c) (feats m c) (ctr m c) : FVec Ideal Cert.Kernel3Ideal.S16x1024x32x67 .f32)
      = Pipeline.afterTail₀ Cert.Kernel3Ideal.cfgs (dats m) 0 (entry m) [Cert.Kernel3Ideal.Gen.hostOps1] c Cert.Kernel3Ideal.main_v29 := by
  rw [kernel_grouped m c h, ref_grouped]
  exact congrArg (grouped (pts m c) (feats m c) (ctr m c)) (Cert.Reference3Ideal.Knn.indices_eq (pts m c) (ctr m c))

end

end Cert.Knn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Step
public import proofs.«01_k».proof.Proof.Gen.Reference2Ideal.StepRun
public import proofs.«01_k».proof.Proof.Gen.Kernel3
public import proofs.«01_k».proof.Proof.Gen.Kernel3Ideal
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_bounded
public import proofs.«01_k».proof.Proof.Run
public import proofs.«01_k».proof.Proof.Value
public import proofs.«01_k».proof.Proof.FpsRun
public import proofs.«01_k».proof.Proof.FpsValue
public import proofs.«01_k».proof.Proof.KnnRun
public import proofs.«01_k».proof.Proof.KnnRunIdeal
public import proofs.«01_k».proof.Proof.KnnValue
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference terminates without fault and leaves its arguments and the semaphores alone. -/
theorem reference_frame : Cert.quiescent_ReferenceIdeal (hReferenceIdeal := Cert.ReferenceIdeal.Gen.facts) := by
  intro m g _
  exact (θ_run _ _ _).mono (fun r h => ⟨fun c => (h c).2, sem_eq_zero_of_no_sems (by decide) r.2⟩) (Cert.ReferenceIdeal.Value.run (F := Ideal) m g)

/-- The kernel's and the reference's results are equal over finite arguments. -/
theorem value : Cert.algebraic_KernelIdeal_ReferenceIdeal_pre_finite
    (hKernelIdeal := Cert.KernelIdeal.Gen.facts) (hReferenceIdeal := Cert.ReferenceIdeal.Gen.facts) (hPre_finite := Cert.Pre_finite.Gen.facts) := by
  intro m g m' g' hpre hargs
  refine ⟨fun c => Cert.KernelIdeal.Chain.result m c, ?_, ?_⟩
  · refine (θ_run _ _ _).mono (fun _ h c => ?_) (Cert.KernelIdeal.Whole.run_result m g)
    exact ⟨(h c).1.trans (Cert.KernelIdeal.Chain.result_eq m g c), (h c).2⟩
  · refine (θ_run _ _ _).mono (fun _ h c => ?_) (Cert.ReferenceIdeal.Value.run m' g')
    refine ⟨(h c).1.trans ((Cert.ReferenceIdeal.Read.val_main_v69_eq _).trans ?_), (h c).2⟩
    refine Eq.trans ?_ (Cert.Equation.result_ref m c (Cert.Finite.args_of_pre m c hpre)).symm
    obtain ⟨h0, h1, h2, h3, h4, h5, h6, h7, h8, h9, h10, h11, h12⟩ := hargs c
    show Cert.ReferenceIdeal.Read.val_main_v69 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) = _
    rw [h0, h1, h2, h3, h4, h5, h6, h7, h8, h9, h10, h11, h12]

/-- The sampling reference terminates without fault and leaves its argument and the semaphores alone. -/
theorem sampling_frame : Cert.quiescent_Reference2Ideal (hReference2Ideal := Cert.Reference2Ideal.Gen.facts) := by
  intro m g _
  exact (θ_run _ _ _).mono (fun r h => ⟨fun c => (h c).2, sem_eq_zero_of_no_sems (by decide) r.2⟩) (Cert.Reference2Ideal.Value.run (F := Ideal) m g)

/-- The sampling kernel's and its reference's results are equal. -/
theorem sampling_value : Cert.algebraic_Kernel2Ideal_Reference2Ideal
    (hKernel2Ideal := Cert.Kernel2Ideal.Gen.facts) (hReference2Ideal := Cert.Reference2Ideal.Gen.facts) := by
  intro m g m' g' _ hargs
  refine ⟨_, Cert.Kernel2Ideal.Fps.run_result m g, ?_⟩
  refine (θ_run _ _ _).mono (fun _ h c => ⟨(h c).1.trans ?_, (h c).2⟩) (Cert.Reference2Ideal.StepRun.run_iter m' g'
    (fun c => Cert.Reference2Ideal.Fps.stateAt (m' ((c.tc : Thread Cert.Reference2Ideal.nD Cert.Reference2Ideal.τ).loc Cert.Reference2Ideal.main_arg0)))
    (fun c => rfl) (fun c n => rfl))
  refine Eq.trans ?_ (Cert.Fps.results_eq m c)
  rw [hargs c]

/-- The neighbour search's reference terminates without fault and leaves its arguments and the semaphores alone. -/
theorem neighbour_frame : Cert.quiescent_Reference3Ideal (hReference3Ideal := Cert.Reference3Ideal.Gen.facts) := by
  intro m g _
  exact (θ_run _ _ _).mono (fun r h => ⟨fun c => (h c).2, sem_eq_zero_of_no_sems (by decide) r.2⟩) (Cert.Reference3Ideal.Value.run (F := Ideal) m g)

/-- The neighbour search's and its reference's results are equal over bounded coordinates. -/
theorem neighbour_value : Cert.algebraic_Kernel3Ideal_Reference3Ideal_pre_bounded
    (hKernel3Ideal := Cert.Kernel3Ideal.Gen.facts) (hReference3Ideal := Cert.Reference3Ideal.Gen.facts)
    (hPre_bounded := Cert.Pre_bounded.Gen.facts) := by
  intro m g m' g' hpre hargs
  refine ⟨_, Cert.Kernel3Ideal.Knn.run_result m g, ?_⟩
  refine (θ_run _ _ _).mono (fun _ h c => ?_) (Cert.Reference3Ideal.Value.run m' g')
  refine ⟨(h c).1.trans ((Cert.Reference3Ideal.Read.val_main_v31_eq m' c).trans ?_), (h c).2⟩
  refine Eq.trans ?_ (Cert.Knn.neighbours_eq m c hpre)
  obtain ⟨h0, h1, h2⟩ := hargs c
  rw [h0, h1, h2]

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Pre_finite.Gen.facts, Cert.Pre_bounded.Gen.facts,
    fun m ρ _ => Cert.Kernel.Gen.frame m ρ,
    fun m ρ _ => Cert.KernelIdeal.Gen.frame m ρ,
    fun m ρ _ => Cert.KernelIdeal.Gen.frame m ρ,
    reference_frame, fun m ρ _ => reference_frame m ρ trivial,
    fun m ρ _ => Cert.Kernel2.Fps.frame_sem m ρ,
    fun m ρ _ => Cert.Kernel2Ideal.Fps.frame_sem m ρ,
    sampling_frame,
    fun m ρ _ => Cert.Kernel3.Knn.frame_sem m ρ,
    fun m ρ _ => Cert.Kernel3Ideal.Knn.frame_sem m ρ,
    fun m ρ _ => Cert.Kernel3Ideal.Knn.frame_sem m ρ,
    neighbour_frame, fun m ρ _ => neighbour_frame m ρ trivial,
    trivial, value, trivial, sampling_value, trivial, neighbour_value⟩

end Cert.Proof

end
